-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_experts6 : Cert.Pre_experts6.Facts] (m : (ℓ : Loc Cert.Kernel6.nD Cert.Kernel6.τ Cert.Kernel6.sig) → Buf (Elt Bits) ℓ) : Prop :=
  ∀ c : Dev Cert.Kernel6.nD,
    (Cert.Pre_experts6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4))) = (fun _ => 1#1)

def Pre_Kernel6Ideal [hPre_experts6 : Cert.Pre_experts6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_experts6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal [hPre_experts6 : Cert.Pre_experts6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_experts6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 [hPre_experts7 : Cert.Pre_experts7.Facts] (m : (ℓ : Loc Cert.Kernel7.nD Cert.Kernel7.τ Cert.Kernel7.sig) → Buf (Elt Bits) ℓ) : Prop :=
  ∀ c : Dev Cert.Kernel7.nD,
    (Cert.Pre_experts7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3))) = (fun _ => 1#1)

def Pre_Kernel7Ideal [hPre_experts7 : Cert.Pre_experts7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_experts7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal [hPre_experts7 : Cert.Pre_experts7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_experts7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] [hPre_experts6 : Cert.Pre_experts6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_experts6 : Cert.Pre_experts6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] [hPre_experts6 : Cert.Pre_experts6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] [hPre_experts7 : Cert.Pre_experts7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] [hPre_experts7 : Cert.Pre_experts7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] [hPre_experts7 : Cert.Pre_experts7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] [hPre_experts6 : Cert.Pre_experts6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v178) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] [hPre_experts7 : Cert.Pre_experts7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v145) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_gains : Cert.Pre_finite_gains.Facts) (hPre_experts6 : Cert.Pre_experts6.Facts) (hPre_experts7 : Cert.Pre_experts7.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_experts6 := hPre_experts6)
    ∧ quiescent_Kernel6Ideal (hKernel6Ideal := hKernel6Ideal) (hPre_experts6 := hPre_experts6)
    ∧ quiescent_Reference6Ideal (hReference6Ideal := hReference6Ideal) (hPre_experts6 := hPre_experts6)
    ∧ quiescent_Kernel7 (hKernel7 := hKernel7) (hPre_experts7 := hPre_experts7)
    ∧ quiescent_Kernel7Ideal (hKernel7Ideal := hKernel7Ideal) (hPre_experts7 := hPre_experts7)
    ∧ quiescent_Reference7Ideal (hReference7Ideal := hReference7Ideal) (hPre_experts7 := hPre_experts7)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_experts6 := hPre_experts6)
    ∧ preserves_Kernel7_Kernel7Ideal
    ∧ algebraic_Kernel7Ideal_Reference7Ideal (hKernel7Ideal := hKernel7Ideal) (hReference7Ideal := hReference7Ideal) (hPre_experts7 := hPre_experts7)
-- ==== Pre_experts6.lean ====
abbrev S40 : Shape := ⟨1, ![40]⟩
abbrev S1 : Shape := ⟨1, ![1]⟩
abbrev S20480x4096 : Shape := ⟨2, ![20480, 4096]⟩
abbrev S2x8x4096x2048 : Shape := ⟨4, ![2, 8, 4096, 2048]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : IVec S40 32) (main_arg1 : IVec S1 32) (main_arg2 : FVec F S20480x4096 .bf16) (main_arg3 : FVec F S2x8x4096x2048 .f32) (main_arg4 : FVec F S2x8x4096x2048 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_experts7.lean ====
abbrev S40 : Shape := ⟨1, ![40]⟩
abbrev S1 : Shape := ⟨1, ![1]⟩
abbrev S20480x2048 : Shape := ⟨2, ![20480, 2048]⟩
abbrev S2x8x2048x4096 : Shape := ⟨4, ![2, 8, 2048, 4096]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : IVec S40 32) (main_arg1 : IVec S1 32) (main_arg2 : FVec F S20480x2048 .bf16) (main_arg3 : FVec F S2x8x2048x4096 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_finite_gains.lean ====
abbrev S8192x9216 : Shape := ⟨2, ![8192, 9216]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S8192x9216 .f32) (main_arg1 : FVec F S128 .f32) (main_arg2 : FVec F S128 .f32) : IVec S_ 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S8192x9216 : Shape := ⟨2, ![8192, 9216]⟩
abbrev S128 : Shape := ⟨1, ![128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S32 : Shape := ⟨1, ![32]⟩
abbrev S1x32 : Shape := ⟨2, ![1, 32]⟩
abbrev S2048x32 : Shape := ⟨2, ![2048, 32]⟩
abbrev S1x128 : Shape := ⟨2, ![1, 128]⟩
abbrev S8192x1024 : Shape := ⟨2, ![8192, 1024]⟩
abbrev S1024x512 : Shape := ⟨2, ![1024, 512]⟩
abbrev S2048x256 : Shape := ⟨2, ![2048, 256]⟩
abbrev S512x128 : Shape := ⟨2, ![512, 128]⟩
abbrev S512 : Shape := ⟨1, ![512]⟩
abbrev S512x1 : Shape := ⟨2, ![512, 1]⟩
abbrev S128x128 : Shape := ⟨2, ![128, 128]⟩
abbrev S128x1 : Shape := ⟨2, ![128, 1]⟩
abbrev S128x2048 : Shape := ⟨2, ![128, 2048]⟩
abbrev S128x256 : Shape := ⟨2, ![128, 256]⟩

abbrev nBuf : Space → Nat
  | .hbm => 123
  | .vmem => 14
  | .smem => 0
  | _ => 0

abbrev bufTy : (tb : Table) → Fin (tcTables nBuf tb) → BufTy
  | .hbm, ⟨0, _⟩ => ⟨S8192x9216, .f32⟩
  | .hbm, ⟨1, _⟩ => ⟨S128, .f32⟩
  | .hbm, ⟨2, _⟩ => ⟨S128, .f32⟩
  | .hbm, ⟨3, _⟩ => ⟨S2048, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S_, .i32⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S2048, .f32⟩
  | .hbm, ⟨50, _⟩ => ⟨S2048x1, .f32⟩
  | .hbm, ⟨51, _⟩ => ⟨S1x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x32, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S_, .i32⟩
  | .hbm, ⟨66, _⟩ => ⟨S2048, .i32⟩
  | .hbm, ⟨67, _⟩ => ⟨S2048, .i1⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S_, .i32⟩
  | .hbm, ⟨72, _⟩ => ⟨S_, .i1⟩
  | .hbm, ⟨73, _⟩ => ⟨S2048, .i1⟩
  | .hbm, ⟨74, _⟩ => ⟨S2048, .i1⟩
  | .hbm, ⟨75, _⟩ => ⟨S2048, .i1⟩
  | .hbm, ⟨76, _⟩ => ⟨S2048, .i32⟩
  | .hbm, ⟨77, _⟩ => ⟨S2048, .i32⟩
  | .hbm, ⟨78, _⟩ => ⟨S2048, .i32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S2048, .f32⟩
  | .hbm, ⟨88, _⟩ => ⟨S2048x1, .f32⟩
  | .hbm, ⟨89, _⟩ => ⟨S1x32, .f32⟩
  | .hbm, ⟨90, _⟩ => ⟨S2048x32, .f32⟩
  | .hbm, ⟨91, _⟩ => ⟨S2048x32, .f32⟩
  | .hbm, ⟨92, _⟩ => ⟨S2048x32, .f32⟩
  | .hbm, ⟨93, _⟩ => ⟨S2048x32, .f32⟩
  | .hbm, ⟨94, _⟩ => ⟨S2048x32, .f32⟩
  | .hbm, ⟨95, _⟩ => ⟨S2048x128, .f32⟩
  | .hbm, ⟨96, _⟩ => ⟨S2048x32, .f32⟩
  | .hbm, ⟨97, _⟩ => ⟨S2048x32, .f32⟩
  | .hbm, ⟨98, _⟩ => ⟨S2048x128, .f32⟩
  | .hbm, ⟨99, _⟩ => ⟨S32, .f32⟩
  | .hbm, ⟨100, _⟩ => ⟨S32, .f32⟩
  | .hbm, ⟨101, _⟩ => ⟨S_, .f32⟩
  | .hbm, ⟨102, _⟩ => ⟨S32, .f32⟩
  | .hbm, ⟨103, _⟩ => ⟨S32, .f32⟩
  | .hbm, ⟨104, _⟩ => ⟨S_, .f32⟩
  | .hbm, ⟨105, _⟩ => ⟨S32, .f32⟩
  | .hbm, ⟨106, _⟩ => ⟨S32, .f32⟩
  | .hbm, ⟨107, _⟩ => ⟨S2048, .f32⟩
  | .hbm, ⟨108, _⟩ => ⟨S2048x1, .f32⟩
  | .hbm, ⟨109, _⟩ => ⟨S1x32, .f32⟩
  | .hbm, ⟨110, _⟩ => ⟨S2048x32, .f32⟩
  | .hbm, ⟨111, _⟩ => ⟨S2048x32, .f32⟩
  | .hbm, ⟨112, _⟩ => ⟨S2048x32, .f32⟩
  | .hbm, ⟨113, _⟩ => ⟨S2048x32, .f32⟩
  | .hbm, ⟨114, _⟩ => ⟨S2048x32, .f32⟩
  | .hbm, ⟨115, _⟩ => ⟨S_, .f32⟩
  | .hbm, ⟨116, _⟩ => ⟨S2048x64, .f32⟩
  | .hbm, ⟨117, _⟩ => ⟨S2048x128, .f32⟩
  | .hbm, ⟨118, _⟩ => ⟨S2048x32, .f32⟩
  | .hbm, ⟨119, _⟩ => ⟨S2048x128, .f32⟩
  | .hbm, ⟨120, _⟩ => ⟨S1x128, .f32⟩
  | .hbm, ⟨121, _⟩ => ⟨S1x128, .f32⟩
  | .hbm, ⟨122, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | .local _ .vmem, ⟨10, _⟩ => ⟨S1024x512, .f32⟩
  | .local _ .vmem, ⟨11, _⟩ => ⟨S1024x512, .f32⟩
  | .local _ .vmem, ⟨12, _⟩ => ⟨S2048x128, .bf16⟩
  | .local _ .vmem, ⟨13, _⟩ => ⟨S2048x256, .bf16⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_3 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_v5 : Ref sig .tc := ⟨.hbm, 66, rfl⟩
abbrev main_call1_v6 : Ref sig .tc := ⟨.hbm, 67, rfl⟩
abbrev main_call1_c_2 : Ref sig .tc := ⟨.hbm, 68, rfl⟩
abbrev main_call1_v7 : Ref sig .tc := ⟨.hbm, 69, rfl⟩
abbrev main_call1_v8 : Ref sig .tc := ⟨.hbm, 70, rfl⟩
abbrev main_call1_c_3 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_4 : Ref sig .tc := ⟨.hbm, 81, rfl⟩
abbrev main_v36 : Ref sig .tc := ⟨.hbm, 82, rfl⟩
abbrev main_v37 : Ref sig .tc := ⟨.hbm, 83, rfl⟩
abbrev main_cst_5 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_6 : Ref sig .tc := ⟨.hbm, 101, rfl⟩
abbrev main_v54 : Ref sig .tc := ⟨.hbm, 102, rfl⟩
abbrev main_v55 : Ref sig .tc := ⟨.hbm, 103, rfl⟩
abbrev main_cst_7 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_8 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 2, 2], ![false, false, false]⟩

def k0_mult1 (i : grid0.Coords) : BitVec 32 :=
  let arg2 : BitVec 32 := BitVec.ofNat 32 (i 2).val
  let c1024_i32 : BitVec 32 := 1024#32
  let v5 : BitVec 32 := Scalar.muli arg2 c1024_i32
  v5
def k0_off1 (i : grid0.Coords) (c0_i32_6 : BitVec 32) : Fin 2 → Nat :=
  let arg2 : BitVec 32 := BitVec.ofNat 32 (i 2).val
  let c1024_i32 : BitVec 32 := 1024#32
  let v5 : BitVec 32 := Scalar.muli arg2 c1024_i32
  let v6 : BitVec 32 := v5
  let v9 : BitVec 32 := Scalar.addi v6 c0_i32_6
  let v10 : Index := Scalar.indexCast v9
  let c0_7 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c32_i32 : BitVec 32 := 32#32
  let v1 : BitVec 32 := Scalar.addi c32_i32 v0
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S8192x9216 : Shape := ⟨2, ![8192, 9216]⟩
abbrev S128 : Shape := ⟨1, ![128]⟩
abbrev S4x2048x9216 : Shape := ⟨3, ![4, 2048, 9216]⟩
abbrev S2048 : Shape := ⟨1, ![2048]⟩
abbrev S4x2048x1024 : Shape := ⟨3, ![4, 2048, 1024]⟩
abbrev S4x2048x8x128 : Shape := ⟨4, ![4, 2048, 8, 128]⟩
abbrev S4x8x2048x128 : Shape := ⟨4, ![4, 8, 2048, 128]⟩
abbrev S_ : Shape := ⟨0, ![]⟩
abbrev S4x8x2048 : Shape := ⟨3, ![4, 8, 2048]⟩
abbrev S4x8x2048x1 : Shape := ⟨4, ![4, 8, 2048, 1]⟩
abbrev S1x1x1x128 : Shape := ⟨4, ![1, 1, 1, 128]⟩
abbrev S4x8x2048x64 : Shape := ⟨4, ![4, 8, 2048, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S4x8x2048x32 : Shape := ⟨4, ![4, 8, 2048, 32]⟩
abbrev S1x1x2048x32 : Shape := ⟨4, ![1, 1, 2048, 32]⟩
abbrev S4x2048x256 : Shape := ⟨3, ![4, 2048, 256]⟩
abbrev S4x2048x2x128 : Shape := ⟨4, ![4, 2048, 2, 128]⟩
abbrev S4x2x2048x128 : Shape := ⟨4, ![4, 2, 2048, 128]⟩
abbrev S4x2x2048 : Shape := ⟨3, ![4, 2, 2048]⟩
abbrev S4x2x2048x1 : Shape := ⟨4, ![4, 2, 2048, 1]⟩
abbrev S4x2x2048x64 : Shape := ⟨4, ![4, 2, 2048, 64]⟩
abbrev S4x2x2048x32 : Shape := ⟨4, ![4, 2, 2048, 32]⟩
abbrev S4x2x4x2048x128 : Shape := ⟨5, ![4, 2, 4, 2048, 128]⟩
abbrev S4x2x4x2048x2048 : Shape := ⟨5, ![4, 2, 4, 2048, 2048]⟩
abbrev S4x2x4x2048 : Shape := ⟨4, ![4, 2, 4, 2048]⟩
abbrev S4x2x4x2048x1 : Shape := ⟨5, ![4, 2, 4, 2048, 1]⟩
abbrev S8192x1024 : Shape := ⟨2, ![8192, 1024]⟩

abbrev nBuf : Space → Nat
  | .hbm => 287
  | .vmem => 0
  | .smem => 0
  | _ => 0

abbrev hbmTy0_0 (i : Nat) : BufTy := match i % 128 with
  | 0 => ⟨S8192x9216, .f32⟩
  | 1 => ⟨S128, .f32⟩
  | 2 => ⟨S128, .f32⟩
  | 3 => ⟨S4x2048x9216, .f32⟩
  | 4 => ⟨S2048, .i32⟩
  | 5 => ⟨S4x2048x1024, .f32⟩
  | 6 => ⟨S4x2048x8x128, .f32⟩
  | 7 => ⟨S4x8x2048x128, .f32⟩
  | 8 => ⟨S4x8x2048x128, .f32⟩
  | 9 => ⟨S_, .f32⟩
  | 10 => ⟨S4x8x2048, .f32⟩
  | 11 => ⟨S4x8x2048x1, .f32⟩
  | 12 => ⟨S_, .f32⟩
  | 13 => ⟨S4x8x2048x1, .f32⟩
  | 14 => ⟨S4x8x2048x1, .f32⟩
  | 15 => ⟨S_, .f32⟩
  | 16 => ⟨S4x8x2048x1, .f32⟩
  | 17 => ⟨S4x8x2048x1, .f32⟩
  | 18 => ⟨S4x8x2048x1, .f32⟩
  | 19 => ⟨S4x8x2048x128, .f32⟩
  | 20 => ⟨S4x8x2048x128, .f32⟩
  | 21 => ⟨S1x1x1x128, .f32⟩
  | 22 => ⟨S4x8x2048x128, .f32⟩
  | 23 => ⟨S4x8x2048x128, .f32⟩
  | 24 => ⟨S4x8x2048x64, .f32⟩
  | 25 => ⟨S_, .i32⟩
  | 26 => ⟨S_, .i32⟩
  | 27 => ⟨S2048, .i32⟩
  | 28 => ⟨S2048, .i32⟩
  | 29 => ⟨S2048, .i32⟩
  | 30 => ⟨S_, .i32⟩
  | 31 => ⟨S2048, .i32⟩
  | 32 => ⟨S2048, .i1⟩
  | 33 => ⟨S2048, .i32⟩
  | 34 => ⟨S2048, .i32⟩
  | 35 => ⟨S_, .i32⟩
  | 36 => ⟨S2048, .i32⟩
  | 37 => ⟨S2048, .i1⟩
  | 38 => ⟨S2048, .i1⟩
  | 39 => ⟨S_, .i32⟩
  | 40 => ⟨S2048, .i32⟩
  | 41 => ⟨S2048, .i32⟩
  | 42 => ⟨S2048, .i32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S2048, .f32⟩
  | 52 => ⟨S2048x1, .f32⟩
  | 53 => ⟨S1x32, .f32⟩
  | 54 => ⟨S2048x32, .f32⟩
  | 55 => ⟨S2048x32, .f32⟩
  | 56 => ⟨S2048x32, .f32⟩
  | 57 => ⟨S2048x32, .f32⟩
  | 58 => ⟨S2048x32, .f32⟩
  | 59 => ⟨S4x8x2048x32, .f32⟩
  | 60 => ⟨S4x8x2048x32, .f32⟩
  | 61 => ⟨S1x1x2048x32, .f32⟩
  | 62 => ⟨S4x8x2048x32, .f32⟩
  | 63 => ⟨S4x8x2048x32, .f32⟩
  | 64 => ⟨S1x1x2048x32, .f32⟩
  | 65 => ⟨S4x8x2048x32, .f32⟩
  | 66 => ⟨S4x8x2048x32, .f32⟩
  | 67 => ⟨S4x8x2048x32, .f32⟩
  | 68 => ⟨S1x1x2048x32, .f32⟩
  | 69 => ⟨S4x8x2048x32, .f32⟩
  | 70 => ⟨S4x8x2048x32, .f32⟩
  | 71 => ⟨S1x1x2048x32, .f32⟩
  | 72 => ⟨S4x8x2048x32, .f32⟩
  | 73 => ⟨S4x8x2048x32, .f32⟩
  | 74 => ⟨S4x8x2048x32, .f32⟩
  | 75 => ⟨S4x8x2048x64, .f32⟩
  | 76 => ⟨S4x8x2048x64, .f32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S2048, .i32⟩
  | 84 => ⟨S2048, .i32⟩
  | 85 => ⟨S_, .i32⟩
  | 86 => ⟨S2048, .i32⟩
  | 87 => ⟨S2048, .i1⟩
  | 88 => ⟨S_, .i32⟩
  | 89 => ⟨S2048, .i32⟩
  | 90 => ⟨S2048, .i1⟩
  | 91 => ⟨S_, .i32⟩
  | 92 => ⟨S_, .i1⟩
  | 93 => ⟨S2048, .i1⟩
  | 94 => ⟨S2048, .i1⟩
  | 95 => ⟨S2048, .i1⟩
  | 96 => ⟨S2048, .i32⟩
  | 97 => ⟨S2048, .i32⟩
  | 98 => ⟨S2048, .i32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S2048, .f32⟩
  | 108 => ⟨S2048x1, .f32⟩
  | 109 => ⟨S1x32, .f32⟩
  | 110 => ⟨S2048x32, .f32⟩
  | 111 => ⟨S2048x32, .f32⟩
  | 112 => ⟨S2048x32, .f32⟩
  | 113 => ⟨S2048x32, .f32⟩
  | 114 => ⟨S2048x32, .f32⟩
  | 115 => ⟨S4x8x2048x32, .f32⟩
  | 116 => ⟨S4x8x2048x32, .f32⟩
  | 117 => ⟨S1x1x2048x32, .f32⟩
  | 118 => ⟨S4x8x2048x32, .f32⟩
  | 119 => ⟨S4x8x2048x32, .f32⟩
  | 120 => ⟨S1x1x2048x32, .f32⟩
  | 121 => ⟨S4x8x2048x32, .f32⟩
  | 122 => ⟨S4x8x2048x32, .f32⟩
  | 123 => ⟨S4x8x2048x32, .f32⟩
  | 124 => ⟨S1x1x2048x32, .f32⟩
  | 125 => ⟨S4x8x2048x32, .f32⟩
  | 126 => ⟨S4x8x2048x32, .f32⟩
  | 127 => ⟨S1x1x2048x32, .f32⟩
  | _ => ⟨S8192x9216, .f32⟩

abbrev hbmTy0_1 (i : Nat) : BufTy := match i % 128 with
  | 0 => ⟨S4x8x2048x32, .f32⟩
  | 1 => ⟨S4x8x2048x32, .f32⟩
  | 2 => ⟨S4x8x2048x32, .f32⟩
  | 3 => ⟨S4x8x2048x64, .f32⟩
  | 4 => ⟨S4x8x2048x128, .f32⟩
  | 5 => ⟨S4x2048x256, .f32⟩
  | 6 => ⟨S4x2048x2x128, .f32⟩
  | 7 => ⟨S4x2x2048x128, .f32⟩
  | 8 => ⟨S4x2x2048x128, .f32⟩
  | 9 => ⟨S_, .f32⟩
  | 10 => ⟨S4x2x2048, .f32⟩
  | 11 => ⟨S4x2x2048x1, .f32⟩
  | 12 => ⟨S_, .f32⟩
  | 13 => ⟨S4x2x2048x1, .f32⟩
  | 14 => ⟨S4x2x2048x1, .f32⟩
  | 15 => ⟨S_, .f32⟩
  | 16 => ⟨S4x2x2048x1, .f32⟩
  | 17 => ⟨S4x2x2048x1, .f32⟩
  | 18 => ⟨S4x2x2048x1, .f32⟩
  | 19 => ⟨S4x2x2048x128, .f32⟩
  | 20 => ⟨S4x2x2048x128, .f32⟩
  | 21 => ⟨S1x1x1x128, .f32⟩
  | 22 => ⟨S4x2x2048x128, .f32⟩
  | 23 => ⟨S4x2x2048x128, .f32⟩
  | 24 => ⟨S4x2x2048x64, .f32⟩
  | 25 => ⟨S_, .i32⟩
  | 26 => ⟨S_, .i32⟩
  | 27 => ⟨S2048, .i32⟩
  | 28 => ⟨S2048, .i32⟩
  | 29 => ⟨S2048, .i32⟩
  | 30 => ⟨S_, .i32⟩
  | 31 => ⟨S2048, .i32⟩
  | 32 => ⟨S2048, .i1⟩
  | 33 => ⟨S2048, .i32⟩
  | 34 => ⟨S2048, .i32⟩
  | 35 => ⟨S_, .i32⟩
  | 36 => ⟨S2048, .i32⟩
  | 37 => ⟨S2048, .i1⟩
  | 38 => ⟨S2048, .i1⟩
  | 39 => ⟨S_, .i32⟩
  | 40 => ⟨S2048, .i32⟩
  | 41 => ⟨S2048, .i32⟩
  | 42 => ⟨S2048, .i32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S2048, .f32⟩
  | 52 => ⟨S2048x1, .f32⟩
  | 53 => ⟨S1x32, .f32⟩
  | 54 => ⟨S2048x32, .f32⟩
  | 55 => ⟨S2048x32, .f32⟩
  | 56 => ⟨S2048x32, .f32⟩
  | 57 => ⟨S2048x32, .f32⟩
  | 58 => ⟨S2048x32, .f32⟩
  | 59 => ⟨S4x2x2048x32, .f32⟩
  | 60 => ⟨S4x2x2048x32, .f32⟩
  | 61 => ⟨S1x1x2048x32, .f32⟩
  | 62 => ⟨S4x2x2048x32, .f32⟩
  | 63 => ⟨S4x2x2048x32, .f32⟩
  | 64 => ⟨S1x1x2048x32, .f32⟩
  | 65 => ⟨S4x2x2048x32, .f32⟩
  | 66 => ⟨S4x2x2048x32, .f32⟩
  | 67 => ⟨S4x2x2048x32, .f32⟩
  | 68 => ⟨S1x1x2048x32, .f32⟩
  | 69 => ⟨S4x2x2048x32, .f32⟩
  | 70 => ⟨S4x2x2048x32, .f32⟩
  | 71 => ⟨S1x1x2048x32, .f32⟩
  | 72 => ⟨S4x2x2048x32, .f32⟩
  | 73 => ⟨S4x2x2048x32, .f32⟩
  | 74 => ⟨S4x2x2048x32, .f32⟩
  | 75 => ⟨S4x2x2048x64, .f32⟩
  | 76 => ⟨S4x2x2048x64, .f32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S2048, .i32⟩
  | 84 => ⟨S2048, .i32⟩
  | 85 => ⟨S_, .i32⟩
  | 86 => ⟨S2048, .i32⟩
  | 87 => ⟨S2048, .i1⟩
  | 88 => ⟨S_, .i32⟩
  | 89 => ⟨S2048, .i32⟩
  | 90 => ⟨S2048, .i1⟩
  | 91 => ⟨S_, .i32⟩
  | 92 => ⟨S_, .i1⟩
  | 93 => ⟨S2048, .i1⟩
  | 94 => ⟨S2048, .i1⟩
  | 95 => ⟨S2048, .i1⟩
  | 96 => ⟨S2048, .i32⟩
  | 97 => ⟨S2048, .i32⟩
  | 98 => ⟨S2048, .i32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S2048, .f32⟩
  | 108 => ⟨S2048x1, .f32⟩
  | 109 => ⟨S1x32, .f32⟩
  | 110 => ⟨S2048x32, .f32⟩
  | 111 => ⟨S2048x32, .f32⟩
  | 112 => ⟨S2048x32, .f32⟩
  | 113 => ⟨S2048x32, .f32⟩
  | 114 => ⟨S2048x32, .f32⟩
  | 115 => ⟨S4x2x2048x32, .f32⟩
  | 116 => ⟨S4x2x2048x32, .f32⟩
  | 117 => ⟨S1x1x2048x32, .f32⟩
  | 118 => ⟨S4x2x2048x32, .f32⟩
  | 119 => ⟨S4x2x2048x32, .f32⟩
  | 120 => ⟨S1x1x2048x32, .f32⟩
  | 121 => ⟨S4x2x2048x32, .f32⟩
  | 122 => ⟨S4x2x2048x32, .f32⟩
  | 123 => ⟨S4x2x2048x32, .f32⟩
  | 124 => ⟨S1x1x2048x32, .f32⟩
  | 125 => ⟨S4x2x2048x32, .f32⟩
  | 126 => ⟨S4x2x2048x32, .f32⟩
  | 127 => ⟨S1x1x2048x32, .f32⟩
  | _ => ⟨S8192x9216, .f32⟩

abbrev hbmTy0_2 (i : Nat) : BufTy := match i % 128 with
  | 0 => ⟨S4x2x2048x32, .f32⟩
  | 1 => ⟨S4x2x2048x32, .f32⟩
  | 2 => ⟨S4x2x2048x32, .f32⟩
  | 3 => ⟨S4x2x2048x64, .f32⟩
  | 4 => ⟨S4x2x2048x128, .f32⟩
  | 5 => ⟨S4x2048x256, .f32⟩
  | 6 => ⟨S4x2048x2x128, .f32⟩
  | 7 => ⟨S4x2x2048x128, .f32⟩
  | 8 => ⟨S4x2x4x2048x128, .f32⟩
  | 9 => ⟨S4x2x4x2048x2048, .f32⟩
  | 10 => ⟨S_, .f32⟩
  | 11 => ⟨S4x2x4x2048x2048, .f32⟩
  | 12 => ⟨S4x2x4x2048x2048, .f32⟩
  | 13 => ⟨S_, .f32⟩
  | 14 => ⟨S4x2x4x2048, .f32⟩
  | 15 => ⟨S_, .f32⟩
  | 16 => ⟨S4x2x4x2048, .f32⟩
  | 17 => ⟨S4x2x4x2048, .f32⟩
  | 18 => ⟨S4x2x4x2048x1, .f32⟩
  | 19 => ⟨S4x2x4x2048x2048, .f32⟩
  | 20 => ⟨S4x2x4x2048x2048, .f32⟩
  | 21 => ⟨S4x2x4x2048x2048, .f32⟩
  | 22 => ⟨S_, .f32⟩
  | 23 => ⟨S4x2x4x2048, .f32⟩
  | 24 => ⟨S4x2x4x2048x1, .f32⟩
  | 25 => ⟨S4x2x4x2048x2048, .f32⟩
  | 26 => ⟨S4x2x4x2048x2048, .f32⟩
  | 27 => ⟨S4x2x4x2048x128, .f32⟩
  | 28 => ⟨S4x8x2048x128, .f32⟩
  | 29 => ⟨S4x2048x8x128, .f32⟩
  | 30 => ⟨S8192x1024, .f32⟩
  | _ => ⟨S8192x9216, .f32⟩

abbrev hbmTy (i : Nat) : BufTy := match i / 128 with
  | 0 => hbmTy0_0 i
  | 1 => hbmTy0_1 i
  | 2 => hbmTy0_2 i
  | _ => ⟨S8192x9216, .f32⟩

abbrev bufTy : (tb : Table) → Fin (tcTables nBuf tb) → BufTy
  | .hbm, ⟨i, _⟩ => hbmTy i
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_4 : Ref sig .tc := ⟨.hbm, 77, rfl⟩
abbrev main_call1_v0 : Ref sig .tc := ⟨.hbm, 78, rfl⟩
abbrev main_call1_c : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_c_1 : Ref sig .tc := ⟨.hbm, 85, rfl⟩
abbrev main_call1_v5 : Ref sig .tc := ⟨.hbm, 86, rfl⟩
abbrev main_call1_v6 : Ref sig .tc := ⟨.hbm, 87, rfl⟩
abbrev main_call1_c_2 : Ref sig .tc := ⟨.hbm, 88, rfl⟩
abbrev main_call1_v7 : Ref sig .tc := ⟨.hbm, 89, rfl⟩
abbrev main_call1_v8 : Ref sig .tc := ⟨.hbm, 90, rfl⟩
abbrev main_call1_c_3 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_5 : Ref sig .tc := ⟨.hbm, 101, rfl⟩
abbrev main_v55 : Ref sig .tc := ⟨.hbm, 102, rfl⟩
abbrev main_v56 : Ref sig .tc := ⟨.hbm, 103, rfl⟩
abbrev main_cst_6 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_7 : Ref sig .tc := ⟨.hbm, 137, rfl⟩
abbrev main_v89 : Ref sig .tc := ⟨.hbm, 138, rfl⟩
abbrev main_v90 : Ref sig .tc := ⟨.hbm, 139, rfl⟩
abbrev main_cst_8 : Ref sig .tc := ⟨.hbm, 140, rfl⟩
abbrev main_v91 : Ref sig .tc := ⟨.hbm, 141, rfl⟩
abbrev main_v92 : Ref sig .tc := ⟨.hbm, 142, rfl⟩
abbrev main_cst_9 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_c_10 : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_v6 : Ref sig .tc := ⟨.hbm, 160, rfl⟩
abbrev main_call2_v7 : Ref sig .tc := ⟨.hbm, 161, rfl⟩
abbrev main_call2_v8 : Ref sig .tc := ⟨.hbm, 162, rfl⟩
abbrev main_call2_c : Ref sig .tc := ⟨.hbm, 163, rfl⟩
abbrev main_call2_v9 : Ref sig .tc := ⟨.hbm, 164, rfl⟩
abbrev main_call2_v10 : Ref sig .tc := ⟨.hbm, 165, rfl⟩
abbrev main_call2_v11 : Ref sig .tc := ⟨.hbm, 166, rfl⟩
abbrev main_call2_c_0 : Ref sig .tc := ⟨.hbm, 167, rfl⟩
abbrev main_call2_v12 : Ref sig .tc := ⟨.hbm, 168, rfl⟩
abbrev main_call2_v13 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_cst_11 : Ref sig .tc := ⟨.hbm, 173, rfl⟩
abbrev main_v105 : Ref sig .tc := ⟨.hbm, 174, rfl⟩
abbrev main_v106 : Ref sig .tc := ⟨.hbm, 175, rfl⟩
abbrev main_cst_12 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_c_13 : Ref sig .tc := ⟨.hbm, 205, rfl⟩
abbrev main_call3_v0 : Ref sig .tc := ⟨.hbm, 206, rfl⟩
abbrev main_call3_c : Ref sig .tc := ⟨.hbm, 207, rfl⟩
abbrev main_call3_v1 : Ref sig .tc := ⟨.hbm, 208, rfl⟩
abbrev main_call3_c_0 : Ref sig .tc := ⟨.hbm, 209, rfl⟩
abbrev main_call3_v2 : Ref sig .tc := ⟨.hbm, 210, rfl⟩
abbrev main_call3_v3 : Ref sig .tc := ⟨.hbm, 211, rfl⟩
abbrev main_call3_v4 : Ref sig .tc := ⟨.hbm, 212, rfl⟩
abbrev main_call3_c_1 : Ref sig .tc := ⟨.hbm, 213, rfl⟩
abbrev main_call3_v5 : Ref sig .tc := ⟨.hbm, 214, rfl⟩
abbrev main_call3_v6 : Ref sig .tc := ⟨.hbm, 215, rfl⟩
abbrev main_call3_c_2 : Ref sig .tc := ⟨.hbm, 216, rfl⟩
abbrev main_call3_v7 : Ref sig .tc := ⟨.hbm, 217, rfl⟩
abbrev main_call3_v8 : Ref sig .tc := ⟨.hbm, 218, rfl⟩
abbrev main_call3_c_3 : Ref sig .tc := ⟨.hbm, 219, rfl⟩
abbrev main_call3_v9 : Ref sig .tc := ⟨.hbm, 220, rfl⟩
abbrev main_call3_v10 : Ref sig .tc := ⟨.hbm, 221, rfl⟩
abbrev main_call3_v11 : Ref sig .tc := ⟨.hbm, 222, rfl⟩
abbrev main_call3_v12 : Ref sig .tc := ⟨.hbm, 223, rfl⟩
abbrev main_call3_v13 : Ref sig .tc := ⟨.hbm, 224, rfl⟩
abbrev main_call3_v14 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_cst_14 : Ref sig .tc := ⟨.hbm, 229, rfl⟩
abbrev main_v138 : Ref sig .tc := ⟨.hbm, 230, rfl⟩
abbrev main_v139 : Ref sig .tc := ⟨.hbm, 231, rfl⟩
abbrev main_cst_15 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_cst_16 : Ref sig .tc := ⟨.hbm, 266, rfl⟩
abbrev main_v173 : Ref sig .tc := ⟨.hbm, 267, rfl⟩
abbrev main_v174 : Ref sig .tc := ⟨.hbm, 268, rfl⟩
abbrev main_cst_17 : Ref sig .tc := ⟨.hbm, 269, rfl⟩
abbrev main_v175 : Ref sig .tc := ⟨.hbm, 270, rfl⟩
abbrev main_cst_18 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_cst_19 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩

abbrev nD : Nat := 1
abbrev τ : Topo := Topo.v7x

variable {F : FTy → Type} [FloatOps F]
-- ==== Kernel2.lean ====
abbrev S8192x4096 : Shape := ⟨2, ![8192, 4096]⟩
abbrev S2x4096x11008 : Shape := ⟨3, ![2, 4096, 11008]⟩
abbrev S8192x11008 : Shape := ⟨2, ![8192, 11008]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩
abbrev S1x512x256 : Shape := ⟨3, ![1, 512, 256]⟩
abbrev S512x256 : Shape := ⟨2, ![512, 256]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![43, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x4096 : Shape := ⟨2, ![8192, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S8192x4096, .f32⟩
  | .hbm, ⟨4, _⟩ => ⟨S1x4096x11008, .f32⟩
  | .hbm, ⟨5, _⟩ => ⟨S4096x11008, .f32⟩
  | .hbm, ⟨6, _⟩ => ⟨S8192x11008, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S1x4096x11008, .f32⟩
  | .hbm, ⟨17, _⟩ => ⟨S4096x11008, .f32⟩
  | .hbm, ⟨18, _⟩ => ⟨S8192x11008, .f32⟩
  | .hbm, ⟨19, _⟩ => ⟨S8192x11008, .f32⟩
  | .hbm, ⟨20, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S8192x11008 : Shape := ⟨2, ![8192, 11008]⟩
abbrev S2x11008x4096 : Shape := ⟨3, ![2, 11008, 4096]⟩
abbrev S8192x4096 : Shape := ⟨2, ![8192, 4096]⟩
abbrev S1x11008x4096 : Shape := ⟨3, ![1, 11008, 4096]⟩
abbrev S11008x4096 : Shape := ⟨2, ![11008, 4096]⟩
abbrev S1024x5504 : Shape := ⟨2, ![1024, 5504]⟩
abbrev S5504x512 : Shape := ⟨2, ![5504, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S1x11008x4096, .f32⟩
  | .hbm, ⟨4, _⟩ => ⟨S11008x4096, .f32⟩
  | .hbm, ⟨5, _⟩ => ⟨S11008x4096, .bf16⟩
  | .hbm, ⟨6, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S5504x512, .bf16⟩
  | .local _ .vmem, ⟨3, _⟩ => ⟨S5504x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x11008 : Shape := ⟨2, ![8192, 11008]⟩
abbrev S2x11008x4096 : Shape := ⟨3, ![2, 11008, 4096]⟩
abbrev S8192x4096 : Shape := ⟨2, ![8192, 4096]⟩
abbrev S1x11008x4096 : Shape := ⟨3, ![1, 11008, 4096]⟩
abbrev S11008x4096 : Shape := ⟨2, ![11008, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S8192x11008, .f32⟩
  | .hbm, ⟨4, _⟩ => ⟨S1x11008x4096, .f32⟩
  | .hbm, ⟨5, _⟩ => ⟨S11008x4096, .f32⟩
  | .hbm, ⟨6, _⟩ => ⟨S8192x4096, .f32⟩
  | .hbm, ⟨7, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x4096 : Shape := ⟨2, ![8192, 4096]⟩
abbrev S4x4096x9280 : Shape := ⟨3, ![4, 4096, 9280]⟩
abbrev S4x9280x4096 : Shape := ⟨3, ![4, 9280, 4096]⟩
abbrev S8192x9216 : Shape := ⟨2, ![8192, 9216]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x4096x9280, .f32⟩
  | .hbm, ⟨2, _⟩ => ⟨S4x9280x4096, .f32⟩
  | .hbm, ⟨3, _⟩ => ⟨S8192x9216, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![18, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S4x4096x9280 : Shape := ⟨3, ![4, 4096, 9280]⟩
abbrev S1x4096x9216 : Shape := ⟨3, ![1, 4096, 9216]⟩
abbrev S4096x9216 : Shape := ⟨2, ![4096, 9216]⟩
abbrev S8192x9216 : Shape := ⟨2, ![8192, 9216]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x9280, .f32⟩
  | .hbm, ⟨2, _⟩ => ⟨S8192x4096, .f32⟩
  | .hbm, ⟨3, _⟩ => ⟨S1x4096x9216, .f32⟩
  | .hbm, ⟨4, _⟩ => ⟨S4096x9216, .f32⟩
  | .hbm, ⟨5, _⟩ => ⟨S8192x9216, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x4096 : Shape := ⟨2, ![8192, 4096]⟩
abbrev S4x4096x4096 : Shape := ⟨3, ![4, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x4096 : Shape := ⟨2, ![8192, 4096]⟩
abbrev S4x4096x4096 : Shape := ⟨3, ![4, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x4096, .f32⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | .hbm, ⟨7, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S40 : Shape := ⟨1, ![40]⟩
abbrev S1 : Shape := ⟨1, ![1]⟩
abbrev S20480x4096 : Shape := ⟨2, ![20480, 4096]⟩
abbrev S2x8x4096x2048 : Shape := ⟨4, ![2, 8, 4096, 2048]⟩
abbrev S20480x2048 : Shape := ⟨2, ![20480, 2048]⟩
abbrev S512x4096 : Shape := ⟨2, ![512, 4096]⟩
abbrev S1x1x4096x512 : Shape := ⟨4, ![1, 1, 4096, 512]⟩
abbrev S512x512 : Shape := ⟨2, ![512, 512]⟩
abbrev S4096x512 : Shape := ⟨2, ![4096, 512]⟩
abbrev S1x1x512x512 : Shape := ⟨4, ![1, 1, 512, 512]⟩

abbrev nBuf : Space → Nat
  | .hbm => 4
  | .vmem => 10
  | .smem => 2
  | _ => 0

abbrev bufTy : (tb : Table) → Fin (tcTables nBuf tb) → BufTy
  | .hbm, ⟨0, _⟩ => ⟨S20480x4096, .bf16⟩
  | .hbm, ⟨1, _⟩ => ⟨S2x8x4096x2048, .f32⟩
  | .hbm, ⟨2, _⟩ => ⟨S2x8x4096x2048, .f32⟩
  | .hbm, ⟨3, _⟩ => ⟨S20480x2048, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | .local _ .smem, ⟨0, _⟩ => ⟨S40, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 40], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond1 (i : grid0.Coords) (v0 : BitVec 32) (v4 : BitVec 32) (v8 : BitVec 32) : BitVec 1 :=
  let arg1 : BitVec 32 := BitVec.ofNat 32 (i 1).val
  let v1 : BitVec 1 := Scalar.cmpi .slt arg1 v0
  let c0_i32 : BitVec 32 := 0#32
  let v2 : BitVec 1 := Scalar.cmpi .eq arg1 c0_i32
  let v9 : BitVec 1 := Scalar.cmpi .ne v4 v8
  let v10 : BitVec 1 := Scalar.ori v2 v9
  let v11 : BitVec 1 := Scalar.andi v1 v10
  let v12 : BitVec 32 := Scalar.extui v11
  let c0_i32_1 : BitVec 32 := 0#32
  let v13 : BitVec 1 := Scalar.cmpi .ne v12 c0_i32_1
  v13

def k0_cond2 (i : grid0.Coords) (v0 : BitVec 32) (v4 : BitVec 32) (v8 : BitVec 32) : BitVec 1 :=
  let arg1 : BitVec 32 := BitVec.ofNat 32 (i 1).val
  let v1 : BitVec 1 := Scalar.cmpi .slt arg1 v0
  let c0_i32 : BitVec 32 := 0#32
  let v2 : BitVec 1 := Scalar.cmpi .eq arg1 c0_i32
  let v9 : BitVec 1 := Scalar.cmpi .ne v4 v8
  let v10 : BitVec 1 := Scalar.ori v2 v9
  let v_true : BitVec 1 := 1#1
  let v14 : BitVec 1 := Scalar.xori v10 v_true
  let v15 : BitVec 1 := Scalar.andi v1 v14
  let v16 : BitVec 32 := Scalar.extui v15
  let c0_i32_2 : BitVec 32 := 0#32
  let v17 : BitVec 1 := Scalar.cmpi .ne v16 c0_i32_2
  v17

def k0_cond3 (i : grid0.Coords) (v0 : BitVec 32) : BitVec 1 :=
  let arg1 : BitVec 32 := BitVec.ofNat 32 (i 1).val
  let v1 : BitVec 1 := Scalar.cmpi .slt arg1 v0
  let true_3 : BitVec 1 := 1#1
  let v18 : BitVec 1 := Scalar.xori v1 true_3
  let v19 : BitVec 32 := Scalar.extui v18
  let c0_i32_4 : BitVec 32 := 0#32
  let v20 : BitVec 1 := Scalar.cmpi .ne v19 c0_i32_4
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S40 : Shape := ⟨1, ![40]⟩
abbrev S1 : Shape := ⟨1, ![1]⟩
abbrev S20480x4096 : Shape := ⟨2, ![20480, 4096]⟩
abbrev S2x8x4096x2048 : Shape := ⟨4, ![2, 8, 4096, 2048]⟩
abbrev S_ : Shape := ⟨0, ![]⟩
abbrev S40x1 : Shape := ⟨2, ![40, 1]⟩
abbrev S40x512 : Shape := ⟨2, ![40, 512]⟩
abbrev S20480x1 : Shape := ⟨2, ![20480, 1]⟩
abbrev S1x1x4096x2048 : Shape := ⟨4, ![1, 1, 4096, 2048]⟩
abbrev S4096x2048 : Shape := ⟨2, ![4096, 2048]⟩
abbrev S20480x2048 : Shape := ⟨2, ![20480, 2048]⟩

abbrev nBuf : Space → Nat
  | .hbm => 257
  | .vmem => 0
  | .smem => 0
  | _ => 0

abbrev hbmTy0_0 (i : Nat) : BufTy := match i % 128 with
  | 0 => ⟨S40, .i32⟩
  | 1 => ⟨S1, .i32⟩
  | 2 => ⟨S20480x4096, .bf16⟩
  | 3 => ⟨S2x8x4096x2048, .f32⟩
  | 4 => ⟨S2x8x4096x2048, .f32⟩
  | 5 => ⟨S20480x4096, .f32⟩
  | 6 => ⟨S_, .i32⟩
  | 7 => ⟨S40, .i32⟩
  | 8 => ⟨S40, .i1⟩
  | 9 => ⟨S40, .i32⟩
  | 10 => ⟨S_, .i32⟩
  | 11 => ⟨S40, .i32⟩
  | 12 => ⟨S40, .i1⟩
  | 13 => ⟨S40, .i1⟩
  | 14 => ⟨S40, .f32⟩
  | 15 => ⟨S40x1, .f32⟩
  | 16 => ⟨S40x512, .f32⟩
  | 17 => ⟨S20480x1, .f32⟩
  | 18 => ⟨S1x1x4096x2048, .f32⟩
  | 19 => ⟨S4096x2048, .f32⟩
  | 20 => ⟨S20480x2048, .f32⟩
  | 21 => ⟨S20480x2048, .f32⟩
  | 22 => ⟨S20480x2048, .f32⟩
  | 23 => ⟨S_, .f32⟩
  | 24 => ⟨S20480x2048, .f32⟩
  | 25 => ⟨S20480x2048, .f32⟩
  | 26 => ⟨S_, .f32⟩
  | 27 => ⟨S20480x2048, .f32⟩
  | 28 => ⟨S20480x2048, .f32⟩
  | 29 => ⟨S20480x2048, .f32⟩
  | 30 => ⟨S1x1x4096x2048, .f32⟩
  | 31 => ⟨S4096x2048, .f32⟩
  | 32 => ⟨S20480x2048, .f32⟩
  | 33 => ⟨S20480x2048, .f32⟩
  | 34 => ⟨S20480x2048, .f32⟩
  | 35 => ⟨S20480x2048, .f32⟩
  | 36 => ⟨S_, .f32⟩
  | 37 => ⟨S20480x2048, .f32⟩
  | 38 => ⟨S20480x2048, .f32⟩
  | 39 => ⟨S_, .i32⟩
  | 40 => ⟨S40, .i32⟩
  | 41 => ⟨S40, .i1⟩
  | 42 => ⟨S40, .i32⟩
  | 43 => ⟨S_, .i32⟩
  | 44 => ⟨S40, .i32⟩
  | 45 => ⟨S40, .i1⟩
  | 46 => ⟨S40, .i1⟩
  | 47 => ⟨S40, .f32⟩
  | 48 => ⟨S40x1, .f32⟩
  | 49 => ⟨S40x512, .f32⟩
  | 50 => ⟨S20480x1, .f32⟩
  | 51 => ⟨S1x1x4096x2048, .f32⟩
  | 52 => ⟨S4096x2048, .f32⟩
  | 53 => ⟨S20480x2048, .f32⟩
  | 54 => ⟨S20480x2048, .f32⟩
  | 55 => ⟨S20480x2048, .f32⟩
  | 56 => ⟨S_, .f32⟩
  | 57 => ⟨S20480x2048, .f32⟩
  | 58 => ⟨S20480x2048, .f32⟩
  | 59 => ⟨S_, .f32⟩
  | 60 => ⟨S20480x2048, .f32⟩
  | 61 => ⟨S20480x2048, .f32⟩
  | 62 => ⟨S20480x2048, .f32⟩
  | 63 => ⟨S1x1x4096x2048, .f32⟩
  | 64 => ⟨S4096x2048, .f32⟩
  | 65 => ⟨S20480x2048, .f32⟩
  | 66 => ⟨S20480x2048, .f32⟩
  | 67 => ⟨S20480x2048, .f32⟩
  | 68 => ⟨S20480x2048, .f32⟩
  | 69 => ⟨S20480x2048, .f32⟩
  | 70 => ⟨S_, .i32⟩
  | 71 => ⟨S40, .i32⟩
  | 72 => ⟨S40, .i1⟩
  | 73 => ⟨S40, .i32⟩
  | 74 => ⟨S_, .i32⟩
  | 75 => ⟨S40, .i32⟩
  | 76 => ⟨S40, .i1⟩
  | 77 => ⟨S40, .i1⟩
  | 78 => ⟨S40, .f32⟩
  | 79 => ⟨S40x1, .f32⟩
  | 80 => ⟨S40x512, .f32⟩
  | 81 => ⟨S20480x1, .f32⟩
  | 82 => ⟨S1x1x4096x2048, .f32⟩
  | 83 => ⟨S4096x2048, .f32⟩
  | 84 => ⟨S20480x2048, .f32⟩
  | 85 => ⟨S20480x2048, .f32⟩
  | 86 => ⟨S20480x2048, .f32⟩
  | 87 => ⟨S_, .f32⟩
  | 88 => ⟨S20480x2048, .f32⟩
  | 89 => ⟨S20480x2048, .f32⟩
  | 90 => ⟨S_, .f32⟩
  | 91 => ⟨S20480x2048, .f32⟩
  | 92 => ⟨S20480x2048, .f32⟩
  | 93 => ⟨S20480x2048, .f32⟩
  | 94 => ⟨S1x1x4096x2048, .f32⟩
  | 95 => ⟨S4096x2048, .f32⟩
  | 96 => ⟨S20480x2048, .f32⟩
  | 97 => ⟨S20480x2048, .f32⟩
  | 98 => ⟨S20480x2048, .f32⟩
  | 99 => ⟨S20480x2048, .f32⟩
  | 100 => ⟨S20480x2048, .f32⟩
  | 101 => ⟨S_, .i32⟩
  | 102 => ⟨S40, .i32⟩
  | 103 => ⟨S40, .i1⟩
  | 104 => ⟨S40, .i32⟩
  | 105 => ⟨S_, .i32⟩
  | 106 => ⟨S40, .i32⟩
  | 107 => ⟨S40, .i1⟩
  | 108 => ⟨S40, .i1⟩
  | 109 => ⟨S40, .f32⟩
  | 110 => ⟨S40x1, .f32⟩
  | 111 => ⟨S40x512, .f32⟩
  | 112 => ⟨S20480x1, .f32⟩
  | 113 => ⟨S1x1x4096x2048, .f32⟩
  | 114 => ⟨S4096x2048, .f32⟩
  | 115 => ⟨S20480x2048, .f32⟩
  | 116 => ⟨S20480x2048, .f32⟩
  | 117 => ⟨S20480x2048, .f32⟩
  | 118 => ⟨S_, .f32⟩
  | 119 => ⟨S20480x2048, .f32⟩
  | 120 => ⟨S20480x2048, .f32⟩
  | 121 => ⟨S_, .f32⟩
  | 122 => ⟨S20480x2048, .f32⟩
  | 123 => ⟨S20480x2048, .f32⟩
  | 124 => ⟨S20480x2048, .f32⟩
  | 125 => ⟨S1x1x4096x2048, .f32⟩
  | 126 => ⟨S4096x2048, .f32⟩
  | 127 => ⟨S20480x2048, .f32⟩
  | _ => ⟨S40, .i32⟩

abbrev hbmTy0_1 (i : Nat) : BufTy := match i % 128 with
  | 0 => ⟨S20480x2048, .f32⟩
  | 1 => ⟨S20480x2048, .f32⟩
  | 2 => ⟨S20480x2048, .f32⟩
  | 3 => ⟨S20480x2048, .f32⟩
  | 4 => ⟨S_, .i32⟩
  | 5 => ⟨S40, .i32⟩
  | 6 => ⟨S40, .i1⟩
  | 7 => ⟨S40, .i32⟩
  | 8 => ⟨S_, .i32⟩
  | 9 => ⟨S40, .i32⟩
  | 10 => ⟨S40, .i1⟩
  | 11 => ⟨S40, .i1⟩
  | 12 => ⟨S40, .f32⟩
  | 13 => ⟨S40x1, .f32⟩
  | 14 => ⟨S40x512, .f32⟩
  | 15 => ⟨S20480x1, .f32⟩
  | 16 => ⟨S1x1x4096x2048, .f32⟩
  | 17 => ⟨S4096x2048, .f32⟩
  | 18 => ⟨S20480x2048, .f32⟩
  | 19 => ⟨S20480x2048, .f32⟩
  | 20 => ⟨S20480x2048, .f32⟩
  | 21 => ⟨S_, .f32⟩
  | 22 => ⟨S20480x2048, .f32⟩
  | 23 => ⟨S20480x2048, .f32⟩
  | 24 => ⟨S_, .f32⟩
  | 25 => ⟨S20480x2048, .f32⟩
  | 26 => ⟨S20480x2048, .f32⟩
  | 27 => ⟨S20480x2048, .f32⟩
  | 28 => ⟨S1x1x4096x2048, .f32⟩
  | 29 => ⟨S4096x2048, .f32⟩
  | 30 => ⟨S20480x2048, .f32⟩
  | 31 => ⟨S20480x2048, .f32⟩
  | 32 => ⟨S20480x2048, .f32⟩
  | 33 => ⟨S20480x2048, .f32⟩
  | 34 => ⟨S20480x2048, .f32⟩
  | 35 => ⟨S_, .i32⟩
  | 36 => ⟨S40, .i32⟩
  | 37 => ⟨S40, .i1⟩
  | 38 => ⟨S40, .i32⟩
  | 39 => ⟨S_, .i32⟩
  | 40 => ⟨S40, .i32⟩
  | 41 => ⟨S40, .i1⟩
  | 42 => ⟨S40, .i1⟩
  | 43 => ⟨S40, .f32⟩
  | 44 => ⟨S40x1, .f32⟩
  | 45 => ⟨S40x512, .f32⟩
  | 46 => ⟨S20480x1, .f32⟩
  | 47 => ⟨S1x1x4096x2048, .f32⟩
  | 48 => ⟨S4096x2048, .f32⟩
  | 49 => ⟨S20480x2048, .f32⟩
  | 50 => ⟨S20480x2048, .f32⟩
  | 51 => ⟨S20480x2048, .f32⟩
  | 52 => ⟨S_, .f32⟩
  | 53 => ⟨S20480x2048, .f32⟩
  | 54 => ⟨S20480x2048, .f32⟩
  | 55 => ⟨S_, .f32⟩
  | 56 => ⟨S20480x2048, .f32⟩
  | 57 => ⟨S20480x2048, .f32⟩
  | 58 => ⟨S20480x2048, .f32⟩
  | 59 => ⟨S1x1x4096x2048, .f32⟩
  | 60 => ⟨S4096x2048, .f32⟩
  | 61 => ⟨S20480x2048, .f32⟩
  | 62 => ⟨S20480x2048, .f32⟩
  | 63 => ⟨S20480x2048, .f32⟩
  | 64 => ⟨S20480x2048, .f32⟩
  | 65 => ⟨S20480x2048, .f32⟩
  | 66 => ⟨S_, .i32⟩
  | 67 => ⟨S40, .i32⟩
  | 68 => ⟨S40, .i1⟩
  | 69 => ⟨S40, .i32⟩
  | 70 => ⟨S_, .i32⟩
  | 71 => ⟨S40, .i32⟩
  | 72 => ⟨S40, .i1⟩
  | 73 => ⟨S40, .i1⟩
  | 74 => ⟨S40, .f32⟩
  | 75 => ⟨S40x1, .f32⟩
  | 76 => ⟨S40x512, .f32⟩
  | 77 => ⟨S20480x1, .f32⟩
  | 78 => ⟨S1x1x4096x2048, .f32⟩
  | 79 => ⟨S4096x2048, .f32⟩
  | 80 => ⟨S20480x2048, .f32⟩
  | 81 => ⟨S20480x2048, .f32⟩
  | 82 => ⟨S20480x2048, .f32⟩
  | 83 => ⟨S_, .f32⟩
  | 84 => ⟨S20480x2048, .f32⟩
  | 85 => ⟨S20480x2048, .f32⟩
  | 86 => ⟨S_, .f32⟩
  | 87 => ⟨S20480x2048, .f32⟩
  | 88 => ⟨S20480x2048, .f32⟩
  | 89 => ⟨S20480x2048, .f32⟩
  | 90 => ⟨S1x1x4096x2048, .f32⟩
  | 91 => ⟨S4096x2048, .f32⟩
  | 92 => ⟨S20480x2048, .f32⟩
  | 93 => ⟨S20480x2048, .f32⟩
  | 94 => ⟨S20480x2048, .f32⟩
  | 95 => ⟨S20480x2048, .f32⟩
  | 96 => ⟨S20480x2048, .f32⟩
  | 97 => ⟨S_, .i32⟩
  | 98 => ⟨S40, .i32⟩
  | 99 => ⟨S40, .i1⟩
  | 100 => ⟨S40, .i32⟩
  | 101 => ⟨S_, .i32⟩
  | 102 => ⟨S40, .i32⟩
  | 103 => ⟨S40, .i1⟩
  | 104 => ⟨S40, .i1⟩
  | 105 => ⟨S40, .f32⟩
  | 106 => ⟨S40x1, .f32⟩
  | 107 => ⟨S40x512, .f32⟩
  | 108 => ⟨S20480x1, .f32⟩
  | 109 => ⟨S1x1x4096x2048, .f32⟩
  | 110 => ⟨S4096x2048, .f32⟩
  | 111 => ⟨S20480x2048, .f32⟩
  | 112 => ⟨S20480x2048, .f32⟩
  | 113 => ⟨S20480x2048, .f32⟩
  | 114 => ⟨S_, .f32⟩
  | 115 => ⟨S20480x2048, .f32⟩
  | 116 => ⟨S20480x2048, .f32⟩
  | 117 => ⟨S_, .f32⟩
  | 118 => ⟨S20480x2048, .f32⟩
  | 119 => ⟨S20480x2048, .f32⟩
  | 120 => ⟨S20480x2048, .f32⟩
  | 121 => ⟨S1x1x4096x2048, .f32⟩
  | 122 => ⟨S4096x2048, .f32⟩
  | 123 => ⟨S20480x2048, .f32⟩
  | 124 => ⟨S20480x2048, .f32⟩
  | 125 => ⟨S20480x2048, .f32⟩
  | 126 => ⟨S20480x2048, .f32⟩
  | 127 => ⟨S20480x2048, .f32⟩
  | _ => ⟨S40, .i32⟩

abbrev hbmTy0_2 (i : Nat) : BufTy := match i % 128 with
  | 0 => ⟨S20480x2048, .bf16⟩
  | _ => ⟨S40, .i32⟩

abbrev hbmTy (i : Nat) : BufTy := match i / 128 with
  | 0 => hbmTy0_0 i
  | 1 => hbmTy0_1 i
  | 2 => hbmTy0_2 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_c_0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_1 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_2 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_3 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_call4_v0 : Ref sig .tc := ⟨.hbm, 147, rfl⟩
abbrev main_call4_v1 : Ref sig .tc := ⟨.hbm, 148, rfl⟩
abbrev main_call4_cst : Ref sig .tc := ⟨.hbm, 149, rfl⟩
abbrev main_call4_v2 : Ref sig .tc := ⟨.hbm, 150, rfl⟩
abbrev main_call4_v3 : Ref sig .tc := ⟨.hbm, 151, rfl⟩
abbrev main_call4_cst_0 : Ref sig .tc := ⟨.hbm, 152, rfl⟩
abbrev main_call4_v4 : Ref sig .tc := ⟨.hbm, 153, rfl⟩
abbrev main_call4_v5 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_c_4 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_call5_v0 : Ref sig .tc := ⟨.hbm, 178, rfl⟩
abbrev main_call5_v1 : Ref sig .tc := ⟨.hbm, 179, rfl⟩
abbrev main_call5_cst : Ref sig .tc := ⟨.hbm, 180, rfl⟩
abbrev main_call5_v2 : Ref sig .tc := ⟨.hbm, 181, rfl⟩
abbrev main_call5_v3 : Ref sig .tc := ⟨.hbm, 182, rfl⟩
abbrev main_call5_cst_0 : Ref sig .tc := ⟨.hbm, 183, rfl⟩
abbrev main_call5_v4 : Ref sig .tc := ⟨.hbm, 184, rfl⟩
abbrev main_call5_v5 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_c_5 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_call6_v0 : Ref sig .tc := ⟨.hbm, 209, rfl⟩
abbrev main_call6_v1 : Ref sig .tc := ⟨.hbm, 210, rfl⟩
abbrev main_call6_cst : Ref sig .tc := ⟨.hbm, 211, rfl⟩
abbrev main_call6_v2 : Ref sig .tc := ⟨.hbm, 212, rfl⟩
abbrev main_call6_v3 : Ref sig .tc := ⟨.hbm, 213, rfl⟩
abbrev main_call6_cst_0 : Ref sig .tc := ⟨.hbm, 214, rfl⟩
abbrev main_call6_v4 : Ref sig .tc := ⟨.hbm, 215, rfl⟩
abbrev main_call6_v5 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_c_6 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_call7_v0 : Ref sig .tc := ⟨.hbm, 240, rfl⟩
abbrev main_call7_v1 : Ref sig .tc := ⟨.hbm, 241, rfl⟩
abbrev main_call7_cst : Ref sig .tc := ⟨.hbm, 242, rfl⟩
abbrev main_call7_v2 : Ref sig .tc := ⟨.hbm, 243, rfl⟩
abbrev main_call7_v3 : Ref sig .tc := ⟨.hbm, 244, rfl⟩
abbrev main_call7_cst_0 : Ref sig .tc := ⟨.hbm, 245, rfl⟩
abbrev main_call7_v4 : Ref sig .tc := ⟨.hbm, 246, rfl⟩
abbrev main_call7_v5 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩

abbrev nD : Nat := 1
abbrev τ : Topo := Topo.v7x

variable {F : FTy → Type} [FloatOps F]
-- ==== Kernel7.lean ====
abbrev S40 : Shape := ⟨1, ![40]⟩
abbrev S1 : Shape := ⟨1, ![1]⟩
abbrev S20480x2048 : Shape := ⟨2, ![20480, 2048]⟩
abbrev S2x8x2048x4096 : Shape := ⟨4, ![2, 8, 2048, 4096]⟩
abbrev S20480x32x128 : Shape := ⟨3, ![20480, 32, 128]⟩
abbrev S512x2048 : Shape := ⟨2, ![512, 2048]⟩
abbrev S1x1x2048x1024 : Shape := ⟨4, ![1, 1, 2048, 1024]⟩
abbrev S512x8x128 : Shape := ⟨3, ![512, 8, 128]⟩
abbrev S2048x1024 : Shape := ⟨2, ![2048, 1024]⟩
abbrev S1x1x512x1024 : Shape := ⟨4, ![1, 1, 512, 1024]⟩
abbrev S512x1024 : Shape := ⟨2, ![512, 1024]⟩
abbrev S512x512 : Shape := ⟨2, ![512, 512]⟩

abbrev nBuf : Space → Nat
  | .hbm => 3
  | .vmem => 7
  | .smem => 2
  | _ => 0

abbrev bufTy : (tb : Table) → Fin (tcTables nBuf tb) → BufTy
  | .hbm, ⟨0, _⟩ => ⟨S20480x2048, .bf16⟩
  | .hbm, ⟨1, _⟩ => ⟨S2x8x2048x4096, .f32⟩
  | .hbm, ⟨2, _⟩ => ⟨S20480x32x128, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S512x8x128, .f32⟩
  | .local _ .vmem, ⟨5, _⟩ => ⟨S512x8x128, .f32⟩
  | .local _ .vmem, ⟨6, _⟩ => ⟨S2048x1024, .bf16⟩
  | .local _ .smem, ⟨0, _⟩ => ⟨S40, .i32⟩
  | .local _ .smem, ⟨1, _⟩ => ⟨S1, .i32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 40], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond1 (i : grid0.Coords) (v0 : BitVec 32) (v4 : BitVec 32) (v8 : BitVec 32) : BitVec 1 :=
  let arg1 : BitVec 32 := BitVec.ofNat 32 (i 1).val
  let v1 : BitVec 1 := Scalar.cmpi .slt arg1 v0
  let c0_i32 : BitVec 32 := 0#32
  let v2 : BitVec 1 := Scalar.cmpi .eq arg1 c0_i32
  let v9 : BitVec 1 := Scalar.cmpi .ne v4 v8
  let v10 : BitVec 1 := Scalar.ori v2 v9
  let v11 : BitVec 1 := Scalar.andi v1 v10
  let v12 : BitVec 32 := Scalar.extui v11
  let c0_i32_1 : BitVec 32 := 0#32
  let v13 : BitVec 1 := Scalar.cmpi .ne v12 c0_i32_1
  v13

def k0_cond2 (i : grid0.Coords) (v0 : BitVec 32) (v4 : BitVec 32) (v8 : BitVec 32) : BitVec 1 :=
  let arg1 : BitVec 32 := BitVec.ofNat 32 (i 1).val
  let v1 : BitVec 1 := Scalar.cmpi .slt arg1 v0
  let c0_i32 : BitVec 32 := 0#32
  let v2 : BitVec 1 := Scalar.cmpi .eq arg1 c0_i32
  let v9 : BitVec 1 := Scalar.cmpi .ne v4 v8
  let v10 : BitVec 1 := Scalar.ori v2 v9
  let v_true : BitVec 1 := 1#1
  let v14 : BitVec 1 := Scalar.xori v10 v_true
  let v15 : BitVec 1 := Scalar.andi v1 v14
  let v16 : BitVec 32 := Scalar.extui v15
  let c0_i32_2 : BitVec 32 := 0#32
  let v17 : BitVec 1 := Scalar.cmpi .ne v16 c0_i32_2
  v17

def k0_cond3 (i : grid0.Coords) (v0 : BitVec 32) : BitVec 1 :=
  let arg1 : BitVec 32 := BitVec.ofNat 32 (i 1).val
  let v1 : BitVec 1 := Scalar.cmpi .slt arg1 v0
  let true_3 : BitVec 1 := 1#1
  let v18 : BitVec 1 := Scalar.xori v1 true_3
  let v19 : BitVec 32 := Scalar.extui v18
  let c0_i32_4 : BitVec 32 := 0#32
  let v20 : BitVec 1 := Scalar.cmpi .ne v19 c0_i32_4
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S40 : Shape := ⟨1, ![40]⟩
abbrev S1 : Shape := ⟨1, ![1]⟩
abbrev S20480x2048 : Shape := ⟨2, ![20480, 2048]⟩
abbrev S2x8x2048x4096 : Shape := ⟨4, ![2, 8, 2048, 4096]⟩
abbrev S_ : Shape := ⟨0, ![]⟩
abbrev S40x1 : Shape := ⟨2, ![40, 1]⟩
abbrev S40x512 : Shape := ⟨2, ![40, 512]⟩
abbrev S20480x1 : Shape := ⟨2, ![20480, 1]⟩
abbrev S1x1x2048x4096 : Shape := ⟨4, ![1, 1, 2048, 4096]⟩
abbrev S2048x4096 : Shape := ⟨2, ![2048, 4096]⟩
abbrev S20480x4096 : Shape := ⟨2, ![20480, 4096]⟩
abbrev S20480x32x128 : Shape := ⟨3, ![20480, 32, 128]⟩

abbrev nBuf : Space → Nat
  | .hbm => 159
  | .vmem => 0
  | .smem => 0
  | _ => 0

abbrev hbmTy0_0 (i : Nat) : BufTy := match i % 128 with
  | 0 => ⟨S40, .i32⟩
  | 1 => ⟨S1, .i32⟩
  | 2 => ⟨S20480x2048, .bf16⟩
  | 3 => ⟨S2x8x2048x4096, .f32⟩
  | 4 => ⟨S_, .i32⟩
  | 5 => ⟨S40, .i32⟩
  | 6 => ⟨S40, .i1⟩
  | 7 => ⟨S40, .i32⟩
  | 8 => ⟨S_, .i32⟩
  | 9 => ⟨S40, .i32⟩
  | 10 => ⟨S40, .i1⟩
  | 11 => ⟨S40, .i1⟩
  | 12 => ⟨S40, .f32⟩
  | 13 => ⟨S40x1, .f32⟩
  | 14 => ⟨S40x512, .f32⟩
  | 15 => ⟨S20480x1, .f32⟩
  | 16 => ⟨S20480x2048, .f32⟩
  | 17 => ⟨S1x1x2048x4096, .f32⟩
  | 18 => ⟨S2048x4096, .f32⟩
  | 19 => ⟨S20480x4096, .f32⟩
  | 20 => ⟨S20480x4096, .f32⟩
  | 21 => ⟨S20480x4096, .f32⟩
  | 22 => ⟨S_, .f32⟩
  | 23 => ⟨S20480x4096, .f32⟩
  | 24 => ⟨S20480x4096, .f32⟩
  | 25 => ⟨S_, .i32⟩
  | 26 => ⟨S40, .i32⟩
  | 27 => ⟨S40, .i1⟩
  | 28 => ⟨S40, .i32⟩
  | 29 => ⟨S_, .i32⟩
  | 30 => ⟨S40, .i32⟩
  | 31 => ⟨S40, .i1⟩
  | 32 => ⟨S40, .i1⟩
  | 33 => ⟨S40, .f32⟩
  | 34 => ⟨S40x1, .f32⟩
  | 35 => ⟨S40x512, .f32⟩
  | 36 => ⟨S20480x1, .f32⟩
  | 37 => ⟨S20480x2048, .f32⟩
  | 38 => ⟨S1x1x2048x4096, .f32⟩
  | 39 => ⟨S2048x4096, .f32⟩
  | 40 => ⟨S20480x4096, .f32⟩
  | 41 => ⟨S20480x4096, .f32⟩
  | 42 => ⟨S20480x4096, .f32⟩
  | 43 => ⟨S20480x4096, .f32⟩
  | 44 => ⟨S_, .i32⟩
  | 45 => ⟨S40, .i32⟩
  | 46 => ⟨S40, .i1⟩
  | 47 => ⟨S40, .i32⟩
  | 48 => ⟨S_, .i32⟩
  | 49 => ⟨S40, .i32⟩
  | 50 => ⟨S40, .i1⟩
  | 51 => ⟨S40, .i1⟩
  | 52 => ⟨S40, .f32⟩
  | 53 => ⟨S40x1, .f32⟩
  | 54 => ⟨S40x512, .f32⟩
  | 55 => ⟨S20480x1, .f32⟩
  | 56 => ⟨S20480x2048, .f32⟩
  | 57 => ⟨S1x1x2048x4096, .f32⟩
  | 58 => ⟨S2048x4096, .f32⟩
  | 59 => ⟨S20480x4096, .f32⟩
  | 60 => ⟨S20480x4096, .f32⟩
  | 61 => ⟨S20480x4096, .f32⟩
  | 62 => ⟨S20480x4096, .f32⟩
  | 63 => ⟨S_, .i32⟩
  | 64 => ⟨S40, .i32⟩
  | 65 => ⟨S40, .i1⟩
  | 66 => ⟨S40, .i32⟩
  | 67 => ⟨S_, .i32⟩
  | 68 => ⟨S40, .i32⟩
  | 69 => ⟨S40, .i1⟩
  | 70 => ⟨S40, .i1⟩
  | 71 => ⟨S40, .f32⟩
  | 72 => ⟨S40x1, .f32⟩
  | 73 => ⟨S40x512, .f32⟩
  | 74 => ⟨S20480x1, .f32⟩
  | 75 => ⟨S20480x2048, .f32⟩
  | 76 => ⟨S1x1x2048x4096, .f32⟩
  | 77 => ⟨S2048x4096, .f32⟩
  | 78 => ⟨S20480x4096, .f32⟩
  | 79 => ⟨S20480x4096, .f32⟩
  | 80 => ⟨S20480x4096, .f32⟩
  | 81 => ⟨S20480x4096, .f32⟩
  | 82 => ⟨S_, .i32⟩
  | 83 => ⟨S40, .i32⟩
  | 84 => ⟨S40, .i1⟩
  | 85 => ⟨S40, .i32⟩
  | 86 => ⟨S_, .i32⟩
  | 87 => ⟨S40, .i32⟩
  | 88 => ⟨S40, .i1⟩
  | 89 => ⟨S40, .i1⟩
  | 90 => ⟨S40, .f32⟩
  | 91 => ⟨S40x1, .f32⟩
  | 92 => ⟨S40x512, .f32⟩
  | 93 => ⟨S20480x1, .f32⟩
  | 94 => ⟨S20480x2048, .f32⟩
  | 95 => ⟨S1x1x2048x4096, .f32⟩
  | 96 => ⟨S2048x4096, .f32⟩
  | 97 => ⟨S20480x4096, .f32⟩
  | 98 => ⟨S20480x4096, .f32⟩
  | 99 => ⟨S20480x4096, .f32⟩
  | 100 => ⟨S20480x4096, .f32⟩
  | 101 => ⟨S_, .i32⟩
  | 102 => ⟨S40, .i32⟩
  | 103 => ⟨S40, .i1⟩
  | 104 => ⟨S40, .i32⟩
  | 105 => ⟨S_, .i32⟩
  | 106 => ⟨S40, .i32⟩
  | 107 => ⟨S40, .i1⟩
  | 108 => ⟨S40, .i1⟩
  | 109 => ⟨S40, .f32⟩
  | 110 => ⟨S40x1, .f32⟩
  | 111 => ⟨S40x512, .f32⟩
  | 112 => ⟨S20480x1, .f32⟩
  | 113 => ⟨S20480x2048, .f32⟩
  | 114 => ⟨S1x1x2048x4096, .f32⟩
  | 115 => ⟨S2048x4096, .f32⟩
  | 116 => ⟨S20480x4096, .f32⟩
  | 117 => ⟨S20480x4096, .f32⟩
  | 118 => ⟨S20480x4096, .f32⟩
  | 119 => ⟨S20480x4096, .f32⟩
  | 120 => ⟨S_, .i32⟩
  | 121 => ⟨S40, .i32⟩
  | 122 => ⟨S40, .i1⟩
  | 123 => ⟨S40, .i32⟩
  | 124 => ⟨S_, .i32⟩
  | 125 => ⟨S40, .i32⟩
  | 126 => ⟨S40, .i1⟩
  | 127 => ⟨S40, .i1⟩
  | _ => ⟨S40, .i32⟩

abbrev hbmTy0_1 (i : Nat) : BufTy := match i % 128 with
  | 0 => ⟨S40, .f32⟩
  | 1 => ⟨S40x1, .f32⟩
  | 2 => ⟨S40x512, .f32⟩
  | 3 => ⟨S20480x1, .f32⟩
  | 4 => ⟨S20480x2048, .f32⟩
  | 5 => ⟨S1x1x2048x4096, .f32⟩
  | 6 => ⟨S2048x4096, .f32⟩
  | 7 => ⟨S20480x4096, .f32⟩
  | 8 => ⟨S20480x4096, .f32⟩
  | 9 => ⟨S20480x4096, .f32⟩
  | 10 => ⟨S20480x4096, .f32⟩
  | 11 => ⟨S_, .i32⟩
  | 12 => ⟨S40, .i32⟩
  | 13 => ⟨S40, .i1⟩
  | 14 => ⟨S40, .i32⟩
  | 15 => ⟨S_, .i32⟩
  | 16 => ⟨S40, .i32⟩
  | 17 => ⟨S40, .i1⟩
  | 18 => ⟨S40, .i1⟩
  | 19 => ⟨S40, .f32⟩
  | 20 => ⟨S40x1, .f32⟩
  | 21 => ⟨S40x512, .f32⟩
  | 22 => ⟨S20480x1, .f32⟩
  | 23 => ⟨S20480x2048, .f32⟩
  | 24 => ⟨S1x1x2048x4096, .f32⟩
  | 25 => ⟨S2048x4096, .f32⟩
  | 26 => ⟨S20480x4096, .f32⟩
  | 27 => ⟨S20480x4096, .f32⟩
  | 28 => ⟨S20480x4096, .f32⟩
  | 29 => ⟨S20480x4096, .f32⟩
  | 30 => ⟨S20480x32x128, .f32⟩
  | _ => ⟨S40, .i32⟩

abbrev hbmTy (i : Nat) : BufTy := match i / 128 with
  | 0 => hbmTy0_0 i
  | 1 => hbmTy0_1 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_c_2 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_c_3 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_c_4 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_c_5 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_c_6 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩

abbrev nD : Nat := 1
abbrev τ : Topo := Topo.v7x

variable {F : FTy → Type} [FloatOps F]
-- ==== Proof.Sums.lean ====
/- Sums over a long axis, taken in slabs; and blocks read whole. -/
module

public import Idealize.ShloMosaic.Lib.Pointwise
public import Idealize.ShloMosaic.Lib.Pipeline.ValueKit.Tiles

@[expose] public section

noncomputable section

namespace Cert.Sums

open Idealize.ShloMosaic

/-- A sum over `n` slabs of `s` each is the sum over the whole axis. -/
theorem sum_slabs (n s : ℕ) (f : Fin (n * s) → EReal) :
    ∑ k, f k = ∑ i : Fin n, ∑ j : Fin s, f ⟨i.val * s + j.val, by
      have h : i.val * s + s ≤ n * s := by rw [← Nat.succ_mul]; exact Nat.mul_le_mul_right s i.isLt
      omega⟩ := by
  rw [← (finProdFinEquiv (m := n) (n := s)).sum_comp, Fintype.sum_prod_type]
  refine Finset.sum_congr rfl fun i _ => Finset.sum_congr rfl fun j _ => congrArg f (Fin.ext ?_)
  show j.val + s * i.val = i.val * s + j.val
  rw [Nat.mul_comm, Nat.add_comm]

/-- Two slabs of 5504. -/
theorem sum_two (f : Fin 11008 → EReal) :
    ∑ k, f k = (∑ j : Fin 5504, f ⟨j.val, by omega⟩) + ∑ j : Fin 5504, f ⟨5504 + j.val, by omega⟩ := by
  rw [show ∑ k, f k = ∑ k : Fin (2 * 5504), f k from rfl, sum_slabs 2 5504, Fin.sum_univ_two]
  refine congrArg₂ (fun a b : EReal => a + b) ?_ ?_
  · exact Finset.sum_congr rfl fun j _ => congrArg f (Fin.ext (by show 0 * 5504 + j.val = j.val; omega))
  · exact Finset.sum_congr rfl fun j _ => congrArg f (Fin.ext (by show 1 * 5504 + j.val = 5504 + j.val; omega))

/-- Eight slabs of 512, added one after another from the first. -/
theorem sum_eight (f : Fin 4096 → EReal) :
    ∑ k, f k = (∑ j : Fin 512, f ⟨j.val, by omega⟩) + (∑ j : Fin 512, f ⟨512 + j.val, by omega⟩) + (∑ j : Fin 512, f ⟨1024 + j.val, by omega⟩)
      + (∑ j : Fin 512, f ⟨1536 + j.val, by omega⟩) + (∑ j : Fin 512, f ⟨2048 + j.val, by omega⟩) + (∑ j : Fin 512, f ⟨2560 + j.val, by omega⟩)
      + (∑ j : Fin 512, f ⟨3072 + j.val, by omega⟩) + ∑ j : Fin 512, f ⟨3584 + j.val, by omega⟩ := by
  rw [show ∑ k, f k = ∑ k : Fin (8 * 512), f k from rfl, sum_slabs 8 512, Fin.sum_univ_eight]
  have h : ∀ (i : Fin 8) (a : ℕ) (ha : a + 512 ≤ 4096), i.val * 512 = a →
      ∑ j : Fin 512, f ⟨i.val * 512 + j.val, by omega⟩ = ∑ j : Fin 512, f ⟨a + j.val, by omega⟩ := fun i a ha e => by
    subst e
    rfl
  have h0 : ∑ j : Fin 512, f ⟨(0 : Fin 8).val * 512 + j.val, by have : (0 : Fin 8).val = 0 := rfl; omega⟩ = ∑ j : Fin 512, f ⟨j.val, by omega⟩ :=
    Finset.sum_congr rfl fun j _ => congrArg f (Fin.ext (by show 0 * 512 + j.val = j.val; omega))
  exact congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
      (congrArg₂ (fun a b : EReal => a + b) h0 (h 1 512 (by decide) rfl)) (h 2 1024 (by decide) rfl)) (h 3 1536 (by decide) rfl))
    (h 4 2048 (by decide) rfl)) (h 5 2560 (by decide) rfl)) (h 6 3072 (by decide) rfl)) (h 7 3584 (by decide) rfl)

/-- A whole block read back is the block. -/
theorem read_whole {sig : RefSig} {s : Shape} {e : EltTy} {off : Fin s.rank → ℕ} (h : off = fun _ => 0) (a : Memref sig .tc .vmem s e) (ha : a.IsWhole)
    (inb : ∀ k, off k + s.size k ≤ s.size k) (x : Vec Ideal s e) :
    View.readAt (Elt Ideal) a.view (Rect.unit (s := s) off s.size inb).toLoadRect (ha.unread x) = x := by
  rw [View.readAt_eq_ld, ha.read_unread]
  exact View.ld_unit_zero h _ _

theorem zero2 : (![0, 0] : Fin 2 → ℕ) = fun _ => 0 := by funext k; fin_cases k <;> rfl
theorem zero3 : (![0, 0, 0] : Fin 3 → ℕ) = fun _ => 0 := by funext k; fin_cases k <;> rfl

end Cert.Sums

end
-- ==== Proof.DownRun.lean ====
/- The call expert_down of a layer with experts, point by point. A point of the grid is a block of columns and a tile of
   rows; a table says which expert's weights a tile takes and how many tiles are used. A used tile with another expert than
   the tile before it (or the first one) multiplies slab by slab, rounding the weights and keeping them in scratch; a used
   tile with the same expert multiplies by what was kept; an unused tile is filled with zeros. -/
module

public import proofs.«01_k».proof.Proof.Gen.Kernel7Ideal.Launch
public import proofs.«01_k».proof.Proof.Gen.Kernel7Ideal.Skeleton
public import Idealize.ShloMosaic.Lib.Pipeline.FrameBody
public import Idealize.ShloMosaic.Lib.Ring
public import Idealize.ShloMosaic.Lib.Tactic
public import Idealize.ShloMosaic.Lib.Claim
public import proofs.«01_k».proof.Proof.Sums
public import Idealize.ShloMosaic.Lib.Pipeline.ValueKit.Tiles

@[expose] public section

set_option maxRecDepth 16384

noncomputable section

namespace Cert.ExpertDown

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Sums (zero2 zero3)
open Idealize.ShloMosaic.Pipeline (Dat Cfg Window BodyObligation cellOf)

variable {F : FTy → Type} [FloatOps F]

local notation "𝕄" => MT nD τ sig Unit (Elt F) ℕ (UR sig nD τ) ℕ

/-! ## The tables -/

/-- The table of the tiles' experts and the count of the used tiles, as the body is handed them. -/
abbrev teM : Memref sig .tc .smem S40 .i32 := Memref.whole main_arg0
abbrev nuM : Memref sig .tc .smem S1 .i32 := Memref.whole main_arg1

/-- A table's contents, and the half of it the body holds: it only reads it. -/
abbrev Table (c : Dev nD) {S : Shape} (M : Memref sig .tc .smem S .i32) : Type := Buf (Elt F) (M.view.loc (c : Thread nD τ))
abbrev held (c : Dev nD) {S : Shape} (M : Memref sig .tc .smem S .i32) (f : Table (F := F) c M) : sProp 𝕄 :=
  M.view.loc (c : Thread nD τ) ↦{fullShare.right} f

/-- The count of the used tiles; the expert of a point's tile; the expert of the tile before it. -/
abbrev nuW (c : Dev nD) (n : Table (F := F) c nuM) : BitVec 32 :=
  nuM.view.readAt (Elt F) (Rect.unit (s := S1) ![0] S1.size inb_S1_S1_0).toLoadRect n (Shape.Idx.first (numel1_S1.symm ▸ Nat.one_pos))
abbrev teW (c : Dev nD) (i : grid0.Coords) (e : Table (F := F) c teM) : BitVec 32 :=
  teM.view.readAt (Elt F) (Rect.unit (s := S40) (k0_off1 i) S1.size (k0_off1_inb i)).toLoadRect e (Shape.Idx.first (numel1_S1.symm ▸ Nat.one_pos))
abbrev peW (c : Dev nD) (i : grid0.Coords) (e : Table (F := F) c teM) : BitVec 32 :=
  teM.view.readAt (Elt F) (Rect.unit (s := S40) (k0_off2 i) S1.size (k0_off2_inb i)).toLoadRect e (Shape.Idx.first (numel1_S1.symm ▸ Nat.one_pos))

/-! ## What a point computes -/

/-- A slab of the weights. -/
abbrev slab (w : Vec F S1x1x2048x1024 .f32) (o : ℕ) (inb : ∀ a, (![0, 0, o, 0] : Fin 4 → ℕ) a + S1x1x512x1024.size a ≤ S1x1x2048x1024.size a) : Vec F S1x1x512x1024 .f32 :=
  View.ld w (Rect.unit (s := S1x1x2048x1024) ![0, 0, o, 0] S1x1x512x1024.size inb)

/-- The product slab by slab; -/
def slabwise (a : Vec F S512x2048 .bf16) (w : Vec F S1x1x2048x1024 .f32) : Vec F S512x8x128 .f32 :=
  k0_pay2 a (k0_pay11 a (slab w 0 (by decide)) (slab w 512 (by decide)) (slab w 1024 (by decide))) (k0_pay12 (slab w 1536 (by decide)))

/-- the rounded weights, slab after slab. -/
def kept (w : Vec F S1x1x2048x1024 .f32) : Vec F S2048x1024 .bf16 :=
  View.canon [⟨Rect.unit (s := S2048x1024) ![1536, 0] S512x1024.size (by decide), k0_pay1 (k0_pay12 (slab w 1536 (by decide)))⟩,
    ⟨Rect.unit (s := S2048x1024) ![1024, 0] S512x1024.size (by decide), k0_pay10 (slab w 1024 (by decide))⟩,
    ⟨Rect.unit (s := S2048x1024) ![512, 0] S512x1024.size (by decide), k0_pay8 (slab w 512 (by decide))⟩,
    ⟨Rect.unit (s := S2048x1024) ![0, 0] S512x1024.size (by decide), k0_pay6 (slab w 0 (by decide))⟩]

/-- A slab read from a buffer that holds the weights. -/
abbrev slabR (arg5 : Memref sig .tc .vmem S1x1x2048x1024 .f32) (harg5 : arg5.IsWhole) (w : Vec F S1x1x2048x1024 .f32) (o : ℕ)
    (inb : ∀ a, (![0, 0, o, 0] : Fin 4 → ℕ) a + S1x1x512x1024.size a ≤ S1x1x2048x1024.size a) : Vec F S1x1x512x1024 .f32 :=
  View.readAt (Elt F) arg5.view (Rect.unit (s := S1x1x2048x1024) ![0, 0, o, 0] S1x1x512x1024.size inb).toLoadRect (harg5.unread w)

theorem slabR_eq (arg5 : Memref sig .tc .vmem S1x1x2048x1024 .f32) (harg5 : arg5.IsWhole) (w : Vec F S1x1x2048x1024 .f32) (o : ℕ) (inb) :
    slabR arg5 harg5 w o inb = slab w o inb := by
  unfold slabR
  rw [View.readAt_eq_ld, harg5.read_unread]

/-- What the slab by slab point computes and keeps, of the loads. -/
theorem out_eq (arg4 : Memref sig .tc .vmem S512x2048 .bf16) (harg4 : arg4.IsWhole) (arg5 : Memref sig .tc .vmem S1x1x2048x1024 .f32) (harg5 : arg5.IsWhole)
    (a : Vec F S512x2048 .bf16) (w : Vec F S1x1x2048x1024 .f32) :
    k0_pay2 (View.readAt (Elt F) arg4.view (Rect.unit (s := S512x2048) ![0, 0] S512x2048.size (by decide)).toLoadRect (harg4.unread a))
      (k0_pay11 (View.readAt (Elt F) arg4.view (Rect.unit (s := S512x2048) ![0, 0] S512x2048.size (by decide)).toLoadRect (harg4.unread a))
        (slabR arg5 harg5 w 0 (by decide)) (slabR arg5 harg5 w 512 (by decide)) (slabR arg5 harg5 w 1024 (by decide)))
      (k0_pay12 (slabR arg5 harg5 w 1536 (by decide))) = slabwise a w := by
  simp only [slabR_eq]
  rw [View.readAt_eq_ld, harg4.read_unread, View.ld_unit_zero zero2]
  rfl

theorem kept_eq (arg5 : Memref sig .tc .vmem S1x1x2048x1024 .f32) (harg5 : arg5.IsWhole) (w : Vec F S1x1x2048x1024 .f32) :
    View.canon (Val := Elt F) [⟨Rect.unit (s := S2048x1024) ![1536, 0] S512x1024.size (by decide), k0_pay1 (k0_pay12 (slabR arg5 harg5 w 1536 (by decide)))⟩,
      ⟨Rect.unit (s := S2048x1024) ![1024, 0] S512x1024.size (by decide), k0_pay10 (slabR arg5 harg5 w 1024 (by decide))⟩,
      ⟨Rect.unit (s := S2048x1024) ![512, 0] S512x1024.size (by decide), k0_pay8 (slabR arg5 harg5 w 512 (by decide))⟩,
      ⟨Rect.unit (s := S2048x1024) ![0, 0] S512x1024.size (by decide), k0_pay6 (slabR arg5 harg5 w 0 (by decide))⟩] = kept w := by
  simp only [slabR_eq]
  rfl

section Body

variable (c : Dev nD) (i : grid0.Coords) (arg4 : Memref sig .tc .vmem S512x2048 .bf16) (harg4 : arg4.IsWhole)
  (arg5 : Memref sig .tc .vmem S1x1x2048x1024 .f32) (harg5 : arg5.IsWhole) (arg6 : Memref sig .tc .vmem S512x8x128 .f32) (harg6 : arg6.IsWhole)
  (arg7 : Memref sig .tc .vmem S2048x1024 .bf16) (harg7 : arg7.IsWhole)
  (a : Vec F S512x2048 .bf16) (w : Vec F S1x1x2048x1024 .f32) (e : Table (F := F) c teM) (n : Table (F := F) c nuM)

/-- A used tile with a new expert: the product slab by slab, the rounded weights kept. -/
theorem body_new (h1 : k0_cond1 i (nuW c n) (teW c i e) (peW c i e) = 1#1) (h2 : ¬k0_cond2 i (nuW c n) (teW c i e) (peW c i e) = 1#1)
    (h3 : ¬k0_cond3 i (nuW c n) = 1#1) (E : Set ℕ) (K : PUnit → sProp 𝕄) :
    iprop(owns (c : Thread nD τ) arg4 fullShare a ∗ owns (c : Thread nD τ) arg5 fullShare w ∗ (∃ d, owns (c : Thread nD τ) arg6 fullShare d)
        ∗ (∃ d, owns (c : Thread nD τ) arg7 fullShare d) ∗ held c teM e ∗ held c nuM n
        ∗ (iprop(owns (c : Thread nD τ) arg4 fullShare a ∗ owns (c : Thread nD τ) arg5 fullShare w ∗ owns (c : Thread nD τ) arg6 fullShare (slabwise a w)
            ∗ owns (c : Thread nD τ) arg7 fullShare (kept w) ∗ held c teM e ∗ held c nuM n) -∗ K ⟨⟩))
      ⊢ wp frame (wpE (defs₀ (F := F)) Variants.none c none) E (cc0_expert_down i teM (Memref.isWhole_whole _) nuM (Memref.isWhole_whole _) arg4 harg4 arg5 harg5 arg6 harg6 arg7 harg7) K := by
  simp only [cc0_expert_down_eq_skeleton, k0_part1_eq_skeleton]
  unfold cc0_expert_down_skel
  unfold owns
  iintro ⟨⟨%f0, %hf0, H0⟩, ⟨%f1, %hf1, H1⟩, ⟨%d2, %f2, -, H2⟩, ⟨%d3, %f3, -, H3⟩, HT0, HT1, Hk⟩
  obtain rfl := harg4.eq_unread hf0
  obtain rfl := harg5.eq_unread hf1
  sl_exec (disch := first | sl_exact h1 | sl_exact h2 | sl_exact h3)
  sl_step
  iapply Hk
  isplitl [H0]
  · iexists _
    isplitr
    · ipureintro
      exact harg4.read_unread _
    iexact H0
  isplitl [H1]
  · iexists _
    isplitr
    · ipureintro
      exact harg5.read_unread _
    iexact H1
  isplitl [H2]
  · iexists _
    isplitr
    swap
    · iexact H2
    ipureintro
    rw [View.read_writes_eq_canon _ _ _ (View.cover_of_tiledL _ S512x8x128.size (by sl_kernel_rfl)), View.canon_cons_unit_zero zero3]
    have h := out_eq arg4 harg4 arg5 harg5 a w
    exact h
  isplitl [H3]
  · iexists _
    isplitr
    swap
    · iexact H3
    ipureintro
    refine (View.read_writes_eq_canon arg7.view f3 _ fun y => View.cover_of_tiledL (s := S2048x1024) _ S512x1024.size (by sl_kernel_rfl) y).trans ?_
    exact kept_eq arg5 harg5 w
  isplitl [HT0]
  · iexact HT0
  iexact HT1

/-- A used tile with the expert of the tile before: the product by what was kept. -/
theorem body_same (h1 : ¬k0_cond1 i (nuW c n) (teW c i e) (peW c i e) = 1#1) (h2 : k0_cond2 i (nuW c n) (teW c i e) (peW c i e) = 1#1)
    (h3 : ¬k0_cond3 i (nuW c n) = 1#1) (k : Vec F S2048x1024 .bf16) (E : Set ℕ) (K : PUnit → sProp 𝕄) :
    iprop(owns (c : Thread nD τ) arg4 fullShare a ∗ owns (c : Thread nD τ) arg5 fullShare w ∗ (∃ d, owns (c : Thread nD τ) arg6 fullShare d)
        ∗ owns (c : Thread nD τ) arg7 fullShare k ∗ held c teM e ∗ held c nuM n
        ∗ (iprop(owns (c : Thread nD τ) arg4 fullShare a ∗ owns (c : Thread nD τ) arg5 fullShare w ∗ owns (c : Thread nD τ) arg6 fullShare (k0_pay3 a k)
            ∗ owns (c : Thread nD τ) arg7 fullShare k ∗ held c teM e ∗ held c nuM n) -∗ K ⟨⟩))
      ⊢ wp frame (wpE (defs₀ (F := F)) Variants.none c none) E (cc0_expert_down i teM (Memref.isWhole_whole _) nuM (Memref.isWhole_whole _) arg4 harg4 arg5 harg5 arg6 harg6 arg7 harg7) K := by
  simp only [cc0_expert_down_eq_skeleton, k0_part1_eq_skeleton]
  unfold cc0_expert_down_skel
  unfold owns
  iintro ⟨⟨%f0, %hf0, H0⟩, H1, ⟨%d2, %f2, -, H2⟩, ⟨%f3, %hf3, H3⟩, HT0, HT1, Hk⟩
  obtain rfl := harg4.eq_unread hf0
  obtain rfl := harg7.eq_unread hf3
  sl_exec (disch := first | sl_exact h1 | sl_exact h2 | sl_exact h3)
  sl_step
  iapply Hk
  isplitl [H0]
  · iexists _
    isplitr
    · ipureintro
      exact harg4.read_unread _
    iexact H0
  isplitl [H1]
  · iexact H1
  isplitl [H2]
  · iexists _
    isplitr
    swap
    · iexact H2
    ipureintro
    rw [View.read_writes_eq_canon _ _ _ (View.cover_of_tiledL _ S512x8x128.size (by sl_kernel_rfl)), View.canon_cons_unit_zero zero3]
    simp only [View.readAt_eq_ld, harg4.read_unread, harg7.read_unread]
    rw [View.ld_unit_zero zero2, View.ld_unit_zero zero2]
  isplitl [H3]
  · iexists _
    isplitr
    · ipureintro
      exact harg7.read_unread _
    iexact H3
  isplitl [HT0]
  · iexact HT0
  iexact HT1

/-- An unused tile: zeros. -/
theorem body_unused (h1 : ¬k0_cond1 i (nuW c n) (teW c i e) (peW c i e) = 1#1) (h2 : ¬k0_cond2 i (nuW c n) (teW c i e) (peW c i e) = 1#1)
    (h3 : k0_cond3 i (nuW c n) = 1#1) (k : Vec F S2048x1024 .bf16) (E : Set ℕ) (K : PUnit → sProp 𝕄) :
    iprop(owns (c : Thread nD τ) arg4 fullShare a ∗ owns (c : Thread nD τ) arg5 fullShare w ∗ (∃ d, owns (c : Thread nD τ) arg6 fullShare d)
        ∗ owns (c : Thread nD τ) arg7 fullShare k ∗ held c teM e ∗ held c nuM n
        ∗ (iprop(owns (c : Thread nD τ) arg4 fullShare a ∗ owns (c : Thread nD τ) arg5 fullShare w ∗ owns (c : Thread nD τ) arg6 fullShare (k0_pay4 (F := F))
            ∗ owns (c : Thread nD τ) arg7 fullShare k ∗ held c teM e ∗ held c nuM n) -∗ K ⟨⟩))
      ⊢ wp frame (wpE (defs₀ (F := F)) Variants.none c none) E (cc0_expert_down i teM (Memref.isWhole_whole _) nuM (Memref.isWhole_whole _) arg4 harg4 arg5 harg5 arg6 harg6 arg7 harg7) K := by
  simp only [cc0_expert_down_eq_skeleton, k0_part1_eq_skeleton]
  unfold cc0_expert_down_skel
  unfold owns
  iintro ⟨H0, H1, ⟨%d2, %f2, -, H2⟩, H3, HT0, HT1, Hk⟩
  sl_exec (disch := first | sl_exact h1 | sl_exact h2 | sl_exact h3)
  sl_step
  iapply Hk
  isplitl [H0]
  · iexact H0
  isplitl [H1]
  · iexact H1
  isplitl [H2]
  · iexists _
    isplitr
    swap
    · iexact H2
    ipureintro
    rw [View.read_writes_eq_canon _ _ _ (View.cover_of_tiledL _ S512x8x128.size (by sl_kernel_rfl)), View.canon_cons_unit_zero zero3]
  isplitl [H3]
  · iexact H3
  isplitl [HT0]
  · iexact HT0
  iexact HT1

end Body

/-! ## Which of the three a point is -/

/-- The tile is used; its expert is new. -/
def Used (c : Dev nD) (i : grid0.Coords) (n : Table (F := F) c nuM) : Prop := Scalar.cmpi .slt (BitVec.ofNat 32 (i 1).val) (nuW c n) = 1#1
def New (c : Dev nD) (i : grid0.Coords) (e : Table (F := F) c teM) : Prop :=
  Scalar.ori (Scalar.cmpi .eq (BitVec.ofNat 32 (i 1).val) 0#32) (Scalar.cmpi .ne (teW c i e) (peW c i e)) = 1#1

section Which

variable (c : Dev nD) (i : grid0.Coords) (e : Table (F := F) c teM) (n : Table (F := F) c nuM)

theorem cond1_iff : k0_cond1 i (nuW c n) (teW c i e) (peW c i e) = 1#1 ↔ Used c i n ∧ New c i e := by
  unfold k0_cond1 Used New
  dsimp only
  generalize Scalar.cmpi .slt (BitVec.ofNat 32 (i 1).val) (nuW c n) = u
  generalize Scalar.ori (Scalar.cmpi .eq (BitVec.ofNat 32 (i 1).val) 0#32) (Scalar.cmpi .ne (teW c i e) (peW c i e)) = f
  revert u f
  decide

theorem cond2_iff : k0_cond2 i (nuW c n) (teW c i e) (peW c i e) = 1#1 ↔ Used c i n ∧ ¬New c i e := by
  unfold k0_cond2 Used New
  dsimp only
  generalize Scalar.cmpi .slt (BitVec.ofNat 32 (i 1).val) (nuW c n) = u
  generalize Scalar.ori (Scalar.cmpi .eq (BitVec.ofNat 32 (i 1).val) 0#32) (Scalar.cmpi .ne (teW c i e) (peW c i e)) = f
  revert u f
  decide

theorem cond3_iff : k0_cond3 i (nuW c n) = 1#1 ↔ ¬Used c i n := by
  unfold k0_cond3 Used
  dsimp only
  generalize Scalar.cmpi .slt (BitVec.ofNat 32 (i 1).val) (nuW c n) = u
  revert u
  decide

/-- The words by their places in the tables. -/
theorem nuW_eq : nuW c n = n (ix1 (0 : Fin 1)) := by
  show n _ = n _
  congr 1
  funext a
  match a with
  | ⟨0, _⟩ => rfl

theorem teW_eq : teW c i e = e (ix1 (⟨(i 1).val, (i 1).isLt⟩ : Fin 40)) := by
  show e _ = e _
  congr 1
  funext a
  apply Fin.ext
  match a with
  | ⟨0, _⟩ =>
    have h : (i 1).val < 40 := (i 1).isLt
    show (BitVec.ofNat 32 (i 1).val).toNat + 1 * 0 = (i 1).val
    rw [BitVec.toNat_ofNat]
    omega

/-- The tile before, the first one's being itself. -/
theorem before_toNat : ∀ j : Fin 40, (Scalar.maxsi (Scalar.subi (BitVec.ofNat 32 j.val) 1#32) 0#32).toNat = j.val - 1 := by decide

theorem peW_eq : peW c i e = e (ix1 (⟨(i 1).val - 1, by have : (i 1).val < 40 := (i 1).isLt; omega⟩ : Fin 40)) := by
  show e _ = e _
  congr 1
  funext a
  apply Fin.ext
  match a with
  | ⟨0, _⟩ =>
    show (Scalar.maxsi (Scalar.subi (BitVec.ofNat 32 (i 1).val) 1#32) 0#32).toNat + 1 * 0 = (i 1).val - 1
    have h : (Scalar.maxsi (Scalar.subi (BitVec.ofNat 32 (i 1).val) 1#32) 0#32).toNat = (i 1).val - 1 := before_toNat ⟨(i 1).val, (i 1).isLt⟩
    rw [h, Nat.mul_zero, Nat.add_zero]

theorem tile_toInt : ∀ j : Fin 40, (BitVec.ofNat 32 j.val).toInt = (j.val : ℤ) := by decide

/-- A tile is used when its number is below the count, as signed words; -/
theorem used_iff : Used c i n ↔ ((i 1).val : ℤ) < (n (ix1 (0 : Fin 1)) : BitVec 32).toInt := by
  unfold Used
  rw [nuW_eq]
  have h : (i 1).val < 40 := (i 1).isLt
  generalize (n (ix1 (0 : Fin 1)) : BitVec 32) = w
  have e : (BitVec.ofNat 32 (i 1).val).toInt = ((i 1).val : ℤ) := tile_toInt ⟨(i 1).val, h⟩
  show BitVec.ofBool (BitVec.slt (BitVec.ofNat 32 (i 1).val) w) = 1#1 ↔ _
  rw [BitVec.slt, e]
  by_cases hc : ((i 1).val : ℤ) < w.toInt <;> simp [hc]

/-- an expert that is not new is the one of the tile before. -/
theorem not_new (h : ¬New c i e) : (i 1).val ≠ 0 ∧ teW c i e = peW c i e := by
  unfold New at h
  constructor
  · intro h0
    apply h
    rw [h0]
    generalize Scalar.cmpi .ne (teW c i e) (peW c i e) = f
    revert f
    decide
  · by_contra hne
    apply h
    have : Scalar.cmpi .ne (teW c i e) (peW c i e) = 1#1 := by
      show BitVec.ofBool (teW c i e != peW c i e) = 1#1
      rw [bne_iff_ne.2 hne]
      rfl
    rw [this]
    generalize Scalar.cmpi .eq (BitVec.ofNat 32 (i 1).val) 0#32 = f
    revert f
    decide

end Which

end Cert.ExpertDown

end
-- ==== Proof.DownCall.lean ====
/- The call expert_down as a whole: what its points leave, the weights kept from point to point, and its launch under tables
   whose blocks lie inside the weights. -/
module

public import proofs.«01_k».proof.Proof.DownRun

@[expose] public section

set_option maxRecDepth 16384

noncomputable section

namespace Cert.ExpertDown

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's arrays and tables -/

/-- A buffer when the region is entered: as launched, since the program is the region alone. -/
abbrev V (c : Dev nD) (b : Ref sig .tc) : Buf (Elt F) ((c : Thread nD τ).loc b) := m ((c : Thread nD τ).loc b)

theorem program_is_region (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents; there is one device. -/
def tables : pre0.Contents (Elt F) := fun j => V m (0 : Dev nD) (pre0.ref j)

theorem V_tables (c : Dev nD) (j : Fin 2) : V m c (pre0.ref j) = tables m j := by
  obtain rfl : c = 0 := Subsingleton.elim _ _
  rfl

/-- Every block the tables select lies inside the weights. -/
abbrev Inside : Prop := ok0 (F := F) (tables m)
abbrev adm (hO : Inside m) : (pcfg0 (F := F)).Adm := ⟨tables m, hO⟩
abbrev cfgM (hO : Inside m) : Pipeline.Cfg sig Λ₀ := cfg0 (adm m hO)

/-- The experts' table and the count, as the body reads them. -/
abbrev eT (c : Dev nD) : Table (F := F) c teM := tables m 0
abbrev nT (c : Dev nD) : Table (F := F) c nuM := tables m 1

theorem tables_held (c : Dev nD) : (Pipeline.ΦT pre0 (tables m) c : sProp 𝕄) = iprop(held c teM (eT m c) ∗ held c nuM (nT m c)) := by
  unfold Pipeline.ΦT Pipeline.prefHeld
  rw [show (Finset.univ : Finset (Fin 2)) = insert (0 : Fin 2) {(1 : Fin 2)} from by decide, bigSep_insert (by decide), bigSep_singleton]
  rfl

/-! ## The blocks -/

/-- The block of a window at a point. -/
def blkAt (hO : Inside m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The rows and the weights of a point. -/
abbrev rowsAt (hO : Inside m) (c : Dev nD) (t : Fin (cfgM m hO).N) : Vec F S512x2048 .bf16 := blkAt m hO c 0 t
abbrev weightsAt (hO : Inside m) (c : Dev nD) (t : Fin (cfgM m hO).N) : Vec F S1x1x2048x1024 .f32 := blkAt m hO c 1 t

theorem point_lt (hO : Inside m) (t : Fin (cfgM m hO).N) : t.val < 160 := lt_of_lt_of_eq t.isLt (show (cfgM m hO).N = 160 from N_0)
theorem column_of_point (t : Fin grid0.N) : ((grid0.coords t) 0).val = t.val / 40 % 4 := Pipeline.Grid.coords_val t 0 (by decide) rfl
theorem tile_of_point (t : Fin grid0.N) : ((grid0.coords t) 1).val = t.val / 1 % 40 := Pipeline.Grid.coords_val t 1 (by decide) rfl
theorem column_of (hO : Inside m) (t : Fin (cfgM m hO).N) : ((grid0.coords t) 0).val = t.val / 40 := by
  have h : ((grid0.coords t) 0).val = t.val / 40 % 4 := column_of_point t
  have := point_lt m hO t
  omega
theorem tile_of (hO : Inside m) (t : Fin (cfgM m hO).N) : ((grid0.coords t) 1).val = t.val % 40 := by
  have h : ((grid0.coords t) 1).val = t.val / 1 % 40 := tile_of_point t
  omega

/-- The expert of a point's tile is one of the eight. -/
theorem expert_lt (hO : Inside m) (c : Dev nD) (t : Fin (cfgM m hO).N) : (teW c (grid0.coords t) (eT m c)).toNat < 8 := by
  obtain ⟨h, -⟩ := hO (grid0.coords t)
  have h1 := h 1
  have : ((teW c (grid0.coords t) (eT m c)).toNat + 1) * 1 ≤ 8 := h1
  omega

/-- The rows of a point, in the array; -/
theorem rows_apply (hO : Inside m) (c : Dev nD) (t : Fin (cfgM m hO).N) (r : Fin 512) (k : Fin 2048) :
    rowsAt m hO c t (ix2 r k) = V m c main_arg2 (ix2 ⟨t.val % 40 * 512 + r.val, by omega⟩ k) := by
  show V m c main_arg2 _ = _
  congr 1
  funext a
  apply Fin.ext
  match a with
  | ⟨0, _⟩ =>
    show (BitVec.ofNat 32 ((grid0.coords t) 1).val).toNat * 512 + 1 * r.val = _
    rw [tile_of m hO t, BitVec.toNat_ofNat]
    show _ = t.val % 40 * 512 + r.val
    omega
  | ⟨1, _⟩ => show 0 * 2048 + 1 * k.val = k.val; omega

/-- the weights of a point: its tile's expert's, its block of columns. -/
theorem weights_apply (hO : Inside m) (c : Dev nD) (t : Fin (cfgM m hO).N) (k : Fin 2048) (l : Fin 1024) :
    weightsAt m hO c t (ix4 0 0 k l) = V m c main_arg3 (ix4 0 ⟨(teW c (grid0.coords t) (eT m c)).toNat, expert_lt m hO c t⟩ k
      ⟨t.val / 40 * 1024 + l.val, by have := point_lt m hO t; omega⟩) := by
  show V m c main_arg3 _ = _
  congr 1
  funext a
  apply Fin.ext
  match a with
  | ⟨0, _⟩ => rfl
  | ⟨1, _⟩ => show (teW c (grid0.coords t) (eT m c)).toNat * 1 + 1 * 0 = (teW c (grid0.coords t) (eT m c)).toNat; omega
  | ⟨2, _⟩ => show 0 * 2048 + 1 * k.val = k.val; omega
  | ⟨3, _⟩ =>
    show (BitVec.ofNat 32 ((grid0.coords t) 0).val).toNat * 1024 + 1 * l.val = t.val / 40 * 1024 + l.val
    have := point_lt m hO t
    rw [column_of m hO t, BitVec.toNat_ofNat]
    omega

/-- A used tile whose expert is not new has the weights of the point before, which is used too. -/
theorem same_weights (hO : Inside m) (c : Dev nD) (t : Fin (cfgM m hO).N) (hu : Used c (grid0.coords t) (nT m c)) (hn : ¬New c (grid0.coords t) (eT m c)) :
    ∃ s : Fin (cfgM m hO).N, s.val + 1 = t.val ∧ Used c (grid0.coords s) (nT m c) ∧ weightsAt m hO c s = weightsAt m hO c t := by
  obtain ⟨h0, he⟩ := not_new c _ _ hn
  rw [tile_of m hO t] at h0
  refine ⟨⟨t.val - 1, lt_of_le_of_lt (Nat.sub_le _ _) t.isLt⟩, by show t.val - 1 + 1 = t.val; omega, ?_, ?_⟩
  · rw [used_iff, tile_of m hO] at hu ⊢
    refine lt_of_le_of_lt ?_ hu
    show (((t.val - 1) % 40 : ℕ) : ℤ) ≤ ((t.val % 40 : ℕ) : ℤ)
    omega
  · have hw : teW c (grid0.coords ⟨t.val - 1, lt_of_le_of_lt (Nat.sub_le _ _) t.isLt⟩) (eT m c) = teW c (grid0.coords t) (eT m c) := by
      rw [he, teW_eq, peW_eq]
      congr 2
      apply Fin.ext
      show ((grid0.coords ⟨t.val - 1, lt_of_le_of_lt (Nat.sub_le _ _) t.isLt⟩) 1).val = ((grid0.coords t) 1).val - 1
      rw [tile_of m hO t, tile_of m hO ⟨t.val - 1, _⟩]
      show (t.val - 1) % 40 = t.val % 40 - 1
      omega
    funext y
    obtain ⟨k, l, rfl⟩ : ∃ (k : Fin 2048) (l : Fin 1024), y = ix4 0 0 k l :=
      ⟨y 2, y 3, by
        funext a
        match a with
        | ⟨0, _⟩ => exact Subsingleton.elim (α := Fin 1) _ _
        | ⟨1, _⟩ => exact Subsingleton.elim (α := Fin 1) _ _
        | ⟨2, _⟩ => rfl
        | ⟨3, _⟩ => rfl⟩
    rw [weights_apply, weights_apply]
    congr 1
    funext a
    apply Fin.ext
    match a with
    | ⟨0, _⟩ => rfl
    | ⟨1, _⟩ =>
      show (teW c (grid0.coords ⟨t.val - 1, lt_of_le_of_lt (Nat.sub_le _ _) t.isLt⟩) (eT m c)).toNat = (teW c (grid0.coords t) (eT m c)).toNat
      rw [hw]
    | ⟨2, _⟩ => rfl
    | ⟨3, _⟩ =>
      show (t.val - 1) / 40 * 1024 + l.val = t.val / 40 * 1024 + l.val
      omega

/-! ## What the points leave -/

open Classical in
/-- The block a point leaves. -/
def leaves (hO : Inside m) (c : Dev nD) (t : Fin (cfgM m hO).N) : Vec F S512x8x128 .f32 :=
  if Used c (grid0.coords t) (nT m c) then
    if New c (grid0.coords t) (eT m c) then slabwise (rowsAt m hO c t) (weightsAt m hO c t) else k0_pay3 (rowsAt m hO c t) (kept (weightsAt m hO c t))
  else k0_pay4

/-- The scratch before a point: after a used one it keeps that one's rounded weights. -/
def Carried (hO : Inside m) (c : Dev nD) (n : ℕ) (d : Vec F S2048x1024 .bf16) : Prop :=
  ∀ s : Fin (cfgM m hO).N, s.val + 1 = n → Used c (grid0.coords s) (nT m c) → d = kept (weightsAt m hO c s)

/-- The scratch, as the body is handed it. -/
abbrev scratchM : Memref sig .tc .vmem S2048x1024 .bf16 := Memref.whole cc0_scratch0

/-- What holds before a point: the scratch as said, the generator's register, the tables. -/
def Inv (hO : Inside m) (c : Dev nD) (n : ℕ) : sProp 𝕄 :=
  iprop(((∃ d, ⌜Carried m hO c n d⌝ ∗ owns (c : Thread nD τ) scratchM fullShare d) ∗ (∃ r, prngReg c r)) ∗ held c teM (eT m c) ∗ held c nuM (nT m c))

theorem rest_eq (c : Dev nD) :
    (Pipeline.ΦA spec0 c : sProp 𝕄) = iprop(iprop((∃ d, owns (c : Thread nD τ) scratchM fullShare d)) ∗ (∃ r, prngReg c r)) := by
  unfold Pipeline.ΦA
  rw [scopedRest0_eq]
  simp only [scratchM, owns_whole]
  try rfl

/-- The launch's data: every array as launched, every input's block left in place, the result's as said. -/
def dats (hO : Inside m) (_ : Fin 1) (c : Dev nD) : Dat τ (Elt F) Unit ℕ (UR sig nD τ) ℕ (cfgM m hO) c where
  A w := V m c (Pipeline.arrRef spec0 w)
  after w t := match w with
    | ⟨0, _⟩ => blkAt m hO c 0 t
    | ⟨1, _⟩ => blkAt m hO c 1 t
    | ⟨2, _⟩ => leaves m hO c t
  Φ t := Inv m hO c t.val
  q _ := fullShare
  owed _ := 0

theorem arrays_eq (hO : Inside m) (c : Dev nD) (w : Fin (cfgM m hO).W) : (dats m hO 0 c).A w = V m c (Pipeline.arrRef spec0 w) := by
  dsimp only [dats]

theorem inv_at (hO : Inside m) (c : Dev nD) (t : Fin ((cfgM m hO).N + 1)) : (dats m hO 0 c).Φ t = Inv m hO c t.val := by
  dsimp only [dats]

theorem after0 (hO : Inside m) (c : Dev nD) (t : Fin (cfgM m hO).N) : (dats m hO 0 c).after 0 t = blkAt m hO c 0 t := by dsimp only [dats]; try rfl
theorem after1 (hO : Inside m) (c : Dev nD) (t : Fin (cfgM m hO).N) : (dats m hO 0 c).after 1 t = blkAt m hO c 1 t := by dsimp only [dats]; try rfl
theorem after2 (hO : Inside m) (c : Dev nD) (t : Fin (cfgM m hO).N) : (dats m hO 0 c).after 2 t = leaves m hO c t := by dsimp only [dats]; try rfl

/-- An input's buffer holds its block at every point. -/
theorem before0 (hO : Inside m) (c : Dev nD) (t : Fin (cfgM m hO).N) (d) : (dats m hO 0 c).before 0 t d = blkAt m hO c 0 t :=
  ((dats m hO 0 c).before_in_eq_fetched 0 rfl (fun _ => rfl) (fun _ _ _ => rfl)
    (fun t => by rw [after0]; unfold Dat.blockOf blkAt; rw [arrays_eq]; try rfl) t d).trans
    (by unfold Dat.fetched Dat.blockOf blkAt; rw [arrays_eq]; try rfl)
theorem before1 (hO : Inside m) (c : Dev nD) (t : Fin (cfgM m hO).N) (d) : (dats m hO 0 c).before 1 t d = blkAt m hO c 1 t :=
  ((dats m hO 0 c).before_in_eq_fetched 1 rfl (fun _ => rfl) (fun _ _ _ => rfl)
    (fun t => by rw [after1]; unfold Dat.blockOf blkAt; rw [arrays_eq]; try rfl) t d).trans
    (by unfold Dat.fetched Dat.blockOf blkAt; rw [arrays_eq]; try rfl)

/-- The result's block is written back at every point. -/
theorem flush2 (hO : Inside m) : ∀ t : Fin (cfgM m hO).N, ((cfgM m hO).win 2).flush t = true :=
  (fun t => (Pipeline.Window.flushOf_reads cc0_transform_2 reads0_2 hreads0_2 1 (by decide) (by decide)
    (Pipeline.Window.sep_of_coord cc0_transform_2 1 0 (fun _ => rfl) (by decide)) (P := 1) (m := 0) (by decide) rfl t).mpr (Nat.mod_one _) :
    ∀ t : Fin grid0.N, Pipeline.Window.flushOf grid0 true cc0_transform_2 t = true)

/-! ## The body at a point -/

/-- The buffers of a point. -/
abbrev buf0 (hO : Inside m) (t : Fin (cfgM m hO).N) : Memref sig .tc .vmem S512x2048 .bf16 := spec0_0.stage ((cfgM m hO).slots t 0)
abbrev buf1 (hO : Inside m) (t : Fin (cfgM m hO).N) : Memref sig .tc .vmem S1x1x2048x1024 .f32 := spec0_1.stage ((cfgM m hO).slots t 1)
abbrev buf2 (hO : Inside m) (t : Fin (cfgM m hO).N) : Memref sig .tc .vmem S512x8x128 .f32 := spec0_2.stage ((cfgM m hO).slots t 2)

abbrev bodyAt (hO : Inside m) (t : Fin (cfgM m hO).N) : Prog (TpuEff nD τ sig (Elt F) Λ₀ .tc) PUnit :=
  cc0_expert_down (grid0.coords t) teM (Memref.isWhole_whole _) nuM (Memref.isWhole_whole _)
    (buf0 m hO t) (hstage0_0 (((cfgM m hO).slots t 0).cast nbuf0_0)) (buf1 m hO t) (hstage0_1 (((cfgM m hO).slots t 1).cast nbuf0_1))
    (buf2 m hO t) (hstage0_2 (((cfgM m hO).slots t 2).cast nbuf0_2)) scratchM (Memref.isWhole_whole _)

theorem body_row (hO : Inside m) (t : Fin (cfgM m hO).N) :
    defs₀ (F := F) .tc (cfgM m hO).body ((cfgM m hO).bodyArgs t ((cfgM m hO).slots t)) = bodyAt m hO t := by
  unfold defs₀
  rw [Defs.onTc_tc]

set_option maxHeartbeats 1600000 in
/-- The body at any point leaves the block and the scratch as said. -/
theorem point (hO : Inside m) (c : Dev nD) (t : Fin (cfgM m hO).N) :
    iprop((dats m hO 0 c).Φ t.castSucc ∗ (dats m hO 0 c).owesAt () t.castSucc
      ∗ (∃ d, owns (c : Thread nD τ) (buf0 m hO t) fullShare ((dats m hO 0 c).before 0 t d))
      ∗ (∃ d, owns (c : Thread nD τ) (buf1 m hO t) fullShare ((dats m hO 0 c).before 1 t d))
      ∗ (∃ d, owns (c : Thread nD τ) (buf2 m hO t) fullShare ((dats m hO 0 c).before 2 t d)))
    ⊢ wp frame (wpE (defs₀ (F := F)) Variants.none c none) Set.univ (bodyAt m hO t) fun _ =>
      iprop((dats m hO 0 c).Φ t.succ ∗ (dats m hO 0 c).owesAt () t.succ
      ∗ owns (c : Thread nD τ) (buf0 m hO t) fullShare ((dats m hO 0 c).after 0 t)
      ∗ owns (c : Thread nD τ) (buf1 m hO t) fullShare ((dats m hO 0 c).after 1 t)
      ∗ owns (c : Thread nD τ) (buf2 m hO t) fullShare ((dats m hO 0 c).after 2 t)) := by
  simp only [before0, before1]
  rw [show (dats m hO 0 c).owesAt () t.succ = (dats m hO 0 c).owesAt () t.castSucc from rfl, after0, after1, after2,
    inv_at, inv_at, Fin.val_succ, Fin.val_castSucc]
  unfold Inv
  have c1 := cond1_iff c (grid0.coords t) (eT m c) (nT m c)
  have c2 := cond2_iff c (grid0.coords t) (eT m c) (nT m c)
  have c3 := cond3_iff c (grid0.coords t) (nT m c)
  by_cases hu : Used c (grid0.coords t) (nT m c)
  · by_cases hn : New c (grid0.coords t) (eT m c)
    · rw [show leaves m hO c t = slabwise (rowsAt m hO c t) (weightsAt m hO c t) from by unfold leaves; rw [if_pos hu, if_pos hn]]
      iintro ⟨⟨⟨⟨%d, -, HS⟩, Hg⟩, HT0, HT1⟩, Ho, ⟨%d0, H0⟩, ⟨%d1, H1⟩, ⟨%d2, H2⟩⟩
      iapply (body_new c (grid0.coords t) _ _ _ _ _ _ _ _ (rowsAt m hO c t) (weightsAt m hO c t) (eT m c) (nT m c)
        (c1.2 ⟨hu, hn⟩) (fun h => (c2.1 h).2 hn) (fun h => c3.1 h hu) Set.univ _)
      isplitl [H0]
      · iexact H0
      isplitl [H1]
      · iexact H1
      isplitl [H2]
      · iexists _
        iexact H2
      isplitl [HS]
      · iexists _
        iexact HS
      isplitl [HT0]
      · iexact HT0
      isplitl [HT1]
      · iexact HT1
      iintro ⟨H0, H1, H2, HS, HT0, HT1⟩
      isplitl [HS Hg HT0 HT1]
      · isplitl [HS Hg]
        · isplitl [HS]
          · iexists _
            isplitr
            swap
            · iexact HS
            ipureintro
            intro s hs _
            obtain rfl : s = t := Fin.ext (Nat.succ.inj hs)
            rfl
          iexact Hg
        isplitl [HT0]
        · iexact HT0
        iexact HT1
      isplitl [Ho]
      · iexact Ho
      isplitl [H0]
      · iexact H0
      isplitl [H1]
      · iexact H1
      iexact H2
    · rw [show leaves m hO c t = k0_pay3 (rowsAt m hO c t) (kept (weightsAt m hO c t)) from by unfold leaves; rw [if_pos hu, if_neg hn]]
      obtain ⟨s, hs, hus, hws⟩ := same_weights m hO c t hu hn
      iintro ⟨⟨⟨⟨%d, %hd, HS⟩, Hg⟩, HT0, HT1⟩, Ho, ⟨%d0, H0⟩, ⟨%d1, H1⟩, ⟨%d2, H2⟩⟩
      obtain rfl : d = kept (weightsAt m hO c t) := (hd s hs hus).trans (congrArg kept hws)
      iapply (body_same c (grid0.coords t) _ _ _ _ _ _ _ _ (rowsAt m hO c t) (weightsAt m hO c t) (eT m c) (nT m c)
        (fun h => hn (c1.1 h).2) (c2.2 ⟨hu, hn⟩) (fun h => c3.1 h hu) _ Set.univ _)
      isplitl [H0]
      · iexact H0
      isplitl [H1]
      · iexact H1
      isplitl [H2]
      · iexists _
        iexact H2
      isplitl [HS]
      · iexact HS
      isplitl [HT0]
      · iexact HT0
      isplitl [HT1]
      · iexact HT1
      iintro ⟨H0, H1, H2, HS, HT0, HT1⟩
      isplitl [HS Hg HT0 HT1]
      · isplitl [HS Hg]
        · isplitl [HS]
          · iexists _
            isplitr
            swap
            · iexact HS
            ipureintro
            intro s hs _
            obtain rfl : s = t := Fin.ext (Nat.succ.inj hs)
            rfl
          iexact Hg
        isplitl [HT0]
        · iexact HT0
        iexact HT1
      isplitl [Ho]
      · iexact Ho
      isplitl [H0]
      · iexact H0
      isplitl [H1]
      · iexact H1
      iexact H2
  · rw [show leaves m hO c t = k0_pay4 from by unfold leaves; rw [if_neg hu]]
    iintro ⟨⟨⟨⟨%d, -, HS⟩, Hg⟩, HT0, HT1⟩, Ho, ⟨%d0, H0⟩, ⟨%d1, H1⟩, ⟨%d2, H2⟩⟩
    iapply (body_unused c (grid0.coords t) _ _ _ _ _ _ _ _ (rowsAt m hO c t) (weightsAt m hO c t) (eT m c) (nT m c)
      (fun h => hu (c1.1 h).1) (fun h => hu (c2.1 h).1) (c3.2 hu) _ Set.univ _)
    isplitl [H0]
    · iexact H0
    isplitl [H1]
    · iexact H1
    isplitl [H2]
    · iexists _
      iexact H2
    isplitl [HS]
    · iexact HS
    isplitl [HT0]
    · iexact HT0
    isplitl [HT1]
    · iexact HT1
    iintro ⟨H0, H1, H2, HS, HT0, HT1⟩
    isplitl [HS Hg HT0 HT1]
    · isplitl [HS Hg]
      · isplitl [HS]
        · iexists _
          isplitr
          swap
          · iexact HS
          ipureintro
          intro s hs hus
          obtain rfl : s = t := Fin.ext (Nat.succ.inj hs)
          exact absurd hus hu
        iexact Hg
      isplitl [HT0]
      · iexact HT0
      iexact HT1
    isplitl [Ho]
    · iexact Ho
    isplitl [H0]
    · iexact H0
    isplitl [H1]
    · iexact H1
    iexact H2

/-- A block that is written back is left as said, idle or not. -/
theorem result_left (hO : Inside m) (c : Dev nD) (t : Fin (cfgM m hO).N) :
    (owns (c : Thread nD τ) (buf2 m hO t) fullShare ((dats m hO 0 c).after 2 t) : sProp 𝕄)
      ⊢ match (cfgM m hO).idle 2 ((cfgM m hO).grid.coords t) with
        | true =>
          match ((cfgM m hO).win 2).flush t with
          | false => iprop(∃ d, owns (c : Thread nD τ) (((cfgM m hO).win 2).stage ((cfgM m hO).slots t 2)) fullShare ((dats m hO 0 c).before 2 t d))
          | true => owns (c : Thread nD τ) (((cfgM m hO).win 2).stage ((cfgM m hO).slots t 2)) fullShare ((dats m hO 0 c).after 2 t)
        | false => owns (c : Thread nD τ) (((cfgM m hO).win 2).stage ((cfgM m hO).slots t 2)) fullShare ((dats m hO 0 c).after 2 t) := by
  have hf := flush2 m hO t
  generalize (cfgM m hO).idle 2 ((cfgM m hO).grid.coords t) = b
  generalize ((cfgM m hO).win 2).flush t = f at hf ⊢
  subst hf
  cases b
  · exact Entails.refl _
  · exact Entails.refl _

/-- The same at every point, as the launch asks it. -/
theorem points (hO : Inside m) (c : Dev nD) : BodyObligation (dats (F := F) m hO 0 c) (defs₀ (F := F)) Variants.none () Set.univ := fun t => by
  rw [bigSep_W0, bigSep_W0, body_row m hO]
  refine triple_restated (point m hO c t) rfl .rfl fun _ => ?_
  refine sep_mono_r (sep_mono_r (sep_mono_r (sep_mono_r ?_)))
  exact result_left m hO c t

/-- The invariant before the first point, and after the last. -/
theorem enter (hO : Inside m) (c : Dev nD) : iprop(Pipeline.ΦA spec0 c ∗ Pipeline.ΦT pre0 (tables m) c) ⊢ (dats m hO 0 c).Φ 0 := by
  rw [show (dats m hO 0 c).Φ 0 = Inv m hO c 0 from rfl, rest_eq, tables_held]
  unfold Inv
  iintro ⟨⟨⟨%d, HS⟩, Hg⟩, HT0, HT1⟩
  isplitl [HS Hg]
  · isplitl [HS]
    · iexists _
      isplitr
      swap
      · iexact HS
      ipureintro
      intro s hs
      exact absurd hs (Nat.succ_ne_zero _)
    iexact Hg
  isplitl [HT0]
  · iexact HT0
  iexact HT1

theorem leave (hO : Inside m) (c : Dev nD) : (dats m hO 0 c).Φ (Fin.last (cfgM m hO).N) ⊢ Pipeline.ΦA spec0 c := by
  rw [show (dats m hO 0 c).Φ (Fin.last (cfgM m hO).N) = Inv m hO c (cfgM m hO).N from rfl, rest_eq]
  unfold Inv
  iintro ⟨⟨⟨%d, -, HS⟩, Hg⟩, -⟩
  isplitl [HS]
  · iexists _
    iexact HS
  iexact Hg

/-! ## The launch -/

set_option backward.isDefEq.respectTransparency.types false in
/-- The program runs; every array ends as the points' blocks make it, and every counter at zero. -/
theorem run (hO : Inside m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (points m hO c).loose) (hshare := fun c => (dats m hO 0 c).share_full fun _ => rfl)
    (howed := fun _ _ => rfl) (V := V m) (hmain := program_is_region m Variants.none) (hA := arrays_eq m hO) (hpf := V_tables m)
    (hin := enter m hO) (hout := leave m hO)

/-- The program runs, the arguments and the counters end as launched, and the result is what the points' blocks make it. -/
theorem run_result (hO : Inside m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ (r.2.sem = fun _ => 0)
      ∧ ∀ c : Dev nD, r.2.mem ((c.tc : Thread nD τ).loc main_v0) = (dats m hO 0 c).arrAt 2 (cfgM m hO).N) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (arrays_eq m hO c 0)),
      ((h.1 c).1 1).trans (((dats m hO 0 c).arrAt_in 1 rfl _).trans (arrays_eq m hO c 1))⟩, h.2, fun c => (h.1 c).1 2⟩) (run m ρ hO)

/-- The frame. -/
theorem frame_run (hO : Inside m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨h.1, h.2.1⟩) (run_result m ρ hO)

end Cert.ExpertDown

end
-- ==== Proof.DownTile.lean ====
/- The call expert_down, at one point: both ways to multiply a tile of rows by its expert's weights are the same product. -/
module

public import proofs.«01_k».proof.Proof.DownCall
public import proofs.«01_k».proof.Proof.Sums
public import Idealize.ShloMosaic.Lib.IdealHost

@[expose] public section

set_option maxRecDepth 16384

noncomputable section

namespace Cert.ExpertDown

open Cert.Kernel7Ideal Cert.Kernel7Ideal.Gen
open Idealize.ShloMosaic Idealize.ShloMosaic.TcCoe Idealize.ShloMosaic.Tactic Idealize.ShloMosaic.StableHlo
open Idealize.ShloMosaic.Pipeline (Dat)

/-! ## A block's value -/

/-- Four slabs of 512. -/
theorem sum_four (f : Fin 2048 → EReal) :
    ∑ k, f k = (∑ j : Fin 512, f ⟨0 + j.val, by omega⟩) + (∑ j : Fin 512, f ⟨512 + j.val, by omega⟩) + (∑ j : Fin 512, f ⟨1024 + j.val, by omega⟩)
      + ∑ j : Fin 512, f ⟨1536 + j.val, by omega⟩ := by
  rw [show ∑ k, f k = ∑ k : Fin (4 * 512), f k from rfl, Cert.Sums.sum_slabs 4 512, Fin.sum_univ_four]
  refine congrArg₂ (fun a b : EReal => a + b) (congrArg₂ (fun a b : EReal => a + b) (congrArg₂ (fun a b : EReal => a + b) ?_ ?_) ?_) ?_
  · exact Finset.sum_congr rfl fun j _ => congrArg f (Fin.ext (by show 0 * 512 + j.val = 0 + j.val; omega))
  · exact Finset.sum_congr rfl fun j _ => congrArg f (Fin.ext (by show 1 * 512 + j.val = 512 + j.val; omega))
  · exact Finset.sum_congr rfl fun j _ => congrArg f (Fin.ext (by show 2 * 512 + j.val = 1024 + j.val; omega))
  · exact Finset.sum_congr rfl fun j _ => congrArg f (Fin.ext (by show 3 * 512 + j.val = 1536 + j.val; omega))

/-- The column of a block that its head `h`, lane `d` is. -/
abbrev lane (h : Fin 8) (d : Fin 128) : Fin 1024 := ⟨h.val * 128 + d.val, by omega⟩

/-- Row `r`, column `l` of the product of a block of rows and one of weights. -/
def part (a : Vec Ideal S512x2048 .bf16) (w : Vec Ideal S1x1x2048x1024 .f32) (r : Fin 512) (l : Fin 1024) : EReal :=
  ∑ k : Fin 2048, (a (ix2 r k) : EReal) * w (ix4 0 0 k l)

/-- A slab of the weights at an element. -/
theorem slab_apply (w : Vec Ideal S1x1x2048x1024 .f32) (o : ℕ) (ho : o + 512 ≤ 2048) (inb) (k : Fin 512) (l : Fin 1024) :
    slab (F := Ideal) w o inb (ix4 0 0 k l) = w (ix4 0 0 ⟨o + k.val, by omega⟩ l) :=
  View.ld_unit_apply_of _ _ _ _ _ _ (fun k => by
    fin_cases k
    · rfl
    · rfl
    · rfl
    · show l.val = 0 + l.val
      omega)

/-- The products slab by slab, of any four slabs; -/
theorem pay2_apply (a : Vec Ideal S512x2048 .bf16) (w0 w1 w2 w3 : Vec Ideal S1x1x512x1024 .f32) (r : Fin 512) (h : Fin 8) (d : Fin 128) :
    k0_pay2 (F := Ideal) a (k0_pay11 a w0 w1 w2) (k0_pay12 w3) (ix3 r h d)
      = (∑ k : Fin 512, (a (ix2 r ⟨0 + k.val, by omega⟩) : EReal) * w0 (ix4 0 0 k (lane h d)))
        + (∑ k : Fin 512, (a (ix2 r ⟨512 + k.val, by omega⟩) : EReal) * w1 (ix4 0 0 k (lane h d)))
        + (∑ k : Fin 512, (a (ix2 r ⟨1024 + k.val, by omega⟩) : EReal) * w2 (ix4 0 0 k (lane h d)))
        + ∑ k : Fin 512, (a (ix2 r ⟨1536 + k.val, by omega⟩) : EReal) * w3 (ix4 0 0 k (lane h d)) := by
  unfold k0_pay2 k0_pay11 k0_pay12 k0_pay5 k0_pay7 k0_pay9
  pointwise [dot_S512x512_S512x1024_S512x1024_1_0_0_1_n_n]

/-- the product with the kept weights; -/
theorem pay3_apply (a : Vec Ideal S512x2048 .bf16) (w : Vec Ideal S2048x1024 .bf16) (r : Fin 512) (h : Fin 8) (d : Fin 128) :
    k0_pay3 (F := Ideal) a w (ix3 r h d) = ∑ k : Fin 2048, (a (ix2 r k) : EReal) * w (ix2 k (lane h d)) := by
  unfold k0_pay3
  pointwise [dot_S512x2048_S2048x1024_S512x1024_1_0_0_1_n_n]

/-- a tile not used. -/
theorem pay4_apply (r : Fin 512) (h : Fin 8) (d : Fin 128) : k0_pay4 (F := Ideal) (ix3 r h d) = (0 : EReal) := by
  unfold k0_pay4
  pointwise

/-- The slabs' products together are the whole product. -/
theorem slabwise_apply (a : Vec Ideal S512x2048 .bf16) (w : Vec Ideal S1x1x2048x1024 .f32) (r : Fin 512) (h : Fin 8) (d : Fin 128) :
    slabwise (F := Ideal) a w (ix3 r h d) = part a w r (lane h d) := by
  have e : ∀ (o : ℕ) (ho : o + 512 ≤ 2048) (inb), ∑ k : Fin 512, (a (ix2 r ⟨o + k.val, by omega⟩) : EReal) * slab (F := Ideal) w o inb (ix4 0 0 k (lane h d))
      = ∑ k : Fin 512, (a (ix2 r ⟨o + k.val, by omega⟩) : EReal) * w (ix4 0 0 ⟨o + k.val, by omega⟩ (lane h d)) := fun o ho inb =>
    Finset.sum_congr rfl fun k _ => congrArg (fun z : EReal => (a (ix2 r ⟨o + k.val, by omega⟩) : EReal) * z) (slab_apply w o ho inb k (lane h d))
  unfold slabwise part
  rw [pay2_apply, e 0 (by omega), e 512 (by omega), e 1024 (by omega), e 1536 (by omega), sum_four]

/-- A rounded slab at an element. -/
theorem round_apply (w : Vec Ideal S1x1x512x1024 .f32) (k : Fin 512) (l : Fin 1024) : k0_pay6 (F := Ideal) w (ix2 k l) = w (ix4 0 0 k l) := by
  unfold k0_pay6 k0_pay5
  pointwise

/-- A rounded slab, kept: the weights at its place. -/
theorem kept_piece (w : Vec Ideal S1x1x2048x1024 .f32) (o : ℕ) (ho : o + 512 ≤ 2048) (inb) (inb') (x : S512x1024.Idx) :
    k0_pay6 (F := Ideal) (slab w o inb) x
      = (fun y : S2048x1024.Idx => (w (ix4 0 0 (y 0) (y 1)) : EReal)) ((Rect.unit (s := S2048x1024) ![o, 0] S512x1024.size inb').emb x) := by
  obtain ⟨k, l, rfl⟩ : ∃ (k : Fin 512) (l : Fin 1024), x = ix2 k l := ⟨x 0, x 1, by funext k; fin_cases k <;> rfl⟩
  rw [round_apply, slab_apply w o ho]
  show w _ = w _
  congr 1
  funext a
  apply Fin.ext
  match a with
  | ⟨0, _⟩ => rfl
  | ⟨1, _⟩ => rfl
  | ⟨2, _⟩ => show o + k.val = o + 1 * k.val; omega
  | ⟨3, _⟩ => show l.val = 0 + 1 * l.val; omega

/-- The kept weights are the weights. -/
theorem kept_apply (w : Vec Ideal S1x1x2048x1024 .f32) (k : Fin 2048) (l : Fin 1024) : kept (F := Ideal) w (ix2 k l) = w (ix4 0 0 k l) := by
  have h := kept_piece w
  unfold kept
  generalize hL : ([_, _, _, _] : List (View.Piece (Elt Ideal) S2048x1024 .bf16)) = L
  have hcov : ∃ p ∈ L, (ix2 k l : S2048x1024.Idx) ∈ p.1.set := by
    rw [← hL]
    refine View.cover_of_tiledL (s := S2048x1024) _ S512x1024.size ?_ (ix2 k l)
    sl_kernel_rfl
  have hp : ∀ p ∈ L, ∀ x, p.2 x = (fun y : S2048x1024.Idx => (w (ix4 0 0 (y 0) (y 1)) : EReal)) (p.1.emb x) := by
    rw [← hL]
    exact List.forall_mem_cons.2 ⟨h 1536 (by decide) (by decide) (by decide), List.forall_mem_cons.2 ⟨h 1024 (by decide) (by decide) (by decide),
      List.forall_mem_cons.2 ⟨h 512 (by decide) (by decide) (by decide), List.forall_mem_cons.2 ⟨h 0 (by decide) (by decide) (by decide), List.forall_mem_nil _⟩⟩⟩⟩
  clear hL
  exact View.canon_apply_of_pieces (Val := Elt Ideal) (e := .bf16) (fun y : S2048x1024.Idx => (w (ix4 0 0 (y 0) (y 1)) : EReal)) L hp (ix2 k l) hcov

/-- So both ways are one product. -/
theorem pay3_kept (a : Vec Ideal S512x2048 .bf16) (w : Vec Ideal S1x1x2048x1024 .f32) (r : Fin 512) (h : Fin 8) (d : Fin 128) :
    k0_pay3 (F := Ideal) a (kept w) (ix3 r h d) = part a w r (lane h d) := by
  rw [pay3_apply]
  exact Finset.sum_congr rfl fun k _ => congrArg (fun z : EReal => (a (ix2 r k) : EReal) * z) (kept_apply w k (lane h d))

end Cert.ExpertDown

end
-- ==== Proof.ExpertRef.lean ====
/- The references' choice of an expert: a column of ones and zeros over the rows, and the sum over the experts of the
   columns times the experts' results. -/
module

public import proofs.«01_k».proof.Proof.Sums
public import proofs.«01_k».proof.Proof.Gen.Reference7Ideal.Run
public import Idealize.ShloMosaic.Lib.IdealHost

@[expose] public section

set_option maxRecDepth 16384

noncomputable section

namespace Cert.ExpertRef

open Cert.Reference7Ideal Cert.Reference7Ideal.Facts₀ Idealize.ShloMosaic Idealize.ShloMosaic.StableHlo Idealize.ShloMosaic.Tactic

/-- The rows of the used tiles of expert `e`, as ones and zeros. -/
def column (te : IVec S40 32) (nu : IVec S1 32) (e : BitVec 32) : FVec Ideal S20480x1 .f32 :=
  shapeCast S20480x1 (broadcastInDim S40x512 ![0, 1] bcast_S40x1_S40x512_0_1 (broadcastInDim S40x1 ![0] bcast_S40_S40x1_0
    (uitofp .f32 (andi (cmpi .eq te (broadcastInDim S40 ![] bcast_S_S40 (constantI S_ 32 e)))
      (cmpi .slt (iotaInDim S40 32 0) (broadcastInDim S40 ![] bcast_S_S40 (shapeCast S_ nu shapeCasts_S1_S_)))))
    : FVec Ideal S40x1 .f32) : FVec Ideal S40x512 .f32) shapeCasts_S40x512_S20480x1

/-- The tile of a row. -/
abbrev tile (row : Fin 20480) : Fin 40 := ⟨row.val / 512, by omega⟩

/-- A row's expert; there are eight. -/
def expert (te : IVec S40 32) (row : Fin 20480) : Fin 8 := ⟨(te (ix1 (tile row))).toNat % 8, Nat.mod_lt _ (by decide)⟩

/-- A row's tile is used. -/
abbrev used (nu : IVec S1 32) (row : Fin 20480) : Prop := ((tile row).val : ℤ) < (nu (ix1 0)).toInt

/-- Two comparisons as a number: one where both hold. -/
theorem both_apply (x e n : BitVec 32) (j : Fin 40) :
    FloatOps.uitofp (F := Ideal) .f32 (IntOp.andi (IntOp.cmpi .eq x e) (IntOp.cmpi .slt (BitVec.ofNat 32 j.val) n))
      = if x = e ∧ (j.val : ℤ) < n.toInt then (1 : EReal) else 0 := by
  have hj : (BitVec.ofNat 32 j.val).toInt = (j.val : ℤ) := (by decide : ∀ j : Fin 40, (BitVec.ofNat 32 j.val).toInt = (j.val : ℤ)) j
  have hs : IntOp.cmpi .slt (BitVec.ofNat 32 j.val) n = BitVec.ofBool (decide ((j.val : ℤ) < n.toInt)) := by
    show BitVec.ofBool (BitVec.slt (BitVec.ofNat 32 j.val) n) = _
    rw [BitVec.slt, hj]
  have he : IntOp.cmpi .eq x e = BitVec.ofBool (decide (x = e)) := by
    show BitVec.ofBool (x == e) = _
    rfl
  rw [hs, he]
  by_cases h1 : x = e <;> by_cases h2 : (j.val : ℤ) < n.toInt <;> simp [h1, h2, FloatOps.uitofp, IntOp.andi]

/-- The column at a row: one where the row's tile is used and has the expert. -/
theorem column_apply (te : IVec S40 32) (nu : IVec S1 32) (e : BitVec 32) (row : Fin 20480) :
    column te nu e (ix2 row 0) = if te (ix1 (tile row)) = e ∧ used nu row then (1 : EReal) else 0 := by
  unfold column
  pointwise
  exact both_apply _ _ _ (tile row)

/-- Of the eight experts' terms only the row's own remains, where its tile is used. -/
theorem chosen (x : BitVec 32) (hx : x.toNat < 8) (u : Prop) [Decidable u] (f : Fin 8 → EReal) :
    (0 : EReal) + (if x = 0#32 ∧ u then 1 else 0) * f 0 + (if x = 1#32 ∧ u then 1 else 0) * f 1 + (if x = 2#32 ∧ u then 1 else 0) * f 2
        + (if x = 3#32 ∧ u then 1 else 0) * f 3 + (if x = 4#32 ∧ u then 1 else 0) * f 4 + (if x = 5#32 ∧ u then 1 else 0) * f 5
        + (if x = 6#32 ∧ u then 1 else 0) * f 6 + (if x = 7#32 ∧ u then 1 else 0) * f 7
      = if u then f ⟨x.toNat % 8, Nat.mod_lt _ (by decide)⟩ else 0 := by
  obtain ⟨n, rfl⟩ : ∃ n : Fin 8, x = BitVec.ofNat 32 n.val := ⟨⟨x.toNat, hx⟩, by simp⟩
  by_cases hu : u
  · fin_cases n <;> simp [hu]
  · simp [hu]

/-- A word that is at least 0 and below 8, as the comparisons say, is below 8 as a number. -/
theorem eight_of_bits (x : BitVec 32) (h0 : IntOp.cmpi .sge x 0#32 = 1#1) (h1 : IntOp.cmpi .slt x 8#32 = 1#1) : x.toNat < 8 := by
  have g0 : BitVec.sle 0#32 x = true := by
    have h : BitVec.ofBool (BitVec.sle 0#32 x) = 1#1 := h0
    by_contra hn
    rw [Bool.not_eq_true] at hn
    rw [hn] at h
    exact absurd h (by decide)
  have g1 : BitVec.slt x 8#32 = true := by
    have h : BitVec.ofBool (BitVec.slt x 8#32) = 1#1 := h1
    by_contra hn
    rw [Bool.not_eq_true] at hn
    rw [hn] at h
    exact absurd h (by decide)
  rw [BitVec.sle, decide_eq_true_eq] at g0
  rw [BitVec.slt, decide_eq_true_eq] at g1
  have e0 : (0#32 : BitVec 32).toInt = 0 := by decide
  have e8 : (8#32 : BitVec 32).toInt = 8 := by decide
  rw [e0] at g0
  rw [e8] at g1
  have hd := BitVec.toInt_eq_toNat_cond x
  split at hd <;> omega

end Cert.ExpertRef

end
-- ==== Proof.DownValue.lean ====
/- The call expert_down: every used tile of rows is multiplied by its expert's weights, the other tiles are zero. -/
module

public import proofs.«01_k».proof.Proof.DownTile
public import proofs.«01_k».proof.Proof.ExpertRef
public import Idealize.ShloMosaic.Lib.IdealHost

@[expose] public section

set_option maxRecDepth 16384

noncomputable section

namespace Cert.ExpertDown

open Cert.Kernel7Ideal Cert.Kernel7Ideal.Gen
open Idealize.ShloMosaic Idealize.ShloMosaic.TcCoe Idealize.ShloMosaic.Tactic Idealize.ShloMosaic.StableHlo
open Idealize.ShloMosaic.Pipeline (Dat)
open Cert.ExpertRef (expert used)

/-! ## The array -/

/-- Rows of the used tiles times their expert's weights; zero in the others. -/
def downAt (te : IVec S40 32) (nu : IVec S1 32) (A : FVec Ideal S20480x2048 .bf16) (W : FVec Ideal S2x8x2048x4096 .f32) (row : Fin 20480) (col : Fin 4096) : EReal :=
  if used nu row then ∑ k : Fin 2048, (A (ix2 row k) : EReal) * W (ix4 0 (expert te row) k col) else 0

def downArray (te : IVec S40 32) (nu : IVec S1 32) (A : FVec Ideal S20480x2048 .bf16) (W : FVec Ideal S2x8x2048x4096 .f32) : FVec Ideal S20480x32x128 .f32 :=
  fun y => downAt te nu A W (y 0) ⟨(y 1).val * 128 + (y 2).val, by
    have h1 : (y 1).val < 32 := (y 1).isLt
    have h2 : (y 2).val < 128 := (y 2).isLt
    omega⟩

section
variable (m : (ℓ : Loc nD τ sig) → Buf (Elt Ideal) ℓ) (hO : Inside m) (c : Dev nD)

/-- The arguments. -/
abbrev teA : IVec S40 32 := V m c main_arg0
abbrev nuA : IVec S1 32 := V m c main_arg1
abbrev rowsA : FVec Ideal S20480x2048 .bf16 := V m c main_arg2
abbrev weightsA : FVec Ideal S2x8x2048x4096 .f32 := V m c main_arg3

/-- What a point leaves, at an element. -/
theorem leaves_apply (t : Fin (cfgM m hO).N) (r : Fin 512) (h : Fin 8) (d : Fin 128) :
    leaves m hO c t (ix3 r h d) = downAt (teA m c) (nuA m c) (rowsA m c) (weightsA m c)
      ⟨t.val % 40 * 512 + r.val, by omega⟩ ⟨t.val / 40 * 1024 + (lane h d).val, by have := point_lt m hO t; omega⟩ := by
  have ht := tile_of m hO t
  have hrow : (t.val % 40 * 512 + r.val) / 512 = t.val % 40 := by omega
  have he : (teW c (grid0.coords t) (eT m c)) = teA m c (ix1 ⟨(t.val % 40 * 512 + r.val) / 512, by omega⟩) := by
    rw [teW_eq]
    obtain rfl : c = 0 := Subsingleton.elim _ _
    exact congrArg (fun x : Fin 40 => teA m 0 (ix1 x)) (Fin.ext (ht.trans hrow.symm))
  have hu : Used c (grid0.coords t) (nT m c) ↔ (((t.val % 40 * 512 + r.val) / 512 : ℕ) : ℤ) < (nuA m c (ix1 0)).toInt := by
    rw [used_iff, hrow, ht]
    obtain rfl : c = 0 := Subsingleton.elim _ _
    exact Iff.rfl
  have hp : part (rowsAt m hO c t) (weightsAt m hO c t) r (lane h d)
      = ∑ k : Fin 2048, (rowsA m c (ix2 ⟨t.val % 40 * 512 + r.val, by omega⟩ k) : EReal)
        * weightsA m c (ix4 0 (expert (teA m c) ⟨t.val % 40 * 512 + r.val, by omega⟩) k
            ⟨t.val / 40 * 1024 + (lane h d).val, by have := point_lt m hO t; omega⟩) := by
    unfold part
    refine Finset.sum_congr rfl fun k _ => congrArg₂ (fun a b : EReal => a * b) (rows_apply m hO c t r k) ((weights_apply m hO c t k (lane h d)).trans ?_)
    refine congrArg (fun e : Fin 8 => weightsA m c (ix4 0 e k ⟨t.val / 40 * 1024 + (lane h d).val, _⟩)) (Fin.ext ?_)
    have hlt := expert_lt m hO c t
    show (teW c (grid0.coords t) (eT m c)).toNat = _
    unfold expert
    rw [he] at hlt ⊢
    exact (Nat.mod_eq_of_lt hlt).symm
  unfold leaves downAt
  by_cases hc : Used c (grid0.coords t) (nT m c)
  · rw [if_pos hc, if_pos (hu.1 hc), ← hp]
    by_cases hn : New c (grid0.coords t) (eT m c)
    · rw [if_pos hn, slabwise_apply]
    · rw [if_neg hn, pay3_kept]
  · rw [if_neg hc, if_neg (fun h => hc (hu.2 h)), pay4_apply]

/-- A point's block of an array of the result's shape, read at an index. -/
theorem read2 (G : FVec Ideal S20480x32x128 .f32) (t : Fin (cfgM m hO).N) (r : Fin 512) (h : Fin 8) (d : Fin 128) :
    ((((cfgM m hO).win 2).blk t).view.read (Elt Ideal) G : Vec Ideal S512x8x128 .f32) (ix3 r h d)
      = G (ix3 ⟨t.val % 40 * 512 + r.val, by omega⟩ ⟨t.val / 40 * 8 + h.val, by have := point_lt m hO t; omega⟩ d) := by
  show G _ = _
  congr 1
  funext a
  apply Fin.ext
  have := point_lt m hO t
  match a with
  | ⟨0, _⟩ =>
    show (BitVec.ofNat 32 ((grid0.coords t) 1).val).toNat * 512 + 1 * r.val = t.val % 40 * 512 + r.val
    rw [tile_of m hO t, BitVec.toNat_ofNat]
    omega
  | ⟨1, _⟩ =>
    show (BitVec.ofNat 32 ((grid0.coords t) 0).val).toNat * 8 + 1 * h.val = t.val / 40 * 8 + h.val
    rw [column_of m hO t, BitVec.toNat_ofNat]
    omega
  | ⟨2, _⟩ => show 0 * 128 + 1 * d.val = d.val; omega

/-- What a point writes back is its block of the array. -/
theorem flushed_eq (t : Fin (cfgM m hO).N) : (dats m hO 0 c).flushed 2 t = (((cfgM m hO).win 2).blk t).view.read (Elt Ideal)
    (downArray (teA m c) (nuA m c) (rowsA m c) (weightsA m c)) := by
  show ((cfgM m hO).win 2).cut (grid0.coords t) ((dats m hO 0 c).after 2 t) = _
  rw [after2]
  generalize hG : downArray (teA m c) (nuA m c) (rowsA m c) (weightsA m c) = G
  have key : ∀ (r : Fin 512) (h : Fin 8) (d : Fin 128), leaves m hO c t (ix3 r h d)
      = ((((cfgM m hO).win 2).blk t).view.read (Elt Ideal) G : Vec Ideal S512x8x128 .f32) (ix3 r h d) := by
    intro r h d
    rw [read2, ← hG, leaves_apply]
    unfold downArray
    refine congrArg (downAt _ _ _ _ _) (Fin.ext ?_)
    show t.val / 40 * 1024 + (h.val * 128 + d.val) = (t.val / 40 * 8 + h.val) * 128 + d.val
    omega
  generalize leaves m hO c t = O at key ⊢
  refine funext fun (y : S512x8x128.Idx) => ?_
  have hy : y = ix3 (y 0) (y 1) (y 2) := by funext k; fin_cases k <;> rfl
  rw [hy]
  exact key (y 0) (y 1) (y 2)

/-- The array at the end. -/
theorem array_eq : (dats m hO 0 c).arrAt 2 (cfgM m hO).N = downArray (teA m c) (nuA m c) (rowsA m c) (weightsA m c) := by
  refine (dats m hO 0 c).arrAt_eq_of_cover 2 (downArray (teA m c) (nuA m c) (rowsA m c) (weightsA m c))
    (fun t _ => flushed_eq m hO c t) (fun (i : S20480x32x128.Idx) => ?_)
  have h0 : (i 0 : Nat) < 20480 := (i 0).isLt
  have h1 : (i 1 : Nat) < 32 := (i 1).isLt
  have h2 : (i 2 : Nat) < 128 := (i 2).isLt
  let t : Fin (cfgM m hO).N := ⟨(i 1 : Nat) / 8 * 40 + (i 0 : Nat) / 512, (by omega : _ < 160).trans_eq (show 160 = (cfgM m hO).N from N_0.symm)⟩
  have ht : t.val = (i 1 : Nat) / 8 * 40 + (i 0 : Nat) / 512 := rfl
  refine ⟨t, flush2 m hO t, ?_⟩
  show i ∈ ((View.whole main_v0).slice (((cfgM m hO).win 2).rect t)).set
  refine (congrArg (i ∈ ·) (View.set_slice_whole main_v0 (((cfgM m hO).win 2).rect t))).mpr (Rect.mem_set_unit.2 fun a => ?_)
  match a with
  | ⟨0, _⟩ =>
    show (BitVec.ofNat 32 ((grid0.coords t) 1).val).toNat * 512 ≤ (i 0 : Nat) ∧ (i 0 : Nat) < (BitVec.ofNat 32 ((grid0.coords t) 1).val).toNat * 512 + 512
    rw [tile_of m hO t, BitVec.toNat_ofNat, ht]
    omega
  | ⟨1, _⟩ =>
    show (BitVec.ofNat 32 ((grid0.coords t) 0).val).toNat * 8 ≤ (i 1 : Nat) ∧ (i 1 : Nat) < (BitVec.ofNat 32 ((grid0.coords t) 0).val).toNat * 8 + 8
    rw [column_of m hO t, BitVec.toNat_ofNat, ht]
    omega
  | ⟨2, _⟩ =>
    show 0 * 128 ≤ (i 2 : Nat) ∧ (i 2 : Nat) < 0 * 128 + 128
    omega

end

end Cert.ExpertDown

end
-- ==== Proof.DownEq.lean ====
/- The call expert_down against its reference: the reference adds up, over the eight experts, the experts' rows times the
   expert's product; of the eight terms only that of the row's own expert is not zero. -/
module

public import proofs.«01_k».proof.Proof.DownValue

@[expose] public section

set_option maxRecDepth 16384

noncomputable section

namespace Cert.ExpertDown

open Cert.Reference7Ideal Cert.Reference7Ideal.Facts₀ Idealize.ShloMosaic Idealize.ShloMosaic.TcCoe Idealize.ShloMosaic.StableHlo Idealize.ShloMosaic.Tactic
open Cert.ExpertRef

/-- An expert's rows times its product. -/
def refTerm (te : IVec S40 32) (nu : IVec S1 32) (A : FVec Ideal S20480x2048 .bf16) (W : FVec Ideal S2x8x2048x4096 .f32) (e : BitVec 32) (o : Fin 8)
    (sl : S2x8x2048x4096.Slices ![0, o.val, 0, 0] S1x1x2048x4096) : FVec Ideal S20480x4096 .f32 :=
  mulf (broadcastInDim S20480x4096 ![0, 1] bcast_S20480x1_S20480x4096_0_1 (column te nu e))
    (Host.dotGeneral dot_S20480x2048_S2048x4096_S20480x4096_1_0_0_1_n_n none (extf .f32 A bitsLt_bf16_f32 : FVec Ideal S20480x2048 .f32)
      (shapeCast S2048x4096 (extractStridedSlice S1x1x2048x4096 ![0, o.val, 0, 0] W sl : FVec Ideal S1x1x2048x4096 .f32)
        shapeCasts_S1x1x2048x4096_S2048x4096 : FVec Ideal S2048x4096 .f32))

/-- The reference: the sum over the experts. -/
def refDown (te : IVec S40 32) (nu : IVec S1 32) (A : FVec Ideal S20480x2048 .bf16) (W : FVec Ideal S2x8x2048x4096 .f32) : FVec Ideal S20480x32x128 .f32 :=
  shapeCast S20480x32x128 (addf (addf (addf (addf (addf (addf (addf (addf
    (broadcastInDim S20480x4096 ![] bcast_S_S20480x4096 (constant S_ .f32 0x00000000#32))
    (refTerm te nu A W 0#32 0 slices_S2x8x2048x4096_S1x1x2048x4096_0_0_0_0)) (refTerm te nu A W 1#32 1 slices_S2x8x2048x4096_S1x1x2048x4096_0_1_0_0))
    (refTerm te nu A W 2#32 2 slices_S2x8x2048x4096_S1x1x2048x4096_0_2_0_0)) (refTerm te nu A W 3#32 3 slices_S2x8x2048x4096_S1x1x2048x4096_0_3_0_0))
    (refTerm te nu A W 4#32 4 slices_S2x8x2048x4096_S1x1x2048x4096_0_4_0_0)) (refTerm te nu A W 5#32 5 slices_S2x8x2048x4096_S1x1x2048x4096_0_5_0_0))
    (refTerm te nu A W 6#32 6 slices_S2x8x2048x4096_S1x1x2048x4096_0_6_0_0)) (refTerm te nu A W 7#32 7 slices_S2x8x2048x4096_S1x1x2048x4096_0_7_0_0)
    : FVec Ideal S20480x4096 .f32) shapeCasts_S20480x4096_S20480x32x128

/-- Row `row`, column `col` of the product with expert `o`'s weights. -/
def product (A : FVec Ideal S20480x2048 .bf16) (W : FVec Ideal S2x8x2048x4096 .f32) (row : Fin 20480) (col : Fin 4096) (o : Fin 8) : EReal :=
  ∑ k : Fin 2048, (A (ix2 row k) : EReal) * W (ix4 0 o k col)

theorem refTerm_apply (te : IVec S40 32) (nu : IVec S1 32) (A : FVec Ideal S20480x2048 .bf16) (W : FVec Ideal S2x8x2048x4096 .f32) (e : BitVec 32) (o : Fin 8)
    (sl : S2x8x2048x4096.Slices ![0, o.val, 0, 0] S1x1x2048x4096) (row : Fin 20480) (col : Fin 4096) :
    refTerm te nu A W e o sl (ix2 row col) = (if te (ix1 (tile row)) = e ∧ used nu row then (1 : EReal) else 0) * product A W row col o := by
  rw [← column_apply]
  unfold refTerm product
  generalize column te nu e = C
  pointwise [dot_S20480x2048_S2048x4096_S20480x4096_1_0_0_1_n_n]

/-- A sum of eight arrays at an element, the columns split into heads and lanes. -/
theorem total_apply (t0 t1 t2 t3 t4 t5 t6 t7 : FVec Ideal S20480x4096 .f32) (row : Fin 20480) (h : Fin 32) (d : Fin 128) :
    (shapeCast S20480x32x128 (addf (addf (addf (addf (addf (addf (addf (addf
      (broadcastInDim S20480x4096 ![] bcast_S_S20480x4096 (constant S_ .f32 0x00000000#32)) t0) t1) t2) t3) t4) t5) t6) t7 : FVec Ideal S20480x4096 .f32)
      shapeCasts_S20480x4096_S20480x32x128 : FVec Ideal S20480x32x128 .f32) (ix3 row h d)
      = (0 : EReal) + t0 (ix2 row ⟨h.val * 128 + d.val, by omega⟩) + t1 (ix2 row ⟨h.val * 128 + d.val, by omega⟩) + t2 (ix2 row ⟨h.val * 128 + d.val, by omega⟩)
        + t3 (ix2 row ⟨h.val * 128 + d.val, by omega⟩) + t4 (ix2 row ⟨h.val * 128 + d.val, by omega⟩) + t5 (ix2 row ⟨h.val * 128 + d.val, by omega⟩)
        + t6 (ix2 row ⟨h.val * 128 + d.val, by omega⟩) + t7 (ix2 row ⟨h.val * 128 + d.val, by omega⟩) := by
  pointwise

/-- The reference at an element, where the tiles' experts are of the eight. -/
theorem refDown_apply (te : IVec S40 32) (nu : IVec S1 32) (A : FVec Ideal S20480x2048 .bf16) (W : FVec Ideal S2x8x2048x4096 .f32)
    (hte : ∀ j, (te (ix1 j)).toNat < 8) (row : Fin 20480) (h : Fin 32) (d : Fin 128) :
    refDown te nu A W (ix3 row h d) = downAt te nu A W row ⟨h.val * 128 + d.val, by omega⟩ := by
  refine Eq.trans ?_ (chosen (te (ix1 (tile row))) (hte _) (used nu row) (product A W row ⟨h.val * 128 + d.val, by omega⟩))
  unfold refDown
  rw [total_apply]
  simp only [refTerm_apply]

/-- What the kernel leaves is the reference of the arguments. -/
theorem result_eq (m : (ℓ : Loc Cert.Kernel7Ideal.nD Cert.Kernel7Ideal.τ Cert.Kernel7Ideal.sig) → Buf (Elt Ideal) ℓ) (hO : Inside m) (c : Dev Cert.Kernel7Ideal.nD)
    (te : IVec S40 32) (nu : IVec S1 32) (A : FVec Ideal S20480x2048 .bf16) (W : FVec Ideal S2x8x2048x4096 .f32)
    (hte : ∀ j, (te (ix1 j)).toNat < 8)
    (h0 : m ((c.tc : Thread Cert.Kernel7Ideal.nD Cert.Kernel7Ideal.τ).loc Cert.Kernel7Ideal.main_arg0) = te) (h1 : m ((c.tc : Thread Cert.Kernel7Ideal.nD Cert.Kernel7Ideal.τ).loc Cert.Kernel7Ideal.main_arg1) = nu)
    (h2 : m ((c.tc : Thread Cert.Kernel7Ideal.nD Cert.Kernel7Ideal.τ).loc Cert.Kernel7Ideal.main_arg2) = A) (h3 : m ((c.tc : Thread Cert.Kernel7Ideal.nD Cert.Kernel7Ideal.τ).loc Cert.Kernel7Ideal.main_arg3) = W) :
    (dats m hO 0 c).arrAt 2 (cfgM m hO).N = refDown te nu A W := by
  subst h0 h1 h2 h3
  rw [array_eq m hO c]
  refine funext fun (y : S20480x32x128.Idx) => ?_
  obtain ⟨row, h, d, rfl⟩ : ∃ (row : Fin 20480) (h : Fin 32) (d : Fin 128), y = ix3 row h d := ⟨y 0, y 1, y 2, by funext k; fin_cases k <;> rfl⟩
  exact (refDown_apply _ _ _ _ hte row h d).symm

end Cert.ExpertDown

end
-- ==== Proof.DownSame.lean ====
/- The two prints of expert_down, the compiled one and the one read over the reals, are one program: what is proved of the
   second for any values holds of the first. -/
module

public import proofs.«01_k».proof.Proof.DownCall
public import proofs.«01_k».proof.Proof.Gen.Kernel7

@[expose] public section

set_option maxRecDepth 16384

namespace Cert.ExpertDown

open Idealize.ShloMosaic Idealize.ShloMosaic.TcCoe Idealize.SL.Sem

variable {F : FTy → Type} [FloatOps F]

/-- The bodies' tables agree at the one label there is, -/
theorem bodies_same : Kernel7.defs₀ (F := F) = Kernel7Ideal.defs₀ (F := F) :=
  congrArg Defs.onTc (funext fun l => funext fun x => by
    match l, x with
    | ⟨0, _⟩, _ => rfl)

/-- so the programs' definitions do. -/
theorem defs_same : Kernel7.defs (F := F) = Kernel7Ideal.defs (F := F) :=
  congrArg (Pipeline.defs (Kernel7.pcfgs (F := F))) bodies_same

/-- The frame of the compiled program. -/
theorem frame_compiled (m : (ℓ : Loc Kernel7.nD Kernel7.τ Kernel7.sig) → Buf (Elt F) ℓ) (ρ : Dev Kernel7.nD → PrngReg) (hO : Inside (F := F) m) :
    θ_run (Kernel7.defs (F := F)) (onTc (τ := Kernel7.τ) (Kernel7.main (F := F))) ⟨m, fun _ => 0, ρ⟩ (fun r => (∀ c : Dev Kernel7.nD,
      r.2.mem ((c.tc : Thread Kernel7.nD Kernel7.τ).loc Kernel7.main_arg0) = m ((c.tc : Thread Kernel7.nD Kernel7.τ).loc Kernel7.main_arg0)
      ∧ r.2.mem ((c.tc : Thread Kernel7.nD Kernel7.τ).loc Kernel7.main_arg1) = m ((c.tc : Thread Kernel7.nD Kernel7.τ).loc Kernel7.main_arg1)
      ∧ r.2.mem ((c.tc : Thread Kernel7.nD Kernel7.τ).loc Kernel7.main_arg2) = m ((c.tc : Thread Kernel7.nD Kernel7.τ).loc Kernel7.main_arg2)
      ∧ r.2.mem ((c.tc : Thread Kernel7.nD Kernel7.τ).loc Kernel7.main_arg3) = m ((c.tc : Thread Kernel7.nD Kernel7.τ).loc Kernel7.main_arg3))
      ∧ r.2.sem = fun _ => 0) := by
  rw [defs_same]
  exact frame_run (F := F) m ρ hO

end Cert.ExpertDown

end
-- ==== Proof.DownClaim.lean ====
/- The claims of the call expert_down: where every tile's expert is one of the eight, the blocks lie inside the weights, so
   the call runs; and it leaves what its reference leaves. -/
module

public import proofs.«01_k».proof.Defs
public import proofs.«01_k».proof.Proof.DownEq
public import proofs.«01_k».proof.Proof.DownSame
public import proofs.«01_k».proof.Proof.Gen.Pre_experts7
public import Idealize.ShloMosaic.Lib.ReduceAll

@[expose] public section

set_option maxRecDepth 16384

noncomputable section

namespace Cert.ExpertDown

open Idealize.ShloMosaic Idealize.ShloMosaic.TcCoe Idealize.SL.Sem

variable {F : FTy → Type} [FloatOps F]

/-- The precondition says that every tile's expert is one of the eight. -/
theorem eight_of (te : IVec Cert.Pre_experts7.S40 32) (nu : IVec Cert.Pre_experts7.S1 32) (A : FVec F Cert.Pre_experts7.S20480x2048 .bf16)
    (W : FVec F Cert.Pre_experts7.S2x8x2048x4096 .f32) (h : Cert.Pre_experts7.fn (F := F) te nu A W = fun _ => 1#1) (j : Fin 40) : (te (ix1 j)).toNat < 8 := by
  have h0 := congrFun h ix0
  dsimp only [Cert.Pre_experts7.fn] at h0
  exact Cert.ExpertRef.eight_of_bits _ (IntOp.andi_eq_one.1 (Host.reduce_andi_all _ _ _ _ _ h0 (ix1 j))).1 (IntOp.andi_eq_one.1 (Host.reduce_andi_all _ _ _ _ _ h0 (ix1 j))).2

/-- So every block lies inside the weights. -/
theorem inside_of (m : (ℓ : Loc Cert.Kernel7Ideal.nD Cert.Kernel7Ideal.τ Cert.Kernel7Ideal.sig) → Buf (Elt F) ℓ)
    (h : ∀ j : Fin 40, ((V m 0 Cert.Kernel7Ideal.main_arg0 : IVec Cert.Kernel7Ideal.S40 32) (ix1 j)).toNat < 8) : Inside m := fun i => by
  refine ⟨fun a => ?_, .inl rfl⟩
  match a with
  | ⟨0, _⟩ => show (0 + 1) * 1 ≤ 2; omega
  | ⟨1, _⟩ =>
    show ((teW 0 i (eT m 0)).toNat + 1) * 1 ≤ 8
    rw [teW_eq]
    have := h ⟨(i 1).val, (i 1).isLt⟩
    have h' : ((eT m 0) (ix1 (⟨(i 1).val, (i 1).isLt⟩ : Fin 40)) : BitVec 32).toNat < 8 := this
    omega
  | ⟨2, _⟩ => show (0 + 1) * 2048 ≤ 2048; omega
  | ⟨3, _⟩ =>
    have hi : (i 0).val < 4 := (i 0).isLt
    show ((BitVec.ofNat 32 (i 0).val).toNat + 1) * 1024 ≤ 4096
    rw [BitVec.toNat_ofNat]
    omega

/-- The frames: as compiled; -/
theorem frame7 : Cert.quiescent_Kernel7 := fun m g hp =>
  frame_compiled m g (inside_of m (eight_of _ _ _ _ (hp 0)))

/-- over the reals; -/
theorem frame7_ideal : Cert.quiescent_Kernel7Ideal := fun m g hp =>
  frame_run m g (inside_of m (eight_of _ _ _ _ (hp 0)))

/-- of the reference. -/
theorem reference7_frame : Cert.quiescent_Reference7Ideal := fun m g _ =>
  (θ_run Cert.Reference7Ideal.defs _ _).mono (fun r h => ⟨fun c => (h c).2, sem_eq_zero_of_no_sems (by decide) r.2⟩) (Cert.Reference7Ideal.Value.run (F := Ideal) m g)

/-- The equation: the kernel's result is the reference's. -/
theorem algebraic7 : Cert.algebraic_Kernel7Ideal_Reference7Ideal := by
  intro m g m' g' hp hargs
  have hte := eight_of _ _ _ _ (hp 0)
  have hO : Inside m := inside_of m hte
  refine ⟨fun c => (dats m hO 0 c).arrAt 2 (cfgM m hO).N,
    (θ_run Cert.Kernel7Ideal.defs _ _).mono (fun r h c => ?_) (run_result m g hO), ?_⟩
  · exact ⟨h.2.2 c, h.1 c⟩
  refine (θ_run Cert.Reference7Ideal.defs _ _).mono (fun r h c => ⟨(h c).1.trans ?_, (h c).2⟩) (Cert.Reference7Ideal.Value.run (F := Ideal) m' g')
  obtain rfl : c = 0 := Subsingleton.elim _ _
  obtain ⟨a0, a1, a2, a3⟩ := hargs 0
  have e := result_eq m hO 0 _ _ _ _ (by rw [a0]; exact hte) a0.symm a1.symm a2.symm a3.symm
  exact (e.trans rfl).symm

end Cert.ExpertDown

end
-- ==== Proof.GateRun.lean ====
/- The call expert_gateup of a layer with experts, point by point. A point of the grid is a block of columns and a tile of
   rows; a table says which expert's weights a tile takes and how many tiles are used. A used tile with another expert than
   the tile before it (or the first one) multiplies by both weights slab by slab, rounding them and keeping them in
   scratch; a used tile with the same expert multiplies by what was kept; the first product gates the second. An unused
   tile is filled with zeros. -/
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Ring
public import Idealize.ShloMosaic.Lib.Tactic
public import Idealize.ShloMosaic.Lib.Claim
public import proofs.«01_k».proof.Proof.DownRun
public import proofs.«01_k».proof.Proof.Sums
public import Idealize.ShloMosaic.Lib.Pipeline.ValueKit.Tiles

@[expose] public section

set_option maxRecDepth 16384

noncomputable section

namespace Cert.ExpertGate

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Sums (zero2)
open Idealize.ShloMosaic.Pipeline (Dat Cfg Window BodyObligation cellOf)

variable {F : FTy → Type} [FloatOps F]

local notation "𝕄" => MT nD τ sig Unit (Elt F) ℕ (UR sig nD τ) ℕ

/-! ## The tables -/

/-- The table of the tiles' experts and the count of the used tiles, as the body is handed them. -/
abbrev teM : Memref sig .tc .smem S40 .i32 := Memref.whole main_arg0
abbrev nuM : Memref sig .tc .smem S1 .i32 := Memref.whole main_arg1

/-- A table's contents, and the half of it the body holds: it only reads it. -/
abbrev Table (c : Dev nD) {S : Shape} (M : Memref sig .tc .smem S .i32) : Type := Buf (Elt F) (M.view.loc (c : Thread nD τ))
abbrev held (c : Dev nD) {S : Shape} (M : Memref sig .tc .smem S .i32) (f : Table (F := F) c M) : sProp 𝕄 :=
  M.view.loc (c : Thread nD τ) ↦{fullShare.right} f

/-- The count of the used tiles; the expert of a point's tile; the expert of the tile before it. -/
abbrev nuW (c : Dev nD) (n : Table (F := F) c nuM) : BitVec 32 :=
  nuM.view.readAt (Elt F) (Rect.unit (s := S1) ![0] S1.size inb_S1_S1_0).toLoadRect n (Shape.Idx.first (numel1_S1.symm ▸ Nat.one_pos))
abbrev teW (c : Dev nD) (i : grid0.Coords) (e : Table (F := F) c teM) : BitVec 32 :=
  teM.view.readAt (Elt F) (Rect.unit (s := S40) (k0_off1 i) S1.size (k0_off1_inb i)).toLoadRect e (Shape.Idx.first (numel1_S1.symm ▸ Nat.one_pos))
abbrev peW (c : Dev nD) (i : grid0.Coords) (e : Table (F := F) c teM) : BitVec 32 :=
  teM.view.readAt (Elt F) (Rect.unit (s := S40) (k0_off2 i) S1.size (k0_off2_inb i)).toLoadRect e (Shape.Idx.first (numel1_S1.symm ▸ Nat.one_pos))

/-! ## What a point computes -/

theorem inb_slab (o : ℕ) (h : o + 512 ≤ 4096) : ∀ a, (![0, 0, o, 0] : Fin 4 → ℕ) a + S1x1x512x512.size a ≤ S1x1x4096x512.size a := fun a => by
  match a with
  | ⟨0, _⟩ => exact le_refl 1
  | ⟨1, _⟩ => exact le_refl 1
  | ⟨2, _⟩ => exact h
  | ⟨3, _⟩ => exact le_refl 512

theorem inb_kept (o : ℕ) (h : o + 512 ≤ 4096) : ∀ a, (![o, 0] : Fin 2 → ℕ) a + S512x512.size a ≤ S4096x512.size a := fun a => by
  match a with
  | ⟨0, _⟩ => exact h
  | ⟨1, _⟩ => exact le_refl 512

/-- Slabs of the weights by the row they start at. -/
abbrev Slabs (F : FTy → Type) : Type := (o : ℕ) → o + 512 ≤ 4096 → Vec F S1x1x512x512 .f32

/-- The slabs of the weights. -/
abbrev slab (w : Vec F S1x1x4096x512 .f32) : Slabs F := fun o h => View.ld w (Rect.unit (s := S1x1x4096x512) ![0, 0, o, 0] S1x1x512x512.size (inb_slab o h))

/-- The product with the gate's slabs, one after another; -/
def gateOf (a : Vec F S512x4096 .bf16) (g : Slabs F) : FVec F S512x512 .f32 :=
  k0_pay27 a (k0_pay21 a (k0_pay14 a (g 0 (by decide)) (g 512 (by decide)) (g 1024 (by decide))) (k0_pay15 (g 1536 (by decide))) (g 2048 (by decide)) (g 2560 (by decide)))
    (k0_pay24 a (g 3072 (by decide))) (g 3584 (by decide))

/-- the product with the second weights' slabs, gated by a first product; -/
def upOf (a : Vec F S512x4096 .bf16) (p : FVec F S512x512 .f32) (u : Slabs F) : Vec F S512x512 .bf16 :=
  k0_pay5 a p (k0_pay41 a (k0_pay32 a (u 0 (by decide)) (u 512 (by decide))) (k0_pay33 (u 1024 (by decide))) (u 1536 (by decide)) (u 2048 (by decide)) (u 2560 (by decide)))
    (u 3072 (by decide)) (u 3584 (by decide))

/-- the rounded slabs, one after another. -/
def keptOf (g : Slabs F) : Vec F S4096x512 .bf16 :=
  View.canon [⟨Rect.unit (s := S4096x512) ![3584, 0] S512x512.size (inb_kept 3584 (by decide)), k0_pay9 (g 3584 (by decide))⟩,
    ⟨Rect.unit (s := S4096x512) ![3072, 0] S512x512.size (inb_kept 3072 (by decide)), k0_pay9 (g 3072 (by decide))⟩,
    ⟨Rect.unit (s := S4096x512) ![2560, 0] S512x512.size (inb_kept 2560 (by decide)), k0_pay9 (g 2560 (by decide))⟩,
    ⟨Rect.unit (s := S4096x512) ![2048, 0] S512x512.size (inb_kept 2048 (by decide)), k0_pay9 (g 2048 (by decide))⟩,
    ⟨Rect.unit (s := S4096x512) ![1536, 0] S512x512.size (inb_kept 1536 (by decide)), k0_pay9 (g 1536 (by decide))⟩,
    ⟨Rect.unit (s := S4096x512) ![1024, 0] S512x512.size (inb_kept 1024 (by decide)), k0_pay9 (g 1024 (by decide))⟩,
    ⟨Rect.unit (s := S4096x512) ![512, 0] S512x512.size (inb_kept 512 (by decide)), k0_pay9 (g 512 (by decide))⟩,
    ⟨Rect.unit (s := S4096x512) ![0, 0] S512x512.size (inb_kept 0 (by decide)), k0_pay9 (g 0 (by decide))⟩]

/-- The gated product slab by slab, and the rounded weights, of the weights. -/
abbrev slabwise (a : Vec F S512x4096 .bf16) (w u : Vec F S1x1x4096x512 .f32) : Vec F S512x512 .bf16 := upOf a (gateOf a (slab w)) (slab u)
abbrev kept (w : Vec F S1x1x4096x512 .f32) : Vec F S4096x512 .bf16 := keptOf (slab w)

/-- The slabs read from a buffer that holds the weights. -/
abbrev slabR (arg5 : Memref sig .tc .vmem S1x1x4096x512 .f32) (harg5 : arg5.IsWhole) (w : Vec F S1x1x4096x512 .f32) : Slabs F := fun o h =>
  View.readAt (Elt F) arg5.view (Rect.unit (s := S1x1x4096x512) ![0, 0, o, 0] S1x1x512x512.size (inb_slab o h)).toLoadRect (harg5.unread w)

theorem slabR_eq (arg5 : Memref sig .tc .vmem S1x1x4096x512 .f32) (harg5 : arg5.IsWhole) (w : Vec F S1x1x4096x512 .f32) : slabR arg5 harg5 w = slab w := by
  funext o h
  unfold slabR slab
  rw [View.readAt_eq_ld, harg5.read_unread]

/-- What the slab by slab point computes and keeps, of the loads. -/
theorem out_eq (arg4 : Memref sig .tc .vmem S512x4096 .bf16) (harg4 : arg4.IsWhole) (arg5 arg6 : Memref sig .tc .vmem S1x1x4096x512 .f32) (harg5 : arg5.IsWhole)
    (harg6 : arg6.IsWhole) (a : Vec F S512x4096 .bf16) (w u : Vec F S1x1x4096x512 .f32) :
    upOf (View.readAt (Elt F) arg4.view (Rect.unit (s := S512x4096) ![0, 0] S512x4096.size (by decide)).toLoadRect (harg4.unread a))
      (gateOf (View.readAt (Elt F) arg4.view (Rect.unit (s := S512x4096) ![0, 0] S512x4096.size (by decide)).toLoadRect (harg4.unread a)) (slabR arg5 harg5 w))
      (slabR arg6 harg6 u) = slabwise a w u := by
  rw [slabR_eq, slabR_eq, View.readAt_eq_ld, harg4.read_unread, View.ld_unit_zero zero2]

theorem kept_eq (arg5 : Memref sig .tc .vmem S1x1x4096x512 .f32) (harg5 : arg5.IsWhole) (w : Vec F S1x1x4096x512 .f32) : keptOf (slabR arg5 harg5 w) = kept w := by
  rw [slabR_eq]

section Body

variable (c : Dev nD) (i : grid0.Coords) (arg4 : Memref sig .tc .vmem S512x4096 .bf16) (harg4 : arg4.IsWhole)
  (arg5 : Memref sig .tc .vmem S1x1x4096x512 .f32) (harg5 : arg5.IsWhole) (arg6 : Memref sig .tc .vmem S1x1x4096x512 .f32) (harg6 : arg6.IsWhole)
  (arg7 : Memref sig .tc .vmem S512x512 .bf16) (harg7 : arg7.IsWhole)
  (arg8 : Memref sig .tc .vmem S4096x512 .bf16) (harg8 : arg8.IsWhole) (arg9 : Memref sig .tc .vmem S4096x512 .bf16) (harg9 : arg9.IsWhole)
  (a : Vec F S512x4096 .bf16) (w u : Vec F S1x1x4096x512 .f32) (e : Table (F := F) c teM) (n : Table (F := F) c nuM)

/-- The body at a point, with its buffers. -/
abbrev bodyOf : Prog (TpuEff nD τ sig (Elt F) Λ₀ .tc) PUnit :=
  cc0_expert_gateup i teM (Memref.isWhole_whole _) nuM (Memref.isWhole_whole _) arg4 harg4 arg5 harg5 arg6 harg6 arg7 harg7 arg8 harg8 arg9 harg9

/-- A used tile with a new expert: the gated product slab by slab, the rounded weights kept. -/
theorem body_new (h1 : k0_cond1 i (nuW c n) (teW c i e) (peW c i e) = 1#1) (h2 : ¬k0_cond2 i (nuW c n) (teW c i e) (peW c i e) = 1#1)
    (h3 : ¬k0_cond3 i (nuW c n) = 1#1) (E : Set ℕ) (K : PUnit → sProp 𝕄) :
    iprop(owns (c : Thread nD τ) arg4 fullShare a ∗ owns (c : Thread nD τ) arg5 fullShare w ∗ owns (c : Thread nD τ) arg6 fullShare u
        ∗ (∃ d, owns (c : Thread nD τ) arg7 fullShare d) ∗ (∃ d, owns (c : Thread nD τ) arg8 fullShare d) ∗ (∃ d, owns (c : Thread nD τ) arg9 fullShare d)
        ∗ held c teM e ∗ held c nuM n
        ∗ (iprop(owns (c : Thread nD τ) arg4 fullShare a ∗ owns (c : Thread nD τ) arg5 fullShare w ∗ owns (c : Thread nD τ) arg6 fullShare u
            ∗ owns (c : Thread nD τ) arg7 fullShare (slabwise a w u) ∗ owns (c : Thread nD τ) arg8 fullShare (kept w) ∗ owns (c : Thread nD τ) arg9 fullShare (kept u)
            ∗ held c teM e ∗ held c nuM n) -∗ K ⟨⟩))
      ⊢ wp frame (wpE (defs₀ (F := F)) Variants.none c none) E (bodyOf i arg4 harg4 arg5 harg5 arg6 harg6 arg7 harg7 arg8 harg8 arg9 harg9) K := by
  unfold bodyOf
  simp only [cc0_expert_gateup_eq_skeleton, k0_part1_eq_skeleton, k0_part2_eq_skeleton, k0_part3_eq_skeleton, k0_part4_eq_skeleton]
  unfold cc0_expert_gateup_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, HT0, HT1, Hk⟩
  obtain rfl := harg4.eq_unread hf0
  obtain rfl := harg5.eq_unread hf1
  obtain rfl := harg6.eq_unread hf2
  sl_exec (disch := first | sl_exact h1 | sl_exact h2 | sl_exact h3)
  sl_step
  iapply Hk
  isplitl [H0]
  · iexists _
    isplitr
    · ipureintro
      exact harg4.read_unread _
    iexact H0
  isplitl [H1]
  · iexists _
    isplitr
    · ipureintro
      exact harg5.read_unread _
    iexact H1
  isplitl [H2]
  · iexists _
    isplitr
    · ipureintro
      exact harg6.read_unread _
    iexact H2
  isplitl [H3]
  · iexists _
    isplitr
    swap
    · iexact H3
    ipureintro
    rw [View.read_writes_eq_canon _ _ _ (View.cover_of_tiledL _ S512x512.size (by sl_kernel_rfl)), View.canon_cons_unit_zero zero2]
    have h := out_eq arg4 harg4 arg5 arg6 harg5 harg6 a w u
    exact h
  isplitl [H4]
  · iexists _
    isplitr
    swap
    · iexact H4
    ipureintro
    refine (View.read_writes_eq_canon arg8.view f4 _ fun y => View.cover_of_tiledL (s := S4096x512) _ S512x512.size (by sl_kernel_rfl) y).trans ?_
    exact kept_eq arg5 harg5 w
  isplitl [H5]
  · iexists _
    isplitr
    swap
    · iexact H5
    ipureintro
    refine (View.read_writes_eq_canon arg9.view f5 _ fun y => View.cover_of_tiledL (s := S4096x512) _ S512x512.size (by sl_kernel_rfl) y).trans ?_
    exact kept_eq arg6 harg6 u
  isplitl [HT0]
  · iexact HT0
  iexact HT1

/-- A used tile with the expert of the tile before: the gated product by what was kept. -/
theorem body_same (h1 : ¬k0_cond1 i (nuW c n) (teW c i e) (peW c i e) = 1#1) (h2 : k0_cond2 i (nuW c n) (teW c i e) (peW c i e) = 1#1)
    (h3 : ¬k0_cond3 i (nuW c n) = 1#1) (k l : Vec F S4096x512 .bf16) (E : Set ℕ) (K : PUnit → sProp 𝕄) :
    iprop(owns (c : Thread nD τ) arg4 fullShare a ∗ owns (c : Thread nD τ) arg5 fullShare w ∗ owns (c : Thread nD τ) arg6 fullShare u
        ∗ (∃ d, owns (c : Thread nD τ) arg7 fullShare d) ∗ owns (c : Thread nD τ) arg8 fullShare k ∗ owns (c : Thread nD τ) arg9 fullShare l
        ∗ held c teM e ∗ held c nuM n
        ∗ (iprop(owns (c : Thread nD τ) arg4 fullShare a ∗ owns (c : Thread nD τ) arg5 fullShare w ∗ owns (c : Thread nD τ) arg6 fullShare u
            ∗ owns (c : Thread nD τ) arg7 fullShare (k0_pay6 a k l) ∗ owns (c : Thread nD τ) arg8 fullShare k ∗ owns (c : Thread nD τ) arg9 fullShare l
            ∗ held c teM e ∗ held c nuM n) -∗ K ⟨⟩))
      ⊢ wp frame (wpE (defs₀ (F := F)) Variants.none c none) E (bodyOf i arg4 harg4 arg5 harg5 arg6 harg6 arg7 harg7 arg8 harg8 arg9 harg9) K := by
  unfold bodyOf
  simp only [cc0_expert_gateup_eq_skeleton, k0_part1_eq_skeleton, k0_part2_eq_skeleton, k0_part3_eq_skeleton, k0_part4_eq_skeleton]
  unfold cc0_expert_gateup_skel
  unfold owns
  iintro ⟨⟨%f0, %hf0, H0⟩, H1, H2, ⟨%d3, %f3, -, H3⟩, ⟨%f4, %hf4, H4⟩, ⟨%f5, %hf5, H5⟩, HT0, HT1, Hk⟩
  obtain rfl := harg4.eq_unread hf0
  obtain rfl := harg8.eq_unread hf4
  obtain rfl := harg9.eq_unread hf5
  sl_exec (disch := first | sl_exact h1 | sl_exact h2 | sl_exact h3)
  sl_step
  iapply Hk
  isplitl [H0]
  · iexists _
    isplitr
    · ipureintro
      exact harg4.read_unread _
    iexact H0
  isplitl [H1]
  · iexact H1
  isplitl [H2]
  · iexact H2
  isplitl [H3]
  · iexists _
    isplitr
    swap
    · iexact H3
    ipureintro
    rw [View.read_writes_eq_canon _ _ _ (View.cover_of_tiledL _ S512x512.size (by sl_kernel_rfl)), View.canon_cons_unit_zero zero2]
    simp only [View.readAt_eq_ld, harg4.read_unread, harg8.read_unread, harg9.read_unread]
    rw [View.ld_unit_zero zero2, View.ld_unit_zero zero2, View.ld_unit_zero zero2]
  isplitl [H4]
  · iexists _
    isplitr
    · ipureintro
      exact harg8.read_unread _
    iexact H4
  isplitl [H5]
  · iexists _
    isplitr
    · ipureintro
      exact harg9.read_unread _
    iexact H5
  isplitl [HT0]
  · iexact HT0
  iexact HT1

/-- An unused tile: zeros. -/
theorem body_unused (h1 : ¬k0_cond1 i (nuW c n) (teW c i e) (peW c i e) = 1#1) (h2 : ¬k0_cond2 i (nuW c n) (teW c i e) (peW c i e) = 1#1)
    (h3 : k0_cond3 i (nuW c n) = 1#1) (k l : Vec F S4096x512 .bf16) (E : Set ℕ) (K : PUnit → sProp 𝕄) :
    iprop(owns (c : Thread nD τ) arg4 fullShare a ∗ owns (c : Thread nD τ) arg5 fullShare w ∗ owns (c : Thread nD τ) arg6 fullShare u
        ∗ (∃ d, owns (c : Thread nD τ) arg7 fullShare d) ∗ owns (c : Thread nD τ) arg8 fullShare k ∗ owns (c : Thread nD τ) arg9 fullShare l
        ∗ held c teM e ∗ held c nuM n
        ∗ (iprop(owns (c : Thread nD τ) arg4 fullShare a ∗ owns (c : Thread nD τ) arg5 fullShare w ∗ owns (c : Thread nD τ) arg6 fullShare u
            ∗ owns (c : Thread nD τ) arg7 fullShare (k0_pay7 (F := F)) ∗ owns (c : Thread nD τ) arg8 fullShare k ∗ owns (c : Thread nD τ) arg9 fullShare l
            ∗ held c teM e ∗ held c nuM n) -∗ K ⟨⟩))
      ⊢ wp frame (wpE (defs₀ (F := F)) Variants.none c none) E (bodyOf i arg4 harg4 arg5 harg5 arg6 harg6 arg7 harg7 arg8 harg8 arg9 harg9) K := by
  unfold bodyOf
  simp only [cc0_expert_gateup_eq_skeleton, k0_part1_eq_skeleton, k0_part2_eq_skeleton, k0_part3_eq_skeleton, k0_part4_eq_skeleton]
  unfold cc0_expert_gateup_skel
  unfold owns
  iintro ⟨H0, H1, H2, ⟨%d3, %f3, -, H3⟩, H4, H5, HT0, HT1, Hk⟩
  sl_exec (disch := first | sl_exact h1 | sl_exact h2 | sl_exact h3)
  sl_step
  iapply Hk
  isplitl [H0]
  · iexact H0
  isplitl [H1]
  · iexact H1
  isplitl [H2]
  · iexact H2
  isplitl [H3]
  · iexists _
    isplitr
    swap
    · iexact H3
    ipureintro
    rw [View.read_writes_eq_canon _ _ _ (View.cover_of_tiledL _ S512x512.size (by sl_kernel_rfl)), View.canon_cons_unit_zero zero2]
  isplitl [H4]
  · iexact H4
  isplitl [H5]
  · iexact H5
  isplitl [HT0]
  · iexact HT0
  iexact HT1

end Body

/-! ## Which of the three a point is -/

/-- The tile is used; its expert is new. -/
def Used (c : Dev nD) (i : grid0.Coords) (n : Table (F := F) c nuM) : Prop := Scalar.cmpi .slt (BitVec.ofNat 32 (i 1).val) (nuW c n) = 1#1
def New (c : Dev nD) (i : grid0.Coords) (e : Table (F := F) c teM) : Prop :=
  Scalar.ori (Scalar.cmpi .eq (BitVec.ofNat 32 (i 1).val) 0#32) (Scalar.cmpi .ne (teW c i e) (peW c i e)) = 1#1

section Which

variable (c : Dev nD) (i : grid0.Coords) (e : Table (F := F) c teM) (n : Table (F := F) c nuM)

theorem cond1_iff : k0_cond1 i (nuW c n) (teW c i e) (peW c i e) = 1#1 ↔ Used c i n ∧ New c i e := by
  unfold k0_cond1 Used New
  dsimp only
  generalize Scalar.cmpi .slt (BitVec.ofNat 32 (i 1).val) (nuW c n) = u
  generalize Scalar.ori (Scalar.cmpi .eq (BitVec.ofNat 32 (i 1).val) 0#32) (Scalar.cmpi .ne (teW c i e) (peW c i e)) = f
  revert u f
  decide

theorem cond2_iff : k0_cond2 i (nuW c n) (teW c i e) (peW c i e) = 1#1 ↔ Used c i n ∧ ¬New c i e := by
  unfold k0_cond2 Used New
  dsimp only
  generalize Scalar.cmpi .slt (BitVec.ofNat 32 (i 1).val) (nuW c n) = u
  generalize Scalar.ori (Scalar.cmpi .eq (BitVec.ofNat 32 (i 1).val) 0#32) (Scalar.cmpi .ne (teW c i e) (peW c i e)) = f
  revert u f
  decide

theorem cond3_iff : k0_cond3 i (nuW c n) = 1#1 ↔ ¬Used c i n := by
  unfold k0_cond3 Used
  dsimp only
  generalize Scalar.cmpi .slt (BitVec.ofNat 32 (i 1).val) (nuW c n) = u
  revert u
  decide

/-- The words by their places in the tables. -/
theorem nuW_eq : nuW c n = n (ix1 (0 : Fin 1)) := by
  show n _ = n _
  congr 1
  funext a
  match a with
  | ⟨0, _⟩ => rfl

theorem teW_eq : teW c i e = e (ix1 (⟨(i 1).val, (i 1).isLt⟩ : Fin 40)) := by
  show e _ = e _
  congr 1
  funext a
  apply Fin.ext
  match a with
  | ⟨0, _⟩ =>
    have h : (i 1).val < 40 := (i 1).isLt
    show (BitVec.ofNat 32 (i 1).val).toNat + 1 * 0 = (i 1).val
    rw [BitVec.toNat_ofNat]
    omega

theorem peW_eq : peW c i e = e (ix1 (⟨(i 1).val - 1, by have : (i 1).val < 40 := (i 1).isLt; omega⟩ : Fin 40)) := by
  show e _ = e _
  congr 1
  funext a
  apply Fin.ext
  match a with
  | ⟨0, _⟩ =>
    show (Scalar.maxsi (Scalar.subi (BitVec.ofNat 32 (i 1).val) 1#32) 0#32).toNat + 1 * 0 = (i 1).val - 1
    have h : (Scalar.maxsi (Scalar.subi (BitVec.ofNat 32 (i 1).val) 1#32) 0#32).toNat = (i 1).val - 1 := Cert.ExpertDown.before_toNat ⟨(i 1).val, (i 1).isLt⟩
    rw [h, Nat.mul_zero, Nat.add_zero]

/-- A tile is used when its number is below the count, as signed words; -/
theorem used_iff : Used c i n ↔ ((i 1).val : ℤ) < (n (ix1 (0 : Fin 1)) : BitVec 32).toInt := by
  unfold Used
  rw [nuW_eq]
  have h : (i 1).val < 40 := (i 1).isLt
  generalize (n (ix1 (0 : Fin 1)) : BitVec 32) = w
  have e : (BitVec.ofNat 32 (i 1).val).toInt = ((i 1).val : ℤ) := Cert.ExpertDown.tile_toInt ⟨(i 1).val, h⟩
  show BitVec.ofBool (BitVec.slt (BitVec.ofNat 32 (i 1).val) w) = 1#1 ↔ _
  rw [BitVec.slt, e]
  by_cases hc : ((i 1).val : ℤ) < w.toInt <;> simp [hc]

/-- an expert that is not new is the one of the tile before. -/
theorem not_new (h : ¬New c i e) : (i 1).val ≠ 0 ∧ teW c i e = peW c i e := by
  unfold New at h
  constructor
  · intro h0
    apply h
    rw [h0]
    generalize Scalar.cmpi .ne (teW c i e) (peW c i e) = f
    revert f
    decide
  · by_contra hne
    apply h
    have : Scalar.cmpi .ne (teW c i e) (peW c i e) = 1#1 := by
      show BitVec.ofBool (teW c i e != peW c i e) = 1#1
      rw [bne_iff_ne.2 hne]
      rfl
    rw [this]
    generalize Scalar.cmpi .eq (BitVec.ofNat 32 (i 1).val) 0#32 = f
    revert f
    decide

end Which

end Cert.ExpertGate

end
-- ==== Proof.GateCall.lean ====
/- The call expert_gateup as a whole: what its points leave, both weights kept from point to point, and its launch under tables
   whose blocks lie inside the weights. -/
module

public import proofs.«01_k».proof.Proof.GateRun

@[expose] public section

set_option maxRecDepth 16384

noncomputable section

namespace Cert.ExpertGate

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's arrays and tables -/

/-- A buffer when the region is entered: as launched, since the program is the region alone. -/
abbrev V (c : Dev nD) (b : Ref sig .tc) : Buf (Elt F) ((c : Thread nD τ).loc b) := m ((c : Thread nD τ).loc b)

theorem program_is_region (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents; there is one device. -/
def tables : pre0.Contents (Elt F) := fun j => V m (0 : Dev nD) (pre0.ref j)

theorem V_tables (c : Dev nD) (j : Fin 2) : V m c (pre0.ref j) = tables m j := by
  obtain rfl : c = 0 := Subsingleton.elim _ _
  rfl

/-- Every block the tables select lies inside the weights. -/
abbrev Inside : Prop := ok0 (F := F) (tables m)
abbrev adm (hO : Inside m) : (pcfg0 (F := F)).Adm := ⟨tables m, hO⟩
abbrev cfgM (hO : Inside m) : Pipeline.Cfg sig Λ₀ := cfg0 (adm m hO)

/-- The experts' table and the count, as the body reads them. -/
abbrev eT (c : Dev nD) : Table (F := F) c teM := tables m 0
abbrev nT (c : Dev nD) : Table (F := F) c nuM := tables m 1

theorem tables_held (c : Dev nD) : (Pipeline.ΦT pre0 (tables m) c : sProp 𝕄) = iprop(held c teM (eT m c) ∗ held c nuM (nT m c)) := by
  unfold Pipeline.ΦT Pipeline.prefHeld
  rw [show (Finset.univ : Finset (Fin 2)) = insert (0 : Fin 2) {(1 : Fin 2)} from by decide, bigSep_insert (by decide), bigSep_singleton]
  rfl

/-! ## The blocks -/

/-- The block of a window at a point. -/
def blkAt (hO : Inside m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The rows and the two weights of a point. -/
abbrev rowsAt (hO : Inside m) (c : Dev nD) (t : Fin (cfgM m hO).N) : Vec F S512x4096 .bf16 := blkAt m hO c 0 t
abbrev gateAt (hO : Inside m) (c : Dev nD) (t : Fin (cfgM m hO).N) : Vec F S1x1x4096x512 .f32 := blkAt m hO c 1 t
abbrev upAt (hO : Inside m) (c : Dev nD) (t : Fin (cfgM m hO).N) : Vec F S1x1x4096x512 .f32 := blkAt m hO c 2 t

theorem point_lt (hO : Inside m) (t : Fin (cfgM m hO).N) : t.val < 160 := lt_of_lt_of_eq t.isLt (show (cfgM m hO).N = 160 from N_0)
theorem column_of_point (t : Fin grid0.N) : ((grid0.coords t) 0).val = t.val / 40 % 4 := Pipeline.Grid.coords_val t 0 (by decide) rfl
theorem tile_of_point (t : Fin grid0.N) : ((grid0.coords t) 1).val = t.val / 1 % 40 := Pipeline.Grid.coords_val t 1 (by decide) rfl
theorem column_of (hO : Inside m) (t : Fin (cfgM m hO).N) : ((grid0.coords t) 0).val = t.val / 40 := by
  have h : ((grid0.coords t) 0).val = t.val / 40 % 4 := column_of_point t
  have := point_lt m hO t
  omega
theorem tile_of (hO : Inside m) (t : Fin (cfgM m hO).N) : ((grid0.coords t) 1).val = t.val % 40 := by
  have h : ((grid0.coords t) 1).val = t.val / 1 % 40 := tile_of_point t
  omega

/-- The expert of a point's tile is one of the eight. -/
theorem expert_lt (hO : Inside m) (c : Dev nD) (t : Fin (cfgM m hO).N) : (teW c (grid0.coords t) (eT m c)).toNat < 8 := by
  obtain ⟨h, -⟩ := hO.1 (grid0.coords t)
  have h1 := h 1
  have : ((teW c (grid0.coords t) (eT m c)).toNat + 1) * 1 ≤ 8 := h1
  omega

/-- The rows of a point, in the array; -/
theorem rows_apply (hO : Inside m) (c : Dev nD) (t : Fin (cfgM m hO).N) (r : Fin 512) (k : Fin 4096) :
    rowsAt m hO c t (ix2 r k) = V m c main_arg2 (ix2 ⟨t.val % 40 * 512 + r.val, by omega⟩ k) := by
  show V m c main_arg2 _ = _
  congr 1
  funext a
  apply Fin.ext
  match a with
  | ⟨0, _⟩ =>
    show (BitVec.ofNat 32 ((grid0.coords t) 1).val).toNat * 512 + 1 * r.val = _
    rw [tile_of m hO t, BitVec.toNat_ofNat]
    show _ = t.val % 40 * 512 + r.val
    omega
  | ⟨1, _⟩ => show 0 * 4096 + 1 * k.val = k.val; omega

/-- the place of a point's weights in their array: its tile's expert, its block of columns. -/
def place (hO : Inside m) (c : Dev nD) (t : Fin (cfgM m hO).N) (k : Fin 4096) (l : Fin 512) : S2x8x4096x2048.Idx :=
  ix4 (0 : Fin 2) (⟨(teW c (grid0.coords t) (eT m c)).toNat, expert_lt m hO c t⟩ : Fin 8) k
    (⟨t.val / 40 * 512 + l.val, by have := point_lt m hO t; omega⟩ : Fin 2048)

theorem gate_apply (hO : Inside m) (c : Dev nD) (t : Fin (cfgM m hO).N) (k : Fin 4096) (l : Fin 512) :
    gateAt m hO c t (ix4 0 0 k l) = V m c main_arg3 (place m hO c t k l) := by
  show V m c main_arg3 _ = _
  congr 1
  funext a
  apply Fin.ext
  match a with
  | ⟨0, _⟩ => rfl
  | ⟨1, _⟩ => show (teW c (grid0.coords t) (eT m c)).toNat * 1 + 1 * 0 = (teW c (grid0.coords t) (eT m c)).toNat; omega
  | ⟨2, _⟩ => show 0 * 4096 + 1 * k.val = k.val; omega
  | ⟨3, _⟩ =>
    show (BitVec.ofNat 32 ((grid0.coords t) 0).val).toNat * 512 + 1 * l.val = t.val / 40 * 512 + l.val
    have := point_lt m hO t
    rw [column_of m hO t, BitVec.toNat_ofNat]
    omega

theorem up_apply (hO : Inside m) (c : Dev nD) (t : Fin (cfgM m hO).N) (k : Fin 4096) (l : Fin 512) :
    upAt m hO c t (ix4 0 0 k l) = V m c main_arg4 (place m hO c t k l) := by
  show V m c main_arg4 _ = _
  congr 1
  funext a
  apply Fin.ext
  match a with
  | ⟨0, _⟩ => rfl
  | ⟨1, _⟩ => show (teW c (grid0.coords t) (eT m c)).toNat * 1 + 1 * 0 = (teW c (grid0.coords t) (eT m c)).toNat; omega
  | ⟨2, _⟩ => show 0 * 4096 + 1 * k.val = k.val; omega
  | ⟨3, _⟩ =>
    show (BitVec.ofNat 32 ((grid0.coords t) 0).val).toNat * 512 + 1 * l.val = t.val / 40 * 512 + l.val
    have := point_lt m hO t
    rw [column_of m hO t, BitVec.toNat_ofNat]
    omega

/-- An element of a block of weights, by its row and column. -/
theorem block_index (y : S1x1x4096x512.Idx) : ∃ (k : Fin 4096) (l : Fin 512), y = ix4 0 0 k l :=
  ⟨y 2, y 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩

/-- A used tile whose expert is not new has the weights of the point before, which is used too. -/
theorem same_weights (hO : Inside m) (c : Dev nD) (t : Fin (cfgM m hO).N) (hu : Used c (grid0.coords t) (nT m c)) (hn : ¬New c (grid0.coords t) (eT m c)) :
    ∃ s : Fin (cfgM m hO).N, s.val + 1 = t.val ∧ Used c (grid0.coords s) (nT m c) ∧ gateAt m hO c s = gateAt m hO c t ∧ upAt m hO c s = upAt m hO c t := by
  obtain ⟨h0, he⟩ := not_new c _ _ hn
  rw [tile_of m hO t] at h0
  have hw : teW c (grid0.coords ⟨t.val - 1, lt_of_le_of_lt (Nat.sub_le _ _) t.isLt⟩) (eT m c) = teW c (grid0.coords t) (eT m c) := by
    rw [he, teW_eq, peW_eq]
    congr 2
    apply Fin.ext
    show ((grid0.coords ⟨t.val - 1, lt_of_le_of_lt (Nat.sub_le _ _) t.isLt⟩) 1).val = ((grid0.coords t) 1).val - 1
    rw [tile_of m hO t, tile_of m hO ⟨t.val - 1, _⟩]
    show (t.val - 1) % 40 = t.val % 40 - 1
    omega
  have hp : ∀ k l, place m hO c ⟨t.val - 1, lt_of_le_of_lt (Nat.sub_le _ _) t.isLt⟩ k l = place m hO c t k l := fun k l => by
    funext a
    apply Fin.ext
    match a with
    | ⟨0, _⟩ => rfl
    | ⟨1, _⟩ =>
      show (teW c (grid0.coords ⟨t.val - 1, lt_of_le_of_lt (Nat.sub_le _ _) t.isLt⟩) (eT m c)).toNat = (teW c (grid0.coords t) (eT m c)).toNat
      rw [hw]
    | ⟨2, _⟩ => rfl
    | ⟨3, _⟩ =>
      show (t.val - 1) / 40 * 512 + l.val = t.val / 40 * 512 + l.val
      omega
  refine ⟨⟨t.val - 1, lt_of_le_of_lt (Nat.sub_le _ _) t.isLt⟩, by show t.val - 1 + 1 = t.val; omega, ?_, ?_, ?_⟩
  · rw [used_iff, tile_of m hO] at hu ⊢
    refine lt_of_le_of_lt ?_ hu
    show (((t.val - 1) % 40 : ℕ) : ℤ) ≤ ((t.val % 40 : ℕ) : ℤ)
    omega
  · funext y
    obtain ⟨k, l, rfl⟩ := block_index y
    rw [gate_apply, gate_apply, hp]
  · funext y
    obtain ⟨k, l, rfl⟩ := block_index y
    rw [up_apply, up_apply, hp]

/-! ## What the points leave -/

open Classical in
/-- The block a point leaves. -/
def leaves (hO : Inside m) (c : Dev nD) (t : Fin (cfgM m hO).N) : Vec F S512x512 .bf16 :=
  if Used c (grid0.coords t) (nT m c) then
    if New c (grid0.coords t) (eT m c) then slabwise (rowsAt m hO c t) (gateAt m hO c t) (upAt m hO c t)
    else k0_pay6 (rowsAt m hO c t) (kept (gateAt m hO c t)) (kept (upAt m hO c t))
  else k0_pay7

/-- The scratches before a point: after a used one they keep that one's rounded weights. -/
def Carried (hO : Inside m) (c : Dev nD) (n : ℕ) (d d' : Vec F S4096x512 .bf16) : Prop :=
  ∀ s : Fin (cfgM m hO).N, s.val + 1 = n → Used c (grid0.coords s) (nT m c) → d = kept (gateAt m hO c s) ∧ d' = kept (upAt m hO c s)

/-- The scratches, as the body is handed them. -/
abbrev scratchM : Memref sig .tc .vmem S4096x512 .bf16 := Memref.whole cc0_scratch0
abbrev scratchM' : Memref sig .tc .vmem S4096x512 .bf16 := Memref.whole cc0_scratch1

/-- What holds before a point: the scratches as said, the generator's register, the tables. -/
def Inv (hO : Inside m) (c : Dev nD) (n : ℕ) : sProp 𝕄 :=
  iprop(((∃ d d', ⌜Carried m hO c n d d'⌝ ∗ owns (c : Thread nD τ) scratchM fullShare d ∗ owns (c : Thread nD τ) scratchM' fullShare d') ∗ (∃ r, prngReg c r)) ∗ held c teM (eT m c) ∗ held c nuM (nT m c))

theorem rest_eq (c : Dev nD) :
    (Pipeline.ΦA spec0 c : sProp 𝕄) = iprop(iprop((∃ d, owns (c : Thread nD τ) scratchM fullShare d) ∗ (∃ d, owns (c : Thread nD τ) scratchM' fullShare d)) ∗ (∃ r, prngReg c r)) := by
  unfold Pipeline.ΦA
  rw [scopedRest0_eq]
  simp only [scratchM, scratchM', owns_whole]
  try rfl

/-- The launch's data: every array as launched, every input's block left in place, the result's as said. -/
def dats (hO : Inside m) (_ : Fin 1) (c : Dev nD) : Dat τ (Elt F) Unit ℕ (UR sig nD τ) ℕ (cfgM m hO) c where
  A w := V m c (Pipeline.arrRef spec0 w)
  after w t := match w with
    | ⟨0, _⟩ => blkAt m hO c 0 t
    | ⟨1, _⟩ => blkAt m hO c 1 t
    | ⟨2, _⟩ => blkAt m hO c 2 t
    | ⟨3, _⟩ => leaves m hO c t
  Φ t := Inv m hO c t.val
  q _ := fullShare
  owed _ := 0

theorem arrays_eq (hO : Inside m) (c : Dev nD) (w : Fin (cfgM m hO).W) : (dats m hO 0 c).A w = V m c (Pipeline.arrRef spec0 w) := by
  dsimp only [dats]

theorem inv_at (hO : Inside m) (c : Dev nD) (t : Fin ((cfgM m hO).N + 1)) : (dats m hO 0 c).Φ t = Inv m hO c t.val := by
  dsimp only [dats]

theorem after0 (hO : Inside m) (c : Dev nD) (t : Fin (cfgM m hO).N) : (dats m hO 0 c).after 0 t = blkAt m hO c 0 t := by dsimp only [dats]; try rfl
theorem after1 (hO : Inside m) (c : Dev nD) (t : Fin (cfgM m hO).N) : (dats m hO 0 c).after 1 t = blkAt m hO c 1 t := by dsimp only [dats]; try rfl
theorem after2 (hO : Inside m) (c : Dev nD) (t : Fin (cfgM m hO).N) : (dats m hO 0 c).after 2 t = blkAt m hO c 2 t := by dsimp only [dats]; try rfl
theorem after3 (hO : Inside m) (c : Dev nD) (t : Fin (cfgM m hO).N) : (dats m hO 0 c).after 3 t = leaves m hO c t := by dsimp only [dats]; try rfl

/-- An input's buffer holds its block at every point. -/
theorem before0 (hO : Inside m) (c : Dev nD) (t : Fin (cfgM m hO).N) (d) : (dats m hO 0 c).before 0 t d = blkAt m hO c 0 t :=
  ((dats m hO 0 c).before_in_eq_fetched 0 rfl (fun _ => rfl) (fun _ _ _ => rfl)
    (fun t => by rw [after0]; unfold Dat.blockOf blkAt; rw [arrays_eq]; try rfl) t d).trans
    (by unfold Dat.fetched Dat.blockOf blkAt; rw [arrays_eq]; try rfl)
theorem before1 (hO : Inside m) (c : Dev nD) (t : Fin (cfgM m hO).N) (d) : (dats m hO 0 c).before 1 t d = blkAt m hO c 1 t :=
  ((dats m hO 0 c).before_in_eq_fetched 1 rfl (fun _ => rfl) (fun _ _ _ => rfl)
    (fun t => by rw [after1]; unfold Dat.blockOf blkAt; rw [arrays_eq]; try rfl) t d).trans
    (by unfold Dat.fetched Dat.blockOf blkAt; rw [arrays_eq]; try rfl)
theorem before2 (hO : Inside m) (c : Dev nD) (t : Fin (cfgM m hO).N) (d) : (dats m hO 0 c).before 2 t d = blkAt m hO c 2 t :=
  ((dats m hO 0 c).before_in_eq_fetched 2 rfl (fun _ => rfl) (fun _ _ _ => rfl)
    (fun t => by rw [after2]; unfold Dat.blockOf blkAt; rw [arrays_eq]; try rfl) t d).trans
    (by unfold Dat.fetched Dat.blockOf blkAt; rw [arrays_eq]; try rfl)

/-- The result's block is written back at every point. -/
theorem flush3 (hO : Inside m) : ∀ t : Fin (cfgM m hO).N, ((cfgM m hO).win 3).flush t = true :=
  (fun t => (Pipeline.Window.flushOf_reads cc0_transform_3 reads0_3 hreads0_3 1 (by decide) (by decide)
    (Pipeline.Window.sep_of_coord cc0_transform_3 1 0 (fun _ => rfl) (by decide)) (P := 1) (m := 0) (by decide) rfl t).mpr (Nat.mod_one _) :
    ∀ t : Fin grid0.N, Pipeline.Window.flushOf grid0 true cc0_transform_3 t = true)

/-! ## The body at a point -/

/-- The buffers of a point. -/
abbrev buf0 (hO : Inside m) (t : Fin (cfgM m hO).N) : Memref sig .tc .vmem S512x4096 .bf16 := spec0_0.stage ((cfgM m hO).slots t 0)
abbrev buf1 (hO : Inside m) (t : Fin (cfgM m hO).N) : Memref sig .tc .vmem S1x1x4096x512 .f32 := spec0_1.stage ((cfgM m hO).slots t 1)
abbrev buf2 (hO : Inside m) (t : Fin (cfgM m hO).N) : Memref sig .tc .vmem S1x1x4096x512 .f32 := spec0_2.stage ((cfgM m hO).slots t 2)
abbrev buf3 (hO : Inside m) (t : Fin (cfgM m hO).N) : Memref sig .tc .vmem S512x512 .bf16 := spec0_3.stage ((cfgM m hO).slots t 3)

abbrev bodyAt (hO : Inside m) (t : Fin (cfgM m hO).N) : Prog (TpuEff nD τ sig (Elt F) Λ₀ .tc) PUnit :=
  bodyOf (grid0.coords t)
    (buf0 m hO t) (hstage0_0 (((cfgM m hO).slots t 0).cast nbuf0_0)) (buf1 m hO t) (hstage0_1 (((cfgM m hO).slots t 1).cast nbuf0_1))
    (buf2 m hO t) (hstage0_2 (((cfgM m hO).slots t 2).cast nbuf0_2)) (buf3 m hO t) (hstage0_3 (((cfgM m hO).slots t 3).cast nbuf0_3))
    scratchM (Memref.isWhole_whole _) scratchM' (Memref.isWhole_whole _)

theorem body_row (hO : Inside m) (t : Fin (cfgM m hO).N) :
    defs₀ (F := F) .tc (cfgM m hO).body ((cfgM m hO).bodyArgs t ((cfgM m hO).slots t)) = bodyAt m hO t := by
  unfold defs₀
  rw [Defs.onTc_tc]

set_option maxHeartbeats 1600000 in
/-- The body at any point leaves the block and the scratches as said. -/
theorem point (hO : Inside m) (c : Dev nD) (t : Fin (cfgM m hO).N) :
    iprop((dats m hO 0 c).Φ t.castSucc ∗ (dats m hO 0 c).owesAt () t.castSucc
      ∗ (∃ d, owns (c : Thread nD τ) (buf0 m hO t) fullShare ((dats m hO 0 c).before 0 t d))
      ∗ (∃ d, owns (c : Thread nD τ) (buf1 m hO t) fullShare ((dats m hO 0 c).before 1 t d))
      ∗ (∃ d, owns (c : Thread nD τ) (buf2 m hO t) fullShare ((dats m hO 0 c).before 2 t d))
      ∗ (∃ d, owns (c : Thread nD τ) (buf3 m hO t) fullShare ((dats m hO 0 c).before 3 t d)))
    ⊢ wp frame (wpE (defs₀ (F := F)) Variants.none c none) Set.univ (bodyAt m hO t) fun _ =>
      iprop((dats m hO 0 c).Φ t.succ ∗ (dats m hO 0 c).owesAt () t.succ
      ∗ owns (c : Thread nD τ) (buf0 m hO t) fullShare ((dats m hO 0 c).after 0 t)
      ∗ owns (c : Thread nD τ) (buf1 m hO t) fullShare ((dats m hO 0 c).after 1 t)
      ∗ owns (c : Thread nD τ) (buf2 m hO t) fullShare ((dats m hO 0 c).after 2 t)
      ∗ owns (c : Thread nD τ) (buf3 m hO t) fullShare ((dats m hO 0 c).after 3 t)) := by
  simp only [before0, before1, before2]
  rw [show (dats m hO 0 c).owesAt () t.succ = (dats m hO 0 c).owesAt () t.castSucc from rfl, after0, after1, after2, after3,
    inv_at, inv_at, Fin.val_succ, Fin.val_castSucc]
  unfold Inv
  have c1 := cond1_iff c (grid0.coords t) (eT m c) (nT m c)
  have c2 := cond2_iff c (grid0.coords t) (eT m c) (nT m c)
  have c3 := cond3_iff c (grid0.coords t) (nT m c)
  by_cases hu : Used c (grid0.coords t) (nT m c)
  · by_cases hn : New c (grid0.coords t) (eT m c)
    · rw [show leaves m hO c t = slabwise (rowsAt m hO c t) (gateAt m hO c t) (upAt m hO c t) from by unfold leaves; rw [if_pos hu, if_pos hn]]
      iintro ⟨⟨⟨⟨%d, %d', -, HS, HS'⟩, Hg⟩, HT0, HT1⟩, Ho, ⟨%d0, H0⟩, ⟨%d1, H1⟩, ⟨%d2, H2⟩, ⟨%d3, H3⟩⟩
      iapply (body_new c (grid0.coords t) _ _ _ _ _ _ _ _ _ _ _ _ (rowsAt m hO c t) (gateAt m hO c t) (upAt m hO c t) (eT m c) (nT m c)
        (c1.2 ⟨hu, hn⟩) (fun h => (c2.1 h).2 hn) (fun h => c3.1 h hu) Set.univ _)
      isplitl [H0]
      · iexact H0
      isplitl [H1]
      · iexact H1
      isplitl [H2]
      · iexact H2
      isplitl [H3]
      · iexists _
        iexact H3
      isplitl [HS]
      · iexists _
        iexact HS
      isplitl [HS']
      · iexists _
        iexact HS'
      isplitl [HT0]
      · iexact HT0
      isplitl [HT1]
      · iexact HT1
      iintro ⟨H0, H1, H2, H3, HS, HS', HT0, HT1⟩
      isplitl [HS HS' Hg HT0 HT1]
      · isplitl [HS HS' Hg]
        · isplitl [HS HS']
          · iexists _
            iexists _
            isplitr
            · ipureintro
              intro s hs _
              obtain rfl : s = t := Fin.ext (Nat.succ.inj hs)
              exact ⟨rfl, rfl⟩
            isplitl [HS]
            · iexact HS
            iexact HS'
          iexact Hg
        isplitl [HT0]
        · iexact HT0
        iexact HT1
      isplitl [Ho]
      · iexact Ho
      isplitl [H0]
      · iexact H0
      isplitl [H1]
      · iexact H1
      isplitl [H2]
      · iexact H2
      iexact H3
    · rw [show leaves m hO c t = k0_pay6 (rowsAt m hO c t) (kept (gateAt m hO c t)) (kept (upAt m hO c t)) from by unfold leaves; rw [if_pos hu, if_neg hn]]
      obtain ⟨s, hs, hus, hws, hws'⟩ := same_weights m hO c t hu hn
      iintro ⟨⟨⟨⟨%d, %d', %hd, HS, HS'⟩, Hg⟩, HT0, HT1⟩, Ho, ⟨%d0, H0⟩, ⟨%d1, H1⟩, ⟨%d2, H2⟩, ⟨%d3, H3⟩⟩
      obtain ⟨e0, e1⟩ := hd s hs hus
      obtain rfl : d = kept (gateAt m hO c t) := e0.trans (congrArg kept hws)
      obtain rfl : d' = kept (upAt m hO c t) := e1.trans (congrArg kept hws')
      iapply (body_same c (grid0.coords t) _ _ _ _ _ _ _ _ _ _ _ _ (rowsAt m hO c t) (gateAt m hO c t) (upAt m hO c t) (eT m c) (nT m c)
        (fun h => hn (c1.1 h).2) (c2.2 ⟨hu, hn⟩) (fun h => c3.1 h hu) _ _ Set.univ _)
      isplitl [H0]
      · iexact H0
      isplitl [H1]
      · iexact H1
      isplitl [H2]
      · iexact H2
      isplitl [H3]
      · iexists _
        iexact H3
      isplitl [HS]
      · iexact HS
      isplitl [HS']
      · iexact HS'
      isplitl [HT0]
      · iexact HT0
      isplitl [HT1]
      · iexact HT1
      iintro ⟨H0, H1, H2, H3, HS, HS', HT0, HT1⟩
      isplitl [HS HS' Hg HT0 HT1]
      · isplitl [HS HS' Hg]
        · isplitl [HS HS']
          · iexists _
            iexists _
            isplitr
            · ipureintro
              intro s hs _
              obtain rfl : s = t := Fin.ext (Nat.succ.inj hs)
              exact ⟨rfl, rfl⟩
            isplitl [HS]
            · iexact HS
            iexact HS'
          iexact Hg
        isplitl [HT0]
        · iexact HT0
        iexact HT1
      isplitl [Ho]
      · iexact Ho
      isplitl [H0]
      · iexact H0
      isplitl [H1]
      · iexact H1
      isplitl [H2]
      · iexact H2
      iexact H3
  · rw [show leaves m hO c t = k0_pay7 from by unfold leaves; rw [if_neg hu]]
    iintro ⟨⟨⟨⟨%d, %d', -, HS, HS'⟩, Hg⟩, HT0, HT1⟩, Ho, ⟨%d0, H0⟩, ⟨%d1, H1⟩, ⟨%d2, H2⟩, ⟨%d3, H3⟩⟩
    iapply (body_unused c (grid0.coords t) _ _ _ _ _ _ _ _ _ _ _ _ (rowsAt m hO c t) (gateAt m hO c t) (upAt m hO c t) (eT m c) (nT m c)
      (fun h => hu (c1.1 h).1) (fun h => hu (c2.1 h).1) (c3.2 hu) _ _ Set.univ _)
    isplitl [H0]
    · iexact H0
    isplitl [H1]
    · iexact H1
    isplitl [H2]
    · iexact H2
    isplitl [H3]
    · iexists _
      iexact H3
    isplitl [HS]
    · iexact HS
    isplitl [HS']
    · iexact HS'
    isplitl [HT0]
    · iexact HT0
    isplitl [HT1]
    · iexact HT1
    iintro ⟨H0, H1, H2, H3, HS, HS', HT0, HT1⟩
    isplitl [HS HS' Hg HT0 HT1]
    · isplitl [HS HS' Hg]
      · isplitl [HS HS']
        · iexists _
          iexists _
          isplitr
          · ipureintro
            intro s hs hus
            obtain rfl : s = t := Fin.ext (Nat.succ.inj hs)
            exact absurd hus hu
          isplitl [HS]
          · iexact HS
          iexact HS'
        iexact Hg
      isplitl [HT0]
      · iexact HT0
      iexact HT1
    isplitl [Ho]
    · iexact Ho
    isplitl [H0]
    · iexact H0
    isplitl [H1]
    · iexact H1
    isplitl [H2]
    · iexact H2
    iexact H3

/-- A block that is written back is left as said, idle or not. -/
theorem result_left (hO : Inside m) (c : Dev nD) (t : Fin (cfgM m hO).N) :
    (owns (c : Thread nD τ) (buf3 m hO t) fullShare ((dats m hO 0 c).after 3 t) : sProp 𝕄)
      ⊢ match (cfgM m hO).idle 3 ((cfgM m hO).grid.coords t) with
        | true =>
          match ((cfgM m hO).win 3).flush t with
          | false => iprop(∃ d, owns (c : Thread nD τ) (((cfgM m hO).win 3).stage ((cfgM m hO).slots t 3)) fullShare ((dats m hO 0 c).before 3 t d))
          | true => owns (c : Thread nD τ) (((cfgM m hO).win 3).stage ((cfgM m hO).slots t 3)) fullShare ((dats m hO 0 c).after 3 t)
        | false => owns (c : Thread nD τ) (((cfgM m hO).win 3).stage ((cfgM m hO).slots t 3)) fullShare ((dats m hO 0 c).after 3 t) := by
  have hf := flush3 m hO t
  generalize (cfgM m hO).idle 3 ((cfgM m hO).grid.coords t) = b
  generalize ((cfgM m hO).win 3).flush t = f at hf ⊢
  subst hf
  cases b
  · exact Entails.refl _
  · exact Entails.refl _

/-- The same at every point, as the launch asks it. -/
theorem points (hO : Inside m) (c : Dev nD) : BodyObligation (dats (F := F) m hO 0 c) (defs₀ (F := F)) Variants.none () Set.univ := fun t => by
  rw [bigSep_W0, bigSep_W0, body_row m hO]
  refine triple_restated (point m hO c t) rfl .rfl fun _ => ?_
  refine sep_mono_r (sep_mono_r (sep_mono_r (sep_mono_r (sep_mono_r ?_))))
  exact result_left m hO c t

/-- The invariant before the first point, and after the last. -/
theorem enter (hO : Inside m) (c : Dev nD) : iprop(Pipeline.ΦA spec0 c ∗ Pipeline.ΦT pre0 (tables m) c) ⊢ (dats m hO 0 c).Φ 0 := by
  rw [show (dats m hO 0 c).Φ 0 = Inv m hO c 0 from rfl, rest_eq, tables_held]
  unfold Inv
  iintro ⟨⟨⟨⟨%d, HS⟩, ⟨%d', HS'⟩⟩, Hg⟩, HT0, HT1⟩
  isplitl [HS HS' Hg]
  · isplitl [HS HS']
    · iexists d
      iexists d'
      isplitr
      · ipureintro
        intro s hs
        exact absurd hs (Nat.succ_ne_zero _)
      isplitl [HS]
      · iexact HS
      iexact HS'
    iexact Hg
  isplitl [HT0]
  · iexact HT0
  iexact HT1

theorem leave (hO : Inside m) (c : Dev nD) : (dats m hO 0 c).Φ (Fin.last (cfgM m hO).N) ⊢ Pipeline.ΦA spec0 c := by
  rw [show (dats m hO 0 c).Φ (Fin.last (cfgM m hO).N) = Inv m hO c (cfgM m hO).N from rfl, rest_eq]
  unfold Inv
  iintro ⟨⟨⟨%d, %d', -, HS, HS'⟩, Hg⟩, -⟩
  isplitl [HS HS']
  · isplitl [HS]
    · iexists _
      iexact HS
    iexists _
    iexact HS'
  iexact Hg

/-! ## The launch -/

set_option backward.isDefEq.respectTransparency.types false in
/-- The program runs; every array ends as the points' blocks make it, and every counter at zero. -/
theorem run (hO : Inside m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (points m hO c).loose) (hshare := fun c => (dats m hO 0 c).share_full fun _ => rfl)
    (howed := fun _ _ => rfl) (V := V m) (hmain := program_is_region m Variants.none) (hA := arrays_eq m hO) (hpf := V_tables m)
    (hin := enter m hO) (hout := leave m hO)

/-- The program runs, the arguments and the counters end as launched, and the result is what the points' blocks make it. -/
theorem run_result (hO : Inside m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ (r.2.sem = fun _ => 0)
      ∧ ∀ c : Dev nD, r.2.mem ((c.tc : Thread nD τ).loc main_v0) = (dats m hO 0 c).arrAt 3 (cfgM m hO).N) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (arrays_eq m hO c 0)),
      ((h.1 c).1 1).trans (((dats m hO 0 c).arrAt_in 1 rfl _).trans (arrays_eq m hO c 1)),
      ((h.1 c).1 2).trans (((dats m hO 0 c).arrAt_in 2 rfl _).trans (arrays_eq m hO c 2))⟩, h.2, fun c => (h.1 c).1 3⟩) (run m ρ hO)

/-- The frame. -/
theorem frame_run (hO : Inside m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨h.1, h.2.1⟩) (run_result m ρ hO)

end Cert.ExpertGate

end
-- ==== Proof.Gateup.lean ====
/- The call ffn_gateup of a dense layer: the first point of a block of columns multiplies slab by slab with both weights,
   rounding each slab and keeping it in scratch; the other points multiply by the whole scratches. Both gate the second
   product by the first. The array is the gated product, as the reference computes it. -/
module

public import proofs.«01_k».proof.Proof.Sums
public import proofs.«01_k».proof.Proof.Gen.Kernel2Ideal.Value
public import proofs.«01_k».proof.Proof.Gen.Reference2Ideal.Run
public import Idealize.ShloMosaic.Lib.Pipeline.ValueKit.Tiles
public import Idealize.ShloMosaic.Lib.IdealHost

@[expose] public section

set_option maxRecDepth 16384

noncomputable section

namespace Cert.Gateup

open Cert.Kernel2Ideal Cert.Kernel2Ideal.Gen Cert.Kernel2Ideal.Value Idealize.ShloMosaic Idealize.ShloMosaic.TcCoe Idealize.SL.Sem Idealize.ShloMosaic.Tactic
open Idealize.ShloMosaic.StableHlo
open Cert.Sums (read_whole zero2 zero3)

/-- The gated product of two numbers: `g / (1 + exp(-g)) * u`. -/
def glu (g u : EReal) : EReal := Ideal.div g (1 + Ideal.exp (0 - g)) * u

/-- An exponential is not negative, -/
theorem exp_not_neg (x : EReal) : 0 ≤ Ideal.exp x := by
  induction x using EReal.rec with
  | bot => exact le_refl _
  | coe r => exact EReal.coe_nonneg.2 (Real.exp_pos r).le
  | top => exact le_top

/-- so the gated product is the one with the logistic function as a factor. -/
theorem glu_eq (g u : EReal) : glu g u = g * Ideal.div 1 (1 + Ideal.exp (-g)) * u := by
  have h : (1 : EReal) + Ideal.exp (-g) ≠ 0 :=
    (lt_of_lt_of_le zero_lt_one (le_add_of_nonneg_right (exp_not_neg (-g)))).ne'
  unfold glu
  rw [zero_sub, Ideal.mul_one_div h]

/-- The product slab by slab. -/
def slabs (a : Vec Ideal S1024x4096 .bf16) (w0 w1 w2 w3 w4 w5 w6 w7 : Vec Ideal S1x512x256 .f32) (r : Fin 1024) (l : Fin 256) : EReal :=
  (((((((∑ k : Fin 512, (a (ix2 r ⟨0 + k.val, by omega⟩) : EReal) * w0 (ix3 0 k l))
        + ∑ k : Fin 512, (a (ix2 r ⟨512 + k.val, by omega⟩) : EReal) * w1 (ix3 0 k l))
        + ∑ k : Fin 512, (a (ix2 r ⟨1024 + k.val, by omega⟩) : EReal) * w2 (ix3 0 k l))
        + ∑ k : Fin 512, (a (ix2 r ⟨1536 + k.val, by omega⟩) : EReal) * w3 (ix3 0 k l))
        + ∑ k : Fin 512, (a (ix2 r ⟨2048 + k.val, by omega⟩) : EReal) * w4 (ix3 0 k l))
        + ∑ k : Fin 512, (a (ix2 r ⟨2560 + k.val, by omega⟩) : EReal) * w5 (ix3 0 k l))
        + ∑ k : Fin 512, (a (ix2 r ⟨3072 + k.val, by omega⟩) : EReal) * w6 (ix3 0 k l))
        + ∑ k : Fin 512, (a (ix2 r ⟨3584 + k.val, by omega⟩) : EReal) * w7 (ix3 0 k l)

/-- The first point's product with the gate's weights at an element, slab by slab; -/
theorem gate_apply (a : Vec Ideal S1024x4096 .bf16) (w0 w1 w2 w3 w4 w5 w6 w7 : Vec Ideal S1x512x256 .f32) (r : Fin 1024) (l : Fin 256) :
    k0_pay23 (F := Ideal) a (k0_pay20 a (k0_pay11 a w0 w1 w2) (k0_pay12 w3) w4 w5 w6) (k0_pay21 w7) (ix2 r l)
      = slabs a w0 w1 w2 w3 w4 w5 w6 w7 r l := by
  unfold k0_pay23 k0_pay20 k0_pay11 k0_pay12 k0_pay21 k0_pay5 k0_pay7 k0_pay9 k0_pay14 k0_pay16 k0_pay18 slabs
  pointwise [dot_S1024x512_S512x256_S1024x256_1_0_0_1_n_n]

/-- its value at an element: that product gates the second one; -/
theorem pay3_apply (a : Vec Ideal S1024x4096 .bf16) (g : FVec Ideal S1024x256 .f32) (w0 w1 w2 w3 w4 w5 w6 w7 : Vec Ideal S1x512x256 .f32) (r : Fin 1024) (l : Fin 256) :
    k0_pay3 (F := Ideal) a g (k0_pay37 a (k0_pay30 a w0 w1 w2) w3 w4 w5) (k0_pay40 a w6) w7 (ix2 r l)
      = glu (g (ix2 r l)) (slabs a w0 w1 w2 w3 w4 w5 w6 w7 r l) := by
  unfold k0_pay3 k0_pay37 k0_pay40 k0_pay30 k0_pay24 k0_pay26 k0_pay28 k0_pay31 k0_pay33 k0_pay35 k0_pay38 k0_pay1 slabs glu
  pointwise [dot_S1024x512_S512x256_S1024x256_1_0_0_1_n_n]

/-- the other points'; -/
theorem pay4_apply (a : Vec Ideal S1024x4096 .bf16) (w u : Vec Ideal S4096x256 .bf16) (r : Fin 1024) (l : Fin 256) :
    k0_pay4 (F := Ideal) a w u (ix2 r l)
      = glu (∑ k : Fin 4096, (a (ix2 r k) : EReal) * w (ix2 k l)) (∑ k : Fin 4096, (a (ix2 r k) : EReal) * u (ix2 k l)) := by
  unfold k0_pay4 glu
  pointwise [dot_S1024x4096_S4096x256_S1024x256_1_0_0_1_n_n]

/-- a slab of the weights, rounded. -/
theorem slab_apply (w : Vec Ideal S1x4096x256 .f32) (o : ℕ) (ho : o + 512 ≤ 4096) (inb) (k : Fin 512) (l : Fin 256) :
    View.ld w (Rect.unit (s := S1x4096x256) ![0, o, 0] S1x512x256.size inb) (ix3 0 k l) = w (ix3 0 ⟨o + k.val, by omega⟩ l) :=
  View.ld_unit_apply_of _ _ _ _ _ _ (fun k => by
    fin_cases k
    · rfl
    · rfl
    · show l.val = 0 + l.val
      omega)

/-- A rounded slab at an element. -/
theorem round_apply (w : Vec Ideal S1x512x256 .f32) (k : Fin 512) (l : Fin 256) : k0_pay6 (F := Ideal) w (ix2 k l) = w (ix3 0 k l) := by
  unfold k0_pay6 k0_pay5
  pointwise

/-- A slab of the weights as the body reads it. -/
abbrev slabOf (arg3 : Memref sig .tc .vmem S1x4096x256 .f32) (harg3 : arg3.IsWhole) (w : Vec Ideal S1x4096x256 .f32) (o : ℕ)
    (inb : ∀ k, (![0, o, 0] : Fin 3 → ℕ) k + S1x512x256.size k ≤ S1x4096x256.size k) : Vec Ideal S1x512x256 .f32 :=
  View.readAt (Elt Ideal) arg3.view (Rect.unit (s := S1x4096x256) ![0, o, 0] S1x512x256.size inb).toLoadRect (harg3.unread w)

theorem slabOf_apply (arg3 : Memref sig .tc .vmem S1x4096x256 .f32) (harg3 : arg3.IsWhole) (w : Vec Ideal S1x4096x256 .f32) (o : ℕ) (ho : o + 512 ≤ 4096) (inb) (k : Fin 512) (l : Fin 256) :
    slabOf arg3 harg3 w o inb (ix3 0 k l) = w (ix3 0 ⟨o + k.val, by omega⟩ l) := by
  unfold slabOf
  rw [View.readAt_eq_ld, harg3.read_unread]
  exact slab_apply w o ho inb k l

/-- A rounded slab, kept: the weights at its place. -/
theorem kept_piece (arg3 : Memref sig .tc .vmem S1x4096x256 .f32) (harg3 : arg3.IsWhole) (w : Vec Ideal S1x4096x256 .f32) (o : ℕ) (inb) (inb') (x : S512x256.Idx) :
    k0_pay6 (F := Ideal) (slabOf arg3 harg3 w o inb) x
      = (fun y : S4096x256.Idx => (w (ix3 0 (y 0) (y 1)) : EReal)) ((Rect.unit (s := S4096x256) ![o, 0] S512x256.size inb').emb x) := by
  obtain ⟨k, l, rfl⟩ : ∃ (k : Fin 512) (l : Fin 256), x = ix2 k l := ⟨x 0, x 1, by funext k; fin_cases k <;> rfl⟩
  rw [round_apply, slabOf_apply arg3 harg3 w o (inb 1)]
  show w _ = w _
  congr 1
  funext a
  apply Fin.ext
  match a with
  | ⟨0, _⟩ => rfl
  | ⟨1, _⟩ => show o + k.val = o + 1 * k.val; omega
  | ⟨2, _⟩ => show l.val = 0 + 1 * l.val; omega

/-- The slabs' products together are the whole product. -/
theorem slabs_eq (arg3 : Memref sig .tc .vmem S1x4096x256 .f32) (harg3 : arg3.IsWhole) (w : Vec Ideal S1x4096x256 .f32) (a : Vec Ideal S1024x4096 .bf16) (r : Fin 1024) (l : Fin 256) :
    slabs a (slabOf arg3 harg3 w 0 (by decide)) (slabOf arg3 harg3 w 512 (by decide)) (slabOf arg3 harg3 w 1024 (by decide)) (slabOf arg3 harg3 w 1536 (by decide))
        (slabOf arg3 harg3 w 2048 (by decide)) (slabOf arg3 harg3 w 2560 (by decide)) (slabOf arg3 harg3 w 3072 (by decide)) (slabOf arg3 harg3 w 3584 (by decide)) r l
      = ∑ k : Fin 4096, (a (ix2 r k) : EReal) * w (ix3 0 k l) := by
  unfold slabs
  rw [Cert.Sums.sum_eight]
  have h : ∀ (o : ℕ) (ho : o + 512 ≤ 4096) (inb), ∑ k : Fin 512, (a (ix2 r ⟨o + k.val, by omega⟩) : EReal) * slabOf arg3 harg3 w o inb (ix3 0 k l)
      = ∑ k : Fin 512, (a (ix2 r ⟨o + k.val, by omega⟩) : EReal) * w (ix3 0 ⟨o + k.val, by omega⟩ l) := fun o ho inb =>
    Finset.sum_congr rfl fun k _ => congrArg (fun z : EReal => (a (ix2 r ⟨o + k.val, by omega⟩) : EReal) * z) (slabOf_apply arg3 harg3 w o ho inb k l)
  rw [h 0 (by decide), h 512 (by decide), h 1024 (by decide), h 1536 (by decide), h 2048 (by decide), h 2560 (by decide), h 3072 (by decide), h 3584 (by decide)]
  simp only [Nat.zero_add]

section Point

variable (c : Dev nD) (i : grid0.Coords) (arg2 : Memref sig .tc .vmem S1024x4096 .bf16) (harg2 : arg2.IsWhole)
  (arg3 : Memref sig .tc .vmem S1x4096x256 .f32) (harg3 : arg3.IsWhole) (arg4 : Memref sig .tc .vmem S1x4096x256 .f32) (harg4 : arg4.IsWhole)
  (arg5 : Memref sig .tc .vmem S1024x256 .bf16) (harg5 : arg5.IsWhole) (arg6 : Memref sig .tc .vmem S4096x256 .bf16) (harg6 : arg6.IsWhole)
  (arg7 : Memref sig .tc .vmem S4096x256 .bf16) (harg7 : arg7.IsWhole)
  (x0 : Vec Ideal S1024x4096 .bf16) (x1 x2 : Vec Ideal S1x4096x256 .f32)

/-- A point that starts a block of columns leaves the gated product; -/
theorem out_A (hc0 : cond0_0 i) (hc1 : ¬cond0_1 i) (r : Fin 1024) (l : Fin 256) :
    out0_A_3 (F := Ideal) c i arg2 harg2 arg3 harg3 arg4 harg4 arg5 harg5 arg6 harg6 arg7 harg7 hc0 hc1 x0 x1 x2 (ix2 r l)
      = glu (∑ k : Fin 4096, (x0 (ix2 r k) : EReal) * x1 (ix3 0 k l)) (∑ k : Fin 4096, (x0 (ix2 r k) : EReal) * x2 (ix3 0 k l)) := by
  unfold out0_A_3
  rw [View.read_writes_eq_canon _ _ _ (fun y => cover0_A_3 (F := Ideal) c i arg2 harg2 arg3 harg3 arg4 harg4 arg5 harg5 arg6 harg6 arg7 harg7 hc0 hc1 x0 x1 x2 y)]
  unfold kernelRun0_A
  dsimp only
  rw [View.canon_cons_unit_zero zero2]
  refine (pay3_apply (View.readAt (Elt Ideal) arg2.view (Rect.unit (s := S1024x4096) ![0, 0] S1024x4096.size inb_S1024x4096_S1024x4096_0_0).toLoadRect (harg2.unread x0)) _
    (slabOf arg4 harg4 x2 0 (by decide)) (slabOf arg4 harg4 x2 512 (by decide)) (slabOf arg4 harg4 x2 1024 (by decide)) (slabOf arg4 harg4 x2 1536 (by decide))
    (slabOf arg4 harg4 x2 2048 (by decide)) (slabOf arg4 harg4 x2 2560 (by decide)) (slabOf arg4 harg4 x2 3072 (by decide)) (slabOf arg4 harg4 x2 3584 (by decide)) r l).trans ?_
  refine congrArg₂ glu ((gate_apply (View.readAt (Elt Ideal) arg2.view (Rect.unit (s := S1024x4096) ![0, 0] S1024x4096.size inb_S1024x4096_S1024x4096_0_0).toLoadRect (harg2.unread x0))
    (slabOf arg3 harg3 x1 0 (by decide)) (slabOf arg3 harg3 x1 512 (by decide)) (slabOf arg3 harg3 x1 1024 (by decide)) (slabOf arg3 harg3 x1 1536 (by decide))
    (slabOf arg3 harg3 x1 2048 (by decide)) (slabOf arg3 harg3 x1 2560 (by decide)) (slabOf arg3 harg3 x1 3072 (by decide)) (slabOf arg3 harg3 x1 3584 (by decide)) r l).trans ?_) ?_
  · rw [read_whole zero2, slabs_eq]
  · rw [read_whole zero2, slabs_eq]

/-- it keeps the gate's weights -/
theorem kept_A0 (hc0 : cond0_0 i) (hc1 : ¬cond0_1 i) (k : Fin 4096) (l : Fin 256) :
    sout0_A_0 (F := Ideal) c i arg2 harg2 arg3 harg3 arg4 harg4 arg5 harg5 arg6 harg6 arg7 harg7 hc0 hc1 x0 x1 x2 (ix2 k l) = x1 (ix3 0 k l) := by
  unfold sout0_A_0
  rw [View.read_writes_eq_canon _ _ _ (fun y => scover0_A_0 (F := Ideal) c i arg2 harg2 arg3 harg3 arg4 harg4 arg5 harg5 arg6 harg6 arg7 harg7 hc0 hc1 x0 x1 x2 y)]
  refine View.canon_apply_of_pieces (fun y : S4096x256.Idx => (x1 (ix3 0 (y 0) (y 1)) : EReal)) _ ?_ (ix2 k l)
    (scover0_A_0 (F := Ideal) c i arg2 harg2 arg3 harg3 arg4 harg4 arg5 harg5 arg6 harg6 arg7 harg7 hc0 hc1 x0 x1 x2 (ix2 k l))
  unfold kernelRun0_A
  dsimp only
  have h := kept_piece arg3 harg3 x1
  exact List.forall_mem_cons.2 ⟨h 3584 (by decide) (by decide), List.forall_mem_cons.2 ⟨h 3072 (by decide) (by decide),
    List.forall_mem_cons.2 ⟨h 2560 (by decide) (by decide), List.forall_mem_cons.2 ⟨h 2048 (by decide) (by decide),
    List.forall_mem_cons.2 ⟨h 1536 (by decide) (by decide), List.forall_mem_cons.2 ⟨h 1024 (by decide) (by decide),
    List.forall_mem_cons.2 ⟨h 512 (by decide) (by decide), List.forall_mem_cons.2 ⟨h 0 (by decide) (by decide), List.forall_mem_nil _⟩⟩⟩⟩⟩⟩⟩⟩

/-- and the second weights; -/
theorem kept_A1 (hc0 : cond0_0 i) (hc1 : ¬cond0_1 i) (k : Fin 4096) (l : Fin 256) :
    sout0_A_1 (F := Ideal) c i arg2 harg2 arg3 harg3 arg4 harg4 arg5 harg5 arg6 harg6 arg7 harg7 hc0 hc1 x0 x1 x2 (ix2 k l) = x2 (ix3 0 k l) := by
  unfold sout0_A_1
  rw [View.read_writes_eq_canon _ _ _ (fun y => scover0_A_1 (F := Ideal) c i arg2 harg2 arg3 harg3 arg4 harg4 arg5 harg5 arg6 harg6 arg7 harg7 hc0 hc1 x0 x1 x2 y)]
  refine View.canon_apply_of_pieces (fun y : S4096x256.Idx => (x2 (ix3 0 (y 0) (y 1)) : EReal)) _ ?_ (ix2 k l)
    (scover0_A_1 (F := Ideal) c i arg2 harg2 arg3 harg3 arg4 harg4 arg5 harg5 arg6 harg6 arg7 harg7 hc0 hc1 x0 x1 x2 (ix2 k l))
  unfold kernelRun0_A
  dsimp only
  have h := kept_piece arg4 harg4 x2
  exact List.forall_mem_cons.2 ⟨h 3584 (by decide) (by decide), List.forall_mem_cons.2 ⟨h 3072 (by decide) (by decide),
    List.forall_mem_cons.2 ⟨h 2560 (by decide) (by decide), List.forall_mem_cons.2 ⟨h 2048 (by decide) (by decide),
    List.forall_mem_cons.2 ⟨h 1536 (by decide) (by decide), List.forall_mem_cons.2 ⟨h 1024 (by decide) (by decide),
    List.forall_mem_cons.2 ⟨h 512 (by decide) (by decide), List.forall_mem_cons.2 ⟨h 0 (by decide) (by decide), List.forall_mem_nil _⟩⟩⟩⟩⟩⟩⟩⟩

/-- another multiplies by what was kept. -/
theorem out_B (hc0 : ¬cond0_0 i) (hc1 : cond0_1 i) (xs ys : Vec Ideal S4096x256 .bf16) (r : Fin 1024) (l : Fin 256) :
    out0_B_3 (F := Ideal) c i arg2 harg2 arg3 harg3 arg4 harg4 arg5 harg5 arg6 harg6 arg7 harg7 hc0 hc1 x0 x1 x2 xs ys (ix2 r l)
      = glu (∑ k : Fin 4096, (x0 (ix2 r k) : EReal) * xs (ix2 k l)) (∑ k : Fin 4096, (x0 (ix2 r k) : EReal) * ys (ix2 k l)) := by
  unfold out0_B_3
  rw [View.read_writes_eq_canon _ _ _ (fun y => cover0_B_3 (F := Ideal) c i arg2 harg2 arg3 harg3 arg4 harg4 arg5 harg5 arg6 harg6 arg7 harg7 hc0 hc1 x0 x1 x2 xs ys y)]
  unfold kernelRun0_B
  dsimp only
  rw [View.canon_cons_unit_zero zero2, read_whole zero2, read_whole zero2, read_whole zero2, pay4_apply]

end Point

section
variable (m : (ℓ : Loc nD τ sig) → Buf (Elt Ideal) ℓ) (c : Dev nD)

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)
theorem idx2 : ∀ t : Fin cfg0.N, win0_2.index t 0 = 0 ∧ win0_2.index t 1 = 0 ∧ win0_2.index t 2 = t.val / 8 :=
  (by decide +kernel : ∀ t : Fin grid0.N, win0_2.index t 0 = 0 ∧ win0_2.index t 1 = 0 ∧ win0_2.index t 2 = t.val / 8)
theorem idx3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)

theorem lt344 (t : Fin cfg0.N) : t.val < 344 := t.isLt.trans_eq (show cfg0.N = 344 from N_0)

/-- The left block of a point, read from its array; -/
theorem blk0 (t : Fin cfg0.N) (r : Fin 1024) (k : Fin 4096) : (iblk m c 0 t : Vec Ideal S1024x4096 .bf16) (ix2 r k)
    = V m c main_arg0 (ix2 ⟨t.val % 8 * 1024 + r.val, by omega⟩ k) := by
  unfold iblk
  rw [View.read_apply]
  show V m c main_arg0 _ = _
  congr 1
  funext a
  apply Fin.ext
  match a with
  | ⟨0, _⟩ => show win0_0.index t 0 * 1024 + 1 * r.val = _; rw [(idx0 t).1, Nat.one_mul]; rfl
  | ⟨1, _⟩ => show win0_0.index t 1 * 4096 + 1 * k.val = _; rw [(idx0 t).2, Nat.one_mul, Nat.zero_mul, Nat.zero_add]; rfl

/-- the block of the gate's weights; -/
theorem blk1 (t : Fin cfg0.N) (k : Fin 4096) (l : Fin 256) : (iblk m c 1 t : Vec Ideal S1x4096x256 .f32) (ix3 0 k l)
    = V m c main_arg1 (ix3 0 k ⟨t.val / 8 * 256 + l.val, by have := lt344 t; omega⟩) := by
  unfold iblk
  rw [View.read_apply]
  show V m c main_arg1 _ = _
  congr 1
  funext a
  apply Fin.ext
  match a with
  | ⟨0, _⟩ => show win0_1.index t 0 * 1 + 1 * 0 = _; rw [(idx1 t).1]; rfl
  | ⟨1, _⟩ => show win0_1.index t 1 * 4096 + 1 * k.val = _; rw [(idx1 t).2.1, Nat.one_mul, Nat.zero_mul, Nat.zero_add]; rfl
  | ⟨2, _⟩ => show win0_1.index t 2 * 256 + 1 * l.val = _; rw [(idx1 t).2.2, Nat.one_mul]; rfl

/-- the block of the second weights. -/
theorem blk2 (t : Fin cfg0.N) (k : Fin 4096) (l : Fin 256) : (iblk m c 2 t : Vec Ideal S1x4096x256 .f32) (ix3 0 k l)
    = V m c main_arg2 (ix3 0 k ⟨t.val / 8 * 256 + l.val, by have := lt344 t; omega⟩) := by
  unfold iblk
  rw [View.read_apply]
  show V m c main_arg2 _ = _
  congr 1
  funext a
  apply Fin.ext
  match a with
  | ⟨0, _⟩ => show win0_2.index t 0 * 1 + 1 * 0 = _; rw [(idx2 t).1]; rfl
  | ⟨1, _⟩ => show win0_2.index t 1 * 4096 + 1 * k.val = _; rw [(idx2 t).2.1, Nat.one_mul, Nat.zero_mul, Nat.zero_add]; rfl
  | ⟨2, _⟩ => show win0_2.index t 2 * 256 + 1 * l.val = _; rw [(idx2 t).2.2, Nat.one_mul]; rfl

/-- What is kept after a point: the weights of its block of columns, the gate's. -/
theorem kept0_eq : ∀ (n : ℕ) (hn : n < cfg0.N) (k : Fin 4096) (l : Fin 256),
    ((outsAt0 m c n hn).2.1 : Vec Ideal S4096x256 .bf16) (ix2 k l)
      = V m c main_arg1 (ix3 0 k ⟨n / 8 * 256 + l.val, by have := lt344 ⟨n, hn⟩; dsimp only at this; omega⟩) := by
  intro n
  induction n with
  | zero =>
    intro hn k l
    have e : outsAt0 m c 0 hn = _ := outsAt0_A m c ⟨0, hn⟩ rfl (by show ¬ 1 ≤ 0 % 8; decide)
    rw [e]
    dsimp only
    rw [kept_A0]
    exact blk1 m c ⟨0, hn⟩ k l
  | succ n ih =>
    intro hn k l
    by_cases h0 : (n + 1) % 8 = 0
    · have e : outsAt0 m c (n + 1) hn = _ := outsAt0_A m c ⟨n + 1, hn⟩ h0 (by show ¬ 1 ≤ (n + 1) % 8; omega)
      rw [e]
      dsimp only
      rw [kept_A0]
      exact blk1 m c ⟨n + 1, hn⟩ k l
    · have e : outsAt0 m c (n + 1) hn = _ := outsAt0_B m c ⟨n + 1, hn⟩ h0 (by show 1 ≤ (n + 1) % 8; omega)
      rw [e]
      refine (ih (Nat.lt_of_succ_lt hn) k l).trans (congrArg (fun x => V m c main_arg1 (ix3 0 k x)) (Fin.ext ?_))
      show n / 8 * 256 + l.val = (n + 1) / 8 * 256 + l.val
      omega

/-- and the second weights. -/
theorem kept1_eq : ∀ (n : ℕ) (hn : n < cfg0.N) (k : Fin 4096) (l : Fin 256),
    ((outsAt0 m c n hn).2.2 : Vec Ideal S4096x256 .bf16) (ix2 k l)
      = V m c main_arg2 (ix3 0 k ⟨n / 8 * 256 + l.val, by have := lt344 ⟨n, hn⟩; dsimp only at this; omega⟩) := by
  intro n
  induction n with
  | zero =>
    intro hn k l
    have e : outsAt0 m c 0 hn = _ := outsAt0_A m c ⟨0, hn⟩ rfl (by show ¬ 1 ≤ 0 % 8; decide)
    rw [e]
    dsimp only
    rw [kept_A1]
    exact blk2 m c ⟨0, hn⟩ k l
  | succ n ih =>
    intro hn k l
    by_cases h0 : (n + 1) % 8 = 0
    · have e : outsAt0 m c (n + 1) hn = _ := outsAt0_A m c ⟨n + 1, hn⟩ h0 (by show ¬ 1 ≤ (n + 1) % 8; omega)
      rw [e]
      dsimp only
      rw [kept_A1]
      exact blk2 m c ⟨n + 1, hn⟩ k l
    · have e : outsAt0 m c (n + 1) hn = _ := outsAt0_B m c ⟨n + 1, hn⟩ h0 (by show 1 ≤ (n + 1) % 8; omega)
      rw [e]
      refine (ih (Nat.lt_of_succ_lt hn) k l).trans (congrArg (fun x => V m c main_arg2 (ix3 0 k x)) (Fin.ext ?_))
      show n / 8 * 256 + l.val = (n + 1) / 8 * 256 + l.val
      omega

/-- The gated product, at a row and column. -/
def gluAt (H : Vec Ideal S8192x4096 .bf16) (G U : Vec Ideal S2x4096x11008 .f32) (row : Fin 8192) (col : Fin 11008) : EReal :=
  glu (∑ k : Fin 4096, (H (ix2 row k) : EReal) * G (ix3 0 k col)) (∑ k : Fin 4096, (H (ix2 row k) : EReal) * U (ix3 0 k col))

/-- What a point leaves in its block. -/
theorem out_eq (t : Fin cfg0.N) (r : Fin 1024) (l : Fin 256) :
    ((outsAt0 m c t.val t.isLt).1 : Vec Ideal S1024x256 .bf16) (ix2 r l)
      = gluAt (V m c main_arg0) (V m c main_arg1) (V m c main_arg2) ⟨t.val % 8 * 1024 + r.val, by omega⟩ ⟨t.val / 8 * 256 + l.val, by have := lt344 t; omega⟩ := by
  unfold gluAt
  by_cases h0 : t.val % 8 = 0
  · rw [outsAt0_A m c t h0 (by omega)]
    dsimp only
    rw [out_A]
    exact congrArg₂ glu
      (Finset.sum_congr rfl fun k _ => congrArg₂ (fun a b : EReal => a * b) (blk0 m c t r k) (blk1 m c t k l))
      (Finset.sum_congr rfl fun k _ => congrArg₂ (fun a b : EReal => a * b) (blk0 m c t r k) (blk2 m c t k l))
  · rw [outsAt0_B m c t h0 (by omega)]
    dsimp only
    rw [out_B]
    have hcol : (t.val - 1) / 8 * 256 + l.val = t.val / 8 * 256 + l.val := by omega
    exact congrArg₂ glu
      (Finset.sum_congr rfl fun k _ => congrArg₂ (fun a b : EReal => a * b) (blk0 m c t r k)
        ((kept0_eq m c (t.val - 1) _ k l).trans (congrArg (fun x => V m c main_arg1 (ix3 0 k x)) (Fin.ext hcol))))
      (Finset.sum_congr rfl fun k _ => congrArg₂ (fun a b : EReal => a * b) (blk0 m c t r k)
        ((kept1_eq m c (t.val - 1) _ k l).trans (congrArg (fun x => V m c main_arg2 (ix3 0 k x)) (Fin.ext hcol))))

/-- A point's block of an array of the result's shape, read at an index. -/
theorem read3 (G : Vec Ideal S8192x11008 .bf16) (t : Fin cfg0.N) (r : Fin 1024) (l : Fin 256) :
    (((cfg0.win 3).blk t).view.read (Elt Ideal) G : Vec Ideal S1024x256 .bf16) (ix2 r l)
      = G (ix2 ⟨t.val % 8 * 1024 + r.val, by omega⟩ ⟨t.val / 8 * 256 + l.val, by have := lt344 t; omega⟩) := by
  rw [View.read_apply]
  show G _ = _
  congr 1
  funext a
  apply Fin.ext
  match a with
  | ⟨0, _⟩ => show win0_3.index t 0 * 1024 + 1 * r.val = _; rw [(idx3 t).1, Nat.one_mul]; rfl
  | ⟨1, _⟩ => show win0_3.index t 1 * 256 + 1 * l.val = _; rw [(idx3 t).2, Nat.one_mul]; rfl

/-- The gated product, as an array. -/
def gluArray (H : Vec Ideal S8192x4096 .bf16) (G U : Vec Ideal S2x4096x11008 .f32) : Vec Ideal S8192x11008 .bf16 :=
  fun y => gluAt H G U (y 0) (y 1)

theorem gluArray_apply (H : Vec Ideal S8192x4096 .bf16) (G U : Vec Ideal S2x4096x11008 .f32) (row : Fin 8192) (col : Fin 11008) :
    gluArray H G U (ix2 row col) = gluAt H G U row col := rfl

/-- So what a point writes back is its block of that array. -/
theorem flushed_eq (t : Fin cfg0.N) : (dats m 0 c).flushed 3 t = ((cfg0.win 3).blk t).view.read (Elt Ideal)
    (gluArray (V m c main_arg0) (V m c main_arg1) (V m c main_arg2)) := by
  rw [flushed3]
  generalize hG : gluArray (V m c main_arg0) (V m c main_arg1) (V m c main_arg2) = G
  have key : ∀ (r : Fin 1024) (l : Fin 256), ((outsAt0 m c t.val t.isLt).1 : Vec Ideal S1024x256 .bf16) (ix2 r l)
      = (((cfg0.win 3).blk t).view.read (Elt Ideal) G : Vec Ideal S1024x256 .bf16) (ix2 r l) := by
    intro r l
    rw [read3, ← hG, gluArray_apply]
    exact out_eq m c t r l
  generalize (outsAt0 m c t.val t.isLt).1 = O at key ⊢
  funext y
  have hy : (y : S1024x256.Idx) = ix2 (y 0) (y 1) := by funext k; fin_cases k <;> rfl
  rw [hy]
  exact key (y 0) (y 1)

/-- The array at the end: the gated product everywhere. -/
theorem array_eq : (dats m 0 c).arrAt 3 cfg0.N = gluArray (V m c main_arg0) (V m c main_arg1) (V m c main_arg2) := by
  refine (dats m 0 c).arrAt_eq_of_cover 3 (gluArray (V m c main_arg0) (V m c main_arg1) (V m c main_arg2))
    (fun t _ => flushed_eq m c t) (fun (i : S8192x11008.Idx) => ?_)
  have h0 : (i 0 : Nat) < 8192 := (i 0).isLt
  have h1 : (i 1 : Nat) < 11008 := (i 1).isLt
  let t : Fin cfg0.N := ⟨(i 1 : Nat) / 256 * 8 + (i 0 : Nat) / 1024, (by omega : _ < 344).trans_eq (show 344 = cfg0.N from N_0.symm)⟩
  have ht : t.val = (i 1 : Nat) / 256 * 8 + (i 0 : Nat) / 1024 := rfl
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [(idx3 t).1, ht]
    omega
  | ⟨1, _⟩ =>
    show win0_3.index t 1 * 256 ≤ (i 1 : Nat) ∧ (i 1 : Nat) < win0_3.index t 1 * 256 + 256
    rw [(idx3 t).2, ht]
    omega

end

/-- The reference: the product with the layer's gate weights, times its logistic function, times the product with the second weights. -/
def refGlu (H : FVec Ideal S8192x4096 .bf16) (G U : FVec Ideal S2x4096x11008 .f32) : FVec Ideal S8192x11008 .bf16 :=
  let g : FVec Ideal S8192x11008 .f32 := Host.dotGeneral Cert.Reference2Ideal.dot_S8192x4096_S4096x11008_S8192x11008_1_0_0_1_n_n none (extf .f32 H bitsLt_bf16_f32 : FVec Ideal S8192x4096 .f32)
    (shapeCast Cert.Reference2Ideal.S4096x11008 (extractStridedSlice Cert.Reference2Ideal.S1x4096x11008 ![0, 0, 0] G Cert.Reference2Ideal.Facts₀.slices_S2x4096x11008_S1x4096x11008_0_0_0 : FVec Ideal Cert.Reference2Ideal.S1x4096x11008 .f32)
      Cert.Reference2Ideal.Facts₀.shapeCasts_S1x4096x11008_S4096x11008 : FVec Ideal Cert.Reference2Ideal.S4096x11008 .f32)
  let u : FVec Ideal S8192x11008 .f32 := Host.dotGeneral Cert.Reference2Ideal.dot_S8192x4096_S4096x11008_S8192x11008_1_0_0_1_n_n none (extf .f32 H bitsLt_bf16_f32 : FVec Ideal S8192x4096 .f32)
    (shapeCast Cert.Reference2Ideal.S4096x11008 (extractStridedSlice Cert.Reference2Ideal.S1x4096x11008 ![0, 0, 0] U Cert.Reference2Ideal.Facts₀.slices_S2x4096x11008_S1x4096x11008_0_0_0 : FVec Ideal Cert.Reference2Ideal.S1x4096x11008 .f32)
      Cert.Reference2Ideal.Facts₀.shapeCasts_S1x4096x11008_S4096x11008 : FVec Ideal Cert.Reference2Ideal.S4096x11008 .f32)
  let one : FVec Ideal S8192x11008 .f32 := broadcastInDim S8192x11008 ![] Cert.Reference2Ideal.Facts₀.bcast_S_S8192x11008 (constant Cert.Reference2Ideal.S_ .f32 0x3F800000#32 : FVec Ideal Cert.Reference2Ideal.S_ .f32)
  truncf .bf16 (mulf (mulf g (Host.divf one (addf one (Host.exp (Host.negf g))))) u) bitsLt_bf16_f32

theorem refGlu_apply (H : FVec Ideal S8192x4096 .bf16) (G U : FVec Ideal S2x4096x11008 .f32) (row : Fin 8192) (col : Fin 11008) :
    refGlu H G U (ix2 row col)
      = glu (∑ k : Fin 4096, (H (ix2 row k) : EReal) * G (ix3 0 k col)) (∑ k : Fin 4096, (H (ix2 row k) : EReal) * U (ix3 0 k col)) := by
  rw [glu_eq]
  unfold refGlu
  dsimp only
  pointwise [Cert.Reference2Ideal.dot_S8192x4096_S4096x11008_S8192x11008_1_0_0_1_n_n]

/-- What the kernel leaves is the reference of the arguments. -/
theorem result_eq (m : (ℓ : Loc nD τ sig) → Buf (Elt Ideal) ℓ) (c : Dev nD) (H : FVec Ideal S8192x4096 .bf16) (G U : FVec Ideal S2x4096x11008 .f32)
    (hH : m ((c.tc : Thread nD τ).loc main_arg0) = H) (hG : m ((c.tc : Thread nD τ).loc main_arg1) = G) (hU : m ((c.tc : Thread nD τ).loc main_arg2) = U) :
    (dats m 0 c).arrAt 3 cfg0.N = refGlu H G U := by
  subst hH hG hU
  rw [array_eq m c, V_main_arg0, V_main_arg1, V_main_arg2]
  refine funext fun (y : S8192x11008.Idx) => ?_
  obtain ⟨row, col, rfl⟩ : ∃ (row : Fin 8192) (col : Fin 11008), y = ix2 row col := ⟨y 0, y 1, by funext k; fin_cases k <;> rfl⟩
  exact (gluArray_apply _ _ _ row col).trans (refGlu_apply _ _ _ row col).symm

end Cert.Gateup

end
-- ==== Proof.GateTile.lean ====
/- The call expert_gateup, at one point: both ways to multiply a tile of rows by its expert's weights are the same product,
   and the gate of the two products is the same. -/
module

public import proofs.«01_k».proof.Proof.GateCall
public import proofs.«01_k».proof.Proof.Sums
public import proofs.«01_k».proof.Proof.Gateup
public import Idealize.ShloMosaic.Lib.IdealHost

@[expose] public section

set_option maxRecDepth 16384

noncomputable section

namespace Cert.ExpertGate

open Cert.Kernel6Ideal Cert.Kernel6Ideal.Gen
open Idealize.ShloMosaic Idealize.ShloMosaic.TcCoe Idealize.ShloMosaic.Tactic Idealize.ShloMosaic.StableHlo
open Idealize.ShloMosaic.Pipeline (Dat)
open Cert.Gateup (glu)

/-! ## A block's value -/

/-- Row `r`, column `l` of the product of a block of rows and one of weights. -/
def part (a : Vec Ideal S512x4096 .bf16) (w : Vec Ideal S1x1x4096x512 .f32) (r : Fin 512) (l : Fin 512) : EReal :=
  ∑ k : Fin 4096, (a (ix2 r k) : EReal) * w (ix4 0 0 k l)

/-- The same, slab by slab, of any slabs. -/
def bySlabs (a : Vec Ideal S512x4096 .bf16) (g : Slabs Ideal) (r : Fin 512) (l : Fin 512) : EReal :=
  (∑ k : Fin 512, (a (ix2 r ⟨0 + k.val, by omega⟩) : EReal) * g 0 (by decide) (ix4 0 0 k l))
    + (∑ k : Fin 512, (a (ix2 r ⟨512 + k.val, by omega⟩) : EReal) * g 512 (by decide) (ix4 0 0 k l))
    + (∑ k : Fin 512, (a (ix2 r ⟨1024 + k.val, by omega⟩) : EReal) * g 1024 (by decide) (ix4 0 0 k l))
    + (∑ k : Fin 512, (a (ix2 r ⟨1536 + k.val, by omega⟩) : EReal) * g 1536 (by decide) (ix4 0 0 k l))
    + (∑ k : Fin 512, (a (ix2 r ⟨2048 + k.val, by omega⟩) : EReal) * g 2048 (by decide) (ix4 0 0 k l))
    + (∑ k : Fin 512, (a (ix2 r ⟨2560 + k.val, by omega⟩) : EReal) * g 2560 (by decide) (ix4 0 0 k l))
    + (∑ k : Fin 512, (a (ix2 r ⟨3072 + k.val, by omega⟩) : EReal) * g 3072 (by decide) (ix4 0 0 k l))
    + (∑ k : Fin 512, (a (ix2 r ⟨3584 + k.val, by omega⟩) : EReal) * g 3584 (by decide) (ix4 0 0 k l))

/-- A slab of the weights at an element. -/
theorem slab_apply (w : Vec Ideal S1x1x4096x512 .f32) (o : ℕ) (ho : o + 512 ≤ 4096) (k : Fin 512) (l : Fin 512) :
    slab (F := Ideal) w o ho (ix4 0 0 k l) = w (ix4 0 0 ⟨o + k.val, by omega⟩ l) :=
  View.ld_unit_apply_of _ _ _ _ _ _ (fun k => by
    fin_cases k
    · rfl
    · rfl
    · rfl
    · show l.val = 0 + l.val
      omega)

/-- The weights' slabs together give the whole product. -/
theorem bySlabs_slab (a : Vec Ideal S512x4096 .bf16) (w : Vec Ideal S1x1x4096x512 .f32) (r : Fin 512) (l : Fin 512) : bySlabs a (slab w) r l = part a w r l := by
  have e : ∀ (o : ℕ) (ho : o + 512 ≤ 4096), ∑ k : Fin 512, (a (ix2 r ⟨o + k.val, by omega⟩) : EReal) * slab (F := Ideal) w o ho (ix4 0 0 k l)
      = ∑ k : Fin 512, (a (ix2 r ⟨o + k.val, by omega⟩) : EReal) * w (ix4 0 0 ⟨o + k.val, by omega⟩ l) := fun o ho =>
    Finset.sum_congr rfl fun k _ => congrArg (fun z : EReal => (a (ix2 r ⟨o + k.val, by omega⟩) : EReal) * z) (slab_apply w o ho k l)
  unfold bySlabs part
  rw [e 0 (by decide), e 512 (by decide), e 1024 (by decide), e 1536 (by decide), e 2048 (by decide), e 2560 (by decide), e 3072 (by decide), e 3584 (by decide),
    Cert.Sums.sum_eight]
  simp only [Nat.zero_add]

/-- The gate's product at an element; -/
theorem gateOf_apply (a : Vec Ideal S512x4096 .bf16) (g : Slabs Ideal) (r : Fin 512) (l : Fin 512) : gateOf (F := Ideal) a g (ix2 r l) = bySlabs a g r l := by
  unfold gateOf bySlabs
  generalize g 0 _ = g0
  generalize g 512 _ = g1
  generalize g 1024 _ = g2
  generalize g 1536 _ = g3
  generalize g 2048 _ = g4
  generalize g 2560 _ = g5
  generalize g 3072 _ = g6
  generalize g 3584 _ = g7
  unfold k0_pay27 k0_pay21 k0_pay14 k0_pay15 k0_pay24 k0_pay25 k0_pay17 k0_pay19 k0_pay8 k0_pay10 k0_pay12 k0_pay22
  pointwise [dot_S512x512_S512x512_S512x512_1_0_0_1_n_n]

/-- the second product at an element, gated; -/
theorem upOf_apply (a : Vec Ideal S512x4096 .bf16) (p : FVec Ideal S512x512 .f32) (g : Slabs Ideal) (r : Fin 512) (l : Fin 512) :
    upOf (F := Ideal) a p g (ix2 r l) = glu (p (ix2 r l)) (bySlabs a g r l) := by
  unfold upOf bySlabs glu
  generalize g 0 _ = g0
  generalize g 512 _ = g1
  generalize g 1024 _ = g2
  generalize g 1536 _ = g3
  generalize g 2048 _ = g4
  generalize g 2560 _ = g5
  generalize g 3072 _ = g6
  generalize g 3584 _ = g7
  unfold k0_pay5 k0_pay41 k0_pay32 k0_pay33 k0_pay1 k0_pay3 k0_pay28 k0_pay30 k0_pay35 k0_pay37 k0_pay39
  pointwise [dot_S512x512_S512x512_S512x512_1_0_0_1_n_n]

/-- the gated product with kept weights; -/
theorem pay6_apply (a : Vec Ideal S512x4096 .bf16) (w u : Vec Ideal S4096x512 .bf16) (r : Fin 512) (l : Fin 512) :
    k0_pay6 (F := Ideal) a w u (ix2 r l) = glu (∑ k : Fin 4096, (a (ix2 r k) : EReal) * w (ix2 k l)) (∑ k : Fin 4096, (a (ix2 r k) : EReal) * u (ix2 k l)) := by
  unfold k0_pay6 glu
  pointwise [dot_S512x4096_S4096x512_S512x512_1_0_0_1_n_n]

/-- a tile not used. -/
theorem pay7_apply (r : Fin 512) (l : Fin 512) : k0_pay7 (F := Ideal) (ix2 r l) = (0 : EReal) := by
  unfold k0_pay7
  pointwise

/-- The slab by slab point's value. -/
theorem slabwise_apply (a : Vec Ideal S512x4096 .bf16) (w u : Vec Ideal S1x1x4096x512 .f32) (r : Fin 512) (l : Fin 512) :
    slabwise (F := Ideal) a w u (ix2 r l) = glu (part a w r l) (part a u r l) := by
  unfold slabwise
  rw [upOf_apply, gateOf_apply, bySlabs_slab, bySlabs_slab]

/-- A rounded slab at an element. -/
theorem round_apply (w : Vec Ideal S1x1x512x512 .f32) (k : Fin 512) (l : Fin 512) : k0_pay9 (F := Ideal) w (ix2 k l) = w (ix4 0 0 k l) := by
  unfold k0_pay9 k0_pay8
  pointwise

/-- A rounded slab, kept: the weights at its place. -/
theorem kept_piece (w : Vec Ideal S1x1x4096x512 .f32) (o : ℕ) (ho : o + 512 ≤ 4096) (x : S512x512.Idx) :
    k0_pay9 (F := Ideal) (slab w o ho) x
      = (fun y : S4096x512.Idx => (w (ix4 0 0 (y 0) (y 1)) : EReal)) ((Rect.unit (s := S4096x512) ![o, 0] S512x512.size (inb_kept o ho)).emb x) := by
  obtain ⟨k, l, rfl⟩ : ∃ (k : Fin 512) (l : Fin 512), x = ix2 k l := ⟨x 0, x 1, by funext k; fin_cases k <;> rfl⟩
  rw [round_apply, slab_apply w o ho]
  show w _ = w _
  congr 1
  funext a
  apply Fin.ext
  match a with
  | ⟨0, _⟩ => rfl
  | ⟨1, _⟩ => rfl
  | ⟨2, _⟩ => show o + k.val = o + 1 * k.val; omega
  | ⟨3, _⟩ => show l.val = 0 + 1 * l.val; omega

/-- The kept weights are the weights. -/
theorem kept_apply (w : Vec Ideal S1x1x4096x512 .f32) (k : Fin 4096) (l : Fin 512) : kept (F := Ideal) w (ix2 k l) = w (ix4 0 0 k l) := by
  have h := kept_piece w
  unfold kept keptOf
  generalize hL : ([_, _, _, _, _, _, _, _] : List (View.Piece (Elt Ideal) S4096x512 .bf16)) = L
  have hcov : ∃ p ∈ L, (ix2 k l : S4096x512.Idx) ∈ p.1.set := by
    rw [← hL]
    refine View.cover_of_tiledL (s := S4096x512) _ S512x512.size ?_ (ix2 k l)
    sl_kernel_rfl
  have hp : ∀ p ∈ L, ∀ x, p.2 x = (fun y : S4096x512.Idx => (w (ix4 0 0 (y 0) (y 1)) : EReal)) (p.1.emb x) := by
    rw [← hL]
    exact List.forall_mem_cons.2 ⟨h 3584 (by decide), List.forall_mem_cons.2 ⟨h 3072 (by decide), List.forall_mem_cons.2 ⟨h 2560 (by decide),
      List.forall_mem_cons.2 ⟨h 2048 (by decide), List.forall_mem_cons.2 ⟨h 1536 (by decide), List.forall_mem_cons.2 ⟨h 1024 (by decide),
      List.forall_mem_cons.2 ⟨h 512 (by decide), List.forall_mem_cons.2 ⟨h 0 (by decide), List.forall_mem_nil _⟩⟩⟩⟩⟩⟩⟩⟩
  clear hL
  exact View.canon_apply_of_pieces (Val := Elt Ideal) (e := .bf16) (fun y : S4096x512.Idx => (w (ix4 0 0 (y 0) (y 1)) : EReal)) L hp (ix2 k l) hcov

/-- So both ways are one gated product. -/
theorem pay6_kept (a : Vec Ideal S512x4096 .bf16) (w u : Vec Ideal S1x1x4096x512 .f32) (r : Fin 512) (l : Fin 512) :
    k0_pay6 (F := Ideal) a (kept w) (kept u) (ix2 r l) = glu (part a w r l) (part a u r l) := by
  rw [pay6_apply]
  exact congrArg₂ glu (Finset.sum_congr rfl fun k _ => congrArg (fun z : EReal => (a (ix2 r k) : EReal) * z) (kept_apply w k l))
    (Finset.sum_congr rfl fun k _ => congrArg (fun z : EReal => (a (ix2 r k) : EReal) * z) (kept_apply u k l))

end Cert.ExpertGate

end
-- ==== Proof.GateValue.lean ====
/- The call expert_gateup: every used tile of rows is multiplied by its expert's two weights, the first product gating the
   second; the other tiles are zero. -/
module

public import proofs.«01_k».proof.Proof.GateTile
public import proofs.«01_k».proof.Proof.ExpertRef
public import Idealize.ShloMosaic.Lib.IdealHost

@[expose] public section

set_option maxRecDepth 16384

noncomputable section

namespace Cert.ExpertGate

open Cert.Kernel6Ideal Cert.Kernel6Ideal.Gen
open Idealize.ShloMosaic Idealize.ShloMosaic.TcCoe Idealize.ShloMosaic.Tactic Idealize.ShloMosaic.StableHlo
open Idealize.ShloMosaic.Pipeline (Dat)
open Cert.ExpertRef (expert used)
open Cert.Gateup (glu)

/-! ## The array -/

/-- A row times a column of an expert's weights. -/
def product (A : FVec Ideal S20480x4096 .bf16) (W : FVec Ideal S2x8x4096x2048 .f32) (row : Fin 20480) (col : Fin 2048) (o : Fin 8) : EReal :=
  ∑ k : Fin 4096, (A (ix2 row k) : EReal) * W (ix4 0 o k col)

/-- The gated product of the used tiles' rows with their expert's weights; zero in the others. -/
def gateUpAt (te : IVec S40 32) (nu : IVec S1 32) (A : FVec Ideal S20480x4096 .bf16) (G U : FVec Ideal S2x8x4096x2048 .f32) (row : Fin 20480) (col : Fin 2048) : EReal :=
  if used nu row then glu (product A G row col (expert te row)) (product A U row col (expert te row)) else 0

def gateUpArray (te : IVec S40 32) (nu : IVec S1 32) (A : FVec Ideal S20480x4096 .bf16) (G U : FVec Ideal S2x8x4096x2048 .f32) : FVec Ideal S20480x2048 .bf16 :=
  fun y => gateUpAt te nu A G U (y 0) (y 1)

section
variable (m : (ℓ : Loc nD τ sig) → Buf (Elt Ideal) ℓ) (hO : Inside m) (c : Dev nD)

/-- The arguments. -/
abbrev teA : IVec S40 32 := V m c main_arg0
abbrev nuA : IVec S1 32 := V m c main_arg1
abbrev rowsA : FVec Ideal S20480x4096 .bf16 := V m c main_arg2
abbrev gateA : FVec Ideal S2x8x4096x2048 .f32 := V m c main_arg3
abbrev upA : FVec Ideal S2x8x4096x2048 .f32 := V m c main_arg4

/-- The place of a point's weights, by the row. -/
theorem place_eq (t : Fin (cfgM m hO).N) (r : Fin 512) (k : Fin 4096) (l : Fin 512) :
    place m hO c t k l = ix4 (0 : Fin 2) (expert (teA m c) ⟨t.val % 40 * 512 + r.val, by omega⟩) k
      (⟨t.val / 40 * 512 + l.val, by have := point_lt m hO t; omega⟩ : Fin 2048) := by
  have ht := tile_of m hO t
  have hrow : (t.val % 40 * 512 + r.val) / 512 = t.val % 40 := by omega
  have he : (teW c (grid0.coords t) (eT m c)) = teA m c (ix1 ⟨(t.val % 40 * 512 + r.val) / 512, by omega⟩) := by
    rw [teW_eq]
    obtain rfl : c = 0 := Subsingleton.elim _ _
    exact congrArg (fun x : Fin 40 => teA m 0 (ix1 x)) (Fin.ext (ht.trans hrow.symm))
  refine congrArg (fun e : Fin 8 => ix4 (0 : Fin 2) e k (⟨t.val / 40 * 512 + l.val, _⟩ : Fin 2048)) (Fin.ext ?_)
  have hlt := expert_lt m hO c t
  show (teW c (grid0.coords t) (eT m c)).toNat = _
  unfold expert
  rw [he] at hlt ⊢
  exact (Nat.mod_eq_of_lt hlt).symm

/-- The products of a point, of the arguments. -/
theorem gate_part (t : Fin (cfgM m hO).N) (r : Fin 512) (l : Fin 512) : part (rowsAt m hO c t) (gateAt m hO c t) r l
    = product (rowsA m c) (gateA m c) ⟨t.val % 40 * 512 + r.val, by omega⟩ ⟨t.val / 40 * 512 + l.val, by have := point_lt m hO t; omega⟩
      (expert (teA m c) ⟨t.val % 40 * 512 + r.val, by omega⟩) := by
  unfold part product
  refine Finset.sum_congr rfl fun k _ => congrArg₂ (fun a b : EReal => a * b) (rows_apply m hO c t r k) ((gate_apply m hO c t k l).trans ?_)
  rw [place_eq m hO c t r k l]

theorem up_part (t : Fin (cfgM m hO).N) (r : Fin 512) (l : Fin 512) : part (rowsAt m hO c t) (upAt m hO c t) r l
    = product (rowsA m c) (upA m c) ⟨t.val % 40 * 512 + r.val, by omega⟩ ⟨t.val / 40 * 512 + l.val, by have := point_lt m hO t; omega⟩
      (expert (teA m c) ⟨t.val % 40 * 512 + r.val, by omega⟩) := by
  unfold part product
  refine Finset.sum_congr rfl fun k _ => congrArg₂ (fun a b : EReal => a * b) (rows_apply m hO c t r k) ((up_apply m hO c t k l).trans ?_)
  rw [place_eq m hO c t r k l]

/-- What a point leaves, at an element. -/
theorem leaves_apply (t : Fin (cfgM m hO).N) (r : Fin 512) (l : Fin 512) :
    leaves m hO c t (ix2 r l) = gateUpAt (teA m c) (nuA m c) (rowsA m c) (gateA m c) (upA m c)
      ⟨t.val % 40 * 512 + r.val, by omega⟩ ⟨t.val / 40 * 512 + l.val, by have := point_lt m hO t; omega⟩ := by
  have ht := tile_of m hO t
  have hrow : (t.val % 40 * 512 + r.val) / 512 = t.val % 40 := by omega
  have hu : Used c (grid0.coords t) (nT m c) ↔ (((t.val % 40 * 512 + r.val) / 512 : ℕ) : ℤ) < (nuA m c (ix1 0)).toInt := by
    rw [used_iff, hrow, ht]
    obtain rfl : c = 0 := Subsingleton.elim _ _
    exact Iff.rfl
  unfold leaves gateUpAt
  by_cases hc : Used c (grid0.coords t) (nT m c)
  · rw [if_pos hc, if_pos (hu.1 hc), ← gate_part, ← up_part]
    by_cases hn : New c (grid0.coords t) (eT m c)
    · rw [if_pos hn, slabwise_apply]
    · rw [if_neg hn, pay6_kept]
  · rw [if_neg hc, if_neg (fun h => hc (hu.2 h)), pay7_apply]

/-- A point's block of an array of the result's shape, read at an index. -/
theorem read3 (G : FVec Ideal S20480x2048 .bf16) (t : Fin (cfgM m hO).N) (r : Fin 512) (l : Fin 512) :
    ((((cfgM m hO).win 3).blk t).view.read (Elt Ideal) G : Vec Ideal S512x512 .bf16) (ix2 r l)
      = G (ix2 ⟨t.val % 40 * 512 + r.val, by omega⟩ ⟨t.val / 40 * 512 + l.val, by have := point_lt m hO t; omega⟩) := by
  show G _ = _
  congr 1
  funext a
  apply Fin.ext
  have := point_lt m hO t
  match a with
  | ⟨0, _⟩ =>
    show (BitVec.ofNat 32 ((grid0.coords t) 1).val).toNat * 512 + 1 * r.val = t.val % 40 * 512 + r.val
    rw [tile_of m hO t, BitVec.toNat_ofNat]
    omega
  | ⟨1, _⟩ =>
    show (BitVec.ofNat 32 ((grid0.coords t) 0).val).toNat * 512 + 1 * l.val = t.val / 40 * 512 + l.val
    rw [column_of m hO t, BitVec.toNat_ofNat]
    omega

/-- What a point writes back is its block of the array. -/
theorem flushed_eq (t : Fin (cfgM m hO).N) : (dats m hO 0 c).flushed 3 t = (((cfgM m hO).win 3).blk t).view.read (Elt Ideal)
    (gateUpArray (teA m c) (nuA m c) (rowsA m c) (gateA m c) (upA m c)) := by
  show ((cfgM m hO).win 3).cut (grid0.coords t) ((dats m hO 0 c).after 3 t) = _
  rw [after3]
  generalize hG : gateUpArray (teA m c) (nuA m c) (rowsA m c) (gateA m c) (upA m c) = G
  have key : ∀ (r : Fin 512) (l : Fin 512), leaves m hO c t (ix2 r l)
      = ((((cfgM m hO).win 3).blk t).view.read (Elt Ideal) G : Vec Ideal S512x512 .bf16) (ix2 r l) := by
    intro r l
    rw [read3, ← hG, leaves_apply]
    rfl
  generalize leaves m hO c t = O at key ⊢
  refine funext fun (y : S512x512.Idx) => ?_
  have hy : y = ix2 (y 0) (y 1) := by funext k; fin_cases k <;> rfl
  rw [hy]
  exact key (y 0) (y 1)

/-- The array at the end. -/
theorem array_eq : (dats m hO 0 c).arrAt 3 (cfgM m hO).N = gateUpArray (teA m c) (nuA m c) (rowsA m c) (gateA m c) (upA m c) := by
  refine (dats m hO 0 c).arrAt_eq_of_cover 3 (gateUpArray (teA m c) (nuA m c) (rowsA m c) (gateA m c) (upA m c))
    (fun t _ => flushed_eq m hO c t) (fun (i : S20480x2048.Idx) => ?_)
  have h0 : (i 0 : Nat) < 20480 := (i 0).isLt
  have h1 : (i 1 : Nat) < 2048 := (i 1).isLt
  let t : Fin (cfgM m hO).N := ⟨(i 1 : Nat) / 512 * 40 + (i 0 : Nat) / 512, (by omega : _ < 160).trans_eq (show 160 = (cfgM m hO).N from N_0.symm)⟩
  have ht : t.val = (i 1 : Nat) / 512 * 40 + (i 0 : Nat) / 512 := rfl
  refine ⟨t, flush3 m hO t, ?_⟩
  show i ∈ ((View.whole main_v0).slice (((cfgM m hO).win 3).rect t)).set
  refine (congrArg (i ∈ ·) (View.set_slice_whole main_v0 (((cfgM m hO).win 3).rect t))).mpr (Rect.mem_set_unit.2 fun a => ?_)
  match a with
  | ⟨0, _⟩ =>
    show (BitVec.ofNat 32 ((grid0.coords t) 1).val).toNat * 512 ≤ (i 0 : Nat) ∧ (i 0 : Nat) < (BitVec.ofNat 32 ((grid0.coords t) 1).val).toNat * 512 + 512
    rw [tile_of m hO t, BitVec.toNat_ofNat, ht]
    omega
  | ⟨1, _⟩ =>
    show (BitVec.ofNat 32 ((grid0.coords t) 0).val).toNat * 512 ≤ (i 1 : Nat) ∧ (i 1 : Nat) < (BitVec.ofNat 32 ((grid0.coords t) 0).val).toNat * 512 + 512
    rw [column_of m hO t, BitVec.toNat_ofNat, ht]
    omega

end

end Cert.ExpertGate

end
-- ==== Proof.GateEq.lean ====
/- The call expert_gateup against its reference: the reference adds up, over the eight experts, the experts' rows times the
   expert's gated product; of the eight terms only that of the row's own expert is not zero. -/
module

public import proofs.«01_k».proof.Proof.GateValue
public import proofs.«01_k».proof.Proof.Gen.Reference6Ideal.Run

@[expose] public section

set_option maxRecDepth 16384

noncomputable section

namespace Cert.ExpertGate

open Cert.Reference6Ideal Cert.Reference6Ideal.Facts₀ Idealize.ShloMosaic Idealize.ShloMosaic.TcCoe Idealize.ShloMosaic.StableHlo Idealize.ShloMosaic.Tactic
open Cert.ExpertRef (column column_apply chosen tile used expert)
open Cert.Gateup (glu glu_eq)

/-- The product with an expert's weights. -/
def refProduct (A : FVec Ideal S20480x4096 .bf16) (W : FVec Ideal S2x8x4096x2048 .f32) (o : Fin 8)
    (sl : S2x8x4096x2048.Slices ![0, o.val, 0, 0] S1x1x4096x2048) : FVec Ideal S20480x2048 .f32 :=
  Host.dotGeneral dot_S20480x4096_S4096x2048_S20480x2048_1_0_0_1_n_n none (extf .f32 A bitsLt_bf16_f32 : FVec Ideal S20480x4096 .f32)
    (shapeCast S4096x2048 (extractStridedSlice S1x1x4096x2048 ![0, o.val, 0, 0] W sl : FVec Ideal S1x1x4096x2048 .f32)
      shapeCasts_S1x1x4096x2048_S4096x2048 : FVec Ideal S4096x2048 .f32)

/-- A column times the product `u` gated by the product `g`. -/
def gated (C : FVec Ideal S20480x1 .f32) (g u : FVec Ideal S20480x2048 .f32) : FVec Ideal S20480x2048 .f32 :=
  mulf (broadcastInDim S20480x2048 ![0, 1] bcast_S20480x1_S20480x2048_0_1 C)
    (mulf (mulf g (Host.divf (broadcastInDim S20480x2048 ![] bcast_S_S20480x2048 (constant S_ .f32 0x3F800000#32))
      (addf (broadcastInDim S20480x2048 ![] bcast_S_S20480x2048 (constant S_ .f32 0x3F800000#32)) (Host.exp (Host.negf g))))) u)

/-- An expert's rows times its gated product. -/
def refTerm (te : IVec S40 32) (nu : IVec S1 32) (A : FVec Ideal S20480x4096 .bf16) (G U : FVec Ideal S2x8x4096x2048 .f32) (e : BitVec 32) (o : Fin 8)
    (sl : S2x8x4096x2048.Slices ![0, o.val, 0, 0] S1x1x4096x2048) : FVec Ideal S20480x2048 .f32 :=
  gated (column te nu e) (refProduct A G o sl) (refProduct A U o sl)

/-- The reference: the sum over the experts, rounded. -/
def refGateUp (te : IVec S40 32) (nu : IVec S1 32) (A : FVec Ideal S20480x4096 .bf16) (G U : FVec Ideal S2x8x4096x2048 .f32) : FVec Ideal S20480x2048 .bf16 :=
  truncf .bf16 (addf (addf (addf (addf (addf (addf (addf (addf
    (broadcastInDim S20480x2048 ![] bcast_S_S20480x2048 (constant S_ .f32 0x00000000#32))
    (refTerm te nu A G U 0#32 0 slices_S2x8x4096x2048_S1x1x4096x2048_0_0_0_0)) (refTerm te nu A G U 1#32 1 slices_S2x8x4096x2048_S1x1x4096x2048_0_1_0_0))
    (refTerm te nu A G U 2#32 2 slices_S2x8x4096x2048_S1x1x4096x2048_0_2_0_0)) (refTerm te nu A G U 3#32 3 slices_S2x8x4096x2048_S1x1x4096x2048_0_3_0_0))
    (refTerm te nu A G U 4#32 4 slices_S2x8x4096x2048_S1x1x4096x2048_0_4_0_0)) (refTerm te nu A G U 5#32 5 slices_S2x8x4096x2048_S1x1x4096x2048_0_5_0_0))
    (refTerm te nu A G U 6#32 6 slices_S2x8x4096x2048_S1x1x4096x2048_0_6_0_0)) (refTerm te nu A G U 7#32 7 slices_S2x8x4096x2048_S1x1x4096x2048_0_7_0_0)
    : FVec Ideal S20480x2048 .f32) bitsLt_bf16_f32

theorem refProduct_apply (A : FVec Ideal S20480x4096 .bf16) (W : FVec Ideal S2x8x4096x2048 .f32) (o : Fin 8)
    (sl : S2x8x4096x2048.Slices ![0, o.val, 0, 0] S1x1x4096x2048) (row : Fin 20480) (col : Fin 2048) :
    refProduct A W o sl (ix2 row col) = product A W row col o := by
  unfold refProduct product
  pointwise [dot_S20480x4096_S4096x2048_S20480x2048_1_0_0_1_n_n]

theorem gated_apply (C : FVec Ideal S20480x1 .f32) (g u : FVec Ideal S20480x2048 .f32) (row : Fin 20480) (col : Fin 2048) :
    gated C g u (ix2 row col) = (C (ix2 row 0) : EReal) * glu (g (ix2 row col)) (u (ix2 row col)) := by
  rw [glu_eq]
  unfold gated
  pointwise

theorem refTerm_apply (te : IVec S40 32) (nu : IVec S1 32) (A : FVec Ideal S20480x4096 .bf16) (G U : FVec Ideal S2x8x4096x2048 .f32) (e : BitVec 32) (o : Fin 8)
    (sl : S2x8x4096x2048.Slices ![0, o.val, 0, 0] S1x1x4096x2048) (row : Fin 20480) (col : Fin 2048) :
    refTerm te nu A G U e o sl (ix2 row col)
      = (if te (ix1 (tile row)) = e ∧ used nu row then (1 : EReal) else 0) * glu (product A G row col o) (product A U row col o) := by
  unfold refTerm
  refine (gated_apply _ _ _ row col).trans (congrArg₂ (fun a b : EReal => a * b) (column_apply te nu e row) ?_)
  rw [refProduct_apply, refProduct_apply]

/-- A sum of eight arrays at an element, rounded. -/
theorem total_apply (t0 t1 t2 t3 t4 t5 t6 t7 : FVec Ideal S20480x2048 .f32) (row : Fin 20480) (col : Fin 2048) :
    (truncf .bf16 (addf (addf (addf (addf (addf (addf (addf (addf
      (broadcastInDim S20480x2048 ![] bcast_S_S20480x2048 (constant S_ .f32 0x00000000#32)) t0) t1) t2) t3) t4) t5) t6) t7 : FVec Ideal S20480x2048 .f32)
      bitsLt_bf16_f32 : FVec Ideal S20480x2048 .bf16) (ix2 row col)
      = (0 : EReal) + t0 (ix2 row col) + t1 (ix2 row col) + t2 (ix2 row col) + t3 (ix2 row col) + t4 (ix2 row col) + t5 (ix2 row col)
        + t6 (ix2 row col) + t7 (ix2 row col) := by
  pointwise

/-- The reference at an element, where the tiles' experts are of the eight. -/
theorem refGateUp_apply (te : IVec S40 32) (nu : IVec S1 32) (A : FVec Ideal S20480x4096 .bf16) (G U : FVec Ideal S2x8x4096x2048 .f32)
    (hte : ∀ j, (te (ix1 j)).toNat < 8) (row : Fin 20480) (col : Fin 2048) :
    refGateUp te nu A G U (ix2 row col) = gateUpAt te nu A G U row col := by
  refine Eq.trans ?_ (chosen (te (ix1 (tile row))) (hte _) (used nu row) (fun o => glu (product A G row col o) (product A U row col o)))
  unfold refGateUp
  rw [total_apply]
  simp only [refTerm_apply]

/-- What the kernel leaves is the reference of the arguments. -/
theorem result_eq (m : (ℓ : Loc Cert.Kernel6Ideal.nD Cert.Kernel6Ideal.τ Cert.Kernel6Ideal.sig) → Buf (Elt Ideal) ℓ) (hO : Inside m) (c : Dev Cert.Kernel6Ideal.nD)
    (te : IVec S40 32) (nu : IVec S1 32) (A : FVec Ideal S20480x4096 .bf16) (G U : FVec Ideal S2x8x4096x2048 .f32)
    (hte : ∀ j, (te (ix1 j)).toNat < 8)
    (h0 : m ((c.tc : Thread Cert.Kernel6Ideal.nD Cert.Kernel6Ideal.τ).loc Cert.Kernel6Ideal.main_arg0) = te) (h1 : m ((c.tc : Thread Cert.Kernel6Ideal.nD Cert.Kernel6Ideal.τ).loc Cert.Kernel6Ideal.main_arg1) = nu)
    (h2 : m ((c.tc : Thread Cert.Kernel6Ideal.nD Cert.Kernel6Ideal.τ).loc Cert.Kernel6Ideal.main_arg2) = A) (h3 : m ((c.tc : Thread Cert.Kernel6Ideal.nD Cert.Kernel6Ideal.τ).loc Cert.Kernel6Ideal.main_arg3) = G)
    (h4 : m ((c.tc : Thread Cert.Kernel6Ideal.nD Cert.Kernel6Ideal.τ).loc Cert.Kernel6Ideal.main_arg4) = U) :
    (dats m hO 0 c).arrAt 3 (cfgM m hO).N = refGateUp te nu A G U := by
  subst h0 h1 h2 h3 h4
  rw [array_eq m hO c]
  refine funext fun (y : S20480x2048.Idx) => ?_
  obtain ⟨row, col, rfl⟩ : ∃ (row : Fin 20480) (col : Fin 2048), y = ix2 row col := ⟨y 0, y 1, by funext k; fin_cases k <;> rfl⟩
  exact (refGateUp_apply _ _ _ _ _ hte row col).symm

end Cert.ExpertGate

end
-- ==== Proof.GateSame.lean ====
/- The two prints of expert_gateup, the compiled one and the one read over the reals, are one program: what is proved of the
   second for any values holds of the first. -/
module

public import proofs.«01_k».proof.Proof.GateCall
public import proofs.«01_k».proof.Proof.Gen.Kernel6

@[expose] public section

set_option maxRecDepth 16384

namespace Cert.ExpertGate

open Idealize.ShloMosaic Idealize.ShloMosaic.TcCoe Idealize.SL.Sem

variable {F : FTy → Type} [FloatOps F]

/-- The bodies' tables agree at the one label there is, -/
theorem bodies_same : Kernel6.defs₀ (F := F) = Kernel6Ideal.defs₀ (F := F) :=
  congrArg Defs.onTc (funext fun l => funext fun x => by
    match l, x with
    | ⟨0, _⟩, _ => rfl)

/-- so the programs' definitions do. -/
theorem defs_same : Kernel6.defs (F := F) = Kernel6Ideal.defs (F := F) :=
  congrArg (Pipeline.defs (Kernel6.pcfgs (F := F))) bodies_same

/-- The frame of the compiled program. -/
theorem frame_compiled (m : (ℓ : Loc Kernel6.nD Kernel6.τ Kernel6.sig) → Buf (Elt F) ℓ) (ρ : Dev Kernel6.nD → PrngReg) (hO : Inside (F := F) m) :
    θ_run (Kernel6.defs (F := F)) (onTc (τ := Kernel6.τ) (Kernel6.main (F := F))) ⟨m, fun _ => 0, ρ⟩ (fun r => (∀ c : Dev Kernel6.nD,
      r.2.mem ((c.tc : Thread Kernel6.nD Kernel6.τ).loc Kernel6.main_arg0) = m ((c.tc : Thread Kernel6.nD Kernel6.τ).loc Kernel6.main_arg0)
      ∧ r.2.mem ((c.tc : Thread Kernel6.nD Kernel6.τ).loc Kernel6.main_arg1) = m ((c.tc : Thread Kernel6.nD Kernel6.τ).loc Kernel6.main_arg1)
      ∧ r.2.mem ((c.tc : Thread Kernel6.nD Kernel6.τ).loc Kernel6.main_arg2) = m ((c.tc : Thread Kernel6.nD Kernel6.τ).loc Kernel6.main_arg2)
      ∧ r.2.mem ((c.tc : Thread Kernel6.nD Kernel6.τ).loc Kernel6.main_arg3) = m ((c.tc : Thread Kernel6.nD Kernel6.τ).loc Kernel6.main_arg3)
      ∧ r.2.mem ((c.tc : Thread Kernel6.nD Kernel6.τ).loc Kernel6.main_arg4) = m ((c.tc : Thread Kernel6.nD Kernel6.τ).loc Kernel6.main_arg4))
      ∧ r.2.sem = fun _ => 0) := by
  rw [defs_same]
  exact frame_run (F := F) m ρ hO

end Cert.ExpertGate

end
-- ==== Proof.GateClaim.lean ====
/- The claims of the call expert_gateup: where every tile's expert is one of the eight, the blocks lie inside both weights, so
   the call runs; and it leaves what its reference leaves. -/
module

public import proofs.«01_k».proof.Defs
public import proofs.«01_k».proof.Proof.GateEq
public import proofs.«01_k».proof.Proof.GateSame
public import proofs.«01_k».proof.Proof.Gen.Pre_experts6
public import Idealize.ShloMosaic.Lib.ReduceAll

@[expose] public section

set_option maxRecDepth 16384

noncomputable section

namespace Cert.ExpertGate

open Idealize.ShloMosaic Idealize.ShloMosaic.TcCoe Idealize.SL.Sem

variable {F : FTy → Type} [FloatOps F]

/-- The precondition says that every tile's expert is one of the eight. -/
theorem eight_of (te : IVec Cert.Pre_experts6.S40 32) (nu : IVec Cert.Pre_experts6.S1 32) (A : FVec F Cert.Pre_experts6.S20480x4096 .bf16)
    (G U : FVec F Cert.Pre_experts6.S2x8x4096x2048 .f32) (h : Cert.Pre_experts6.fn (F := F) te nu A G U = fun _ => 1#1) (j : Fin 40) : (te (ix1 j)).toNat < 8 := by
  have h0 := congrFun h ix0
  dsimp only [Cert.Pre_experts6.fn] at h0
  exact Cert.ExpertRef.eight_of_bits _ (IntOp.andi_eq_one.1 (Host.reduce_andi_all _ _ _ _ _ h0 (ix1 j))).1 (IntOp.andi_eq_one.1 (Host.reduce_andi_all _ _ _ _ _ h0 (ix1 j))).2

/-- So every block lies inside both weights. -/
theorem inside_of (m : (ℓ : Loc Cert.Kernel6Ideal.nD Cert.Kernel6Ideal.τ Cert.Kernel6Ideal.sig) → Buf (Elt F) ℓ)
    (h : ∀ j : Fin 40, ((V m 0 Cert.Kernel6Ideal.main_arg0 : IVec Cert.Kernel6Ideal.S40 32) (ix1 j)).toNat < 8) : Inside m := by
  have he : ∀ i : Cert.Kernel6Ideal.grid0.Coords, ((teW 0 i (eT m 0)).toNat + 1) * 1 ≤ 8 := fun i => by
    rw [teW_eq]
    have h' : ((eT m 0) (ix1 (⟨(i 1).val, (i 1).isLt⟩ : Fin 40)) : BitVec 32).toNat < 8 := h ⟨(i 1).val, (i 1).isLt⟩
    omega
  have hc : ∀ i : Cert.Kernel6Ideal.grid0.Coords, ((BitVec.ofNat 32 (i 0).val).toNat + 1) * 512 ≤ 2048 := fun i => by
    have hi : (i 0).val < 4 := (i 0).isLt
    rw [BitVec.toNat_ofNat]
    omega
  refine ⟨fun i => ⟨fun a => ?_, .inl rfl⟩, fun i => ⟨fun a => ?_, .inl rfl⟩⟩
  · match a with
    | ⟨0, _⟩ => show (0 + 1) * 1 ≤ 2; omega
    | ⟨1, _⟩ => exact he i
    | ⟨2, _⟩ => show (0 + 1) * 4096 ≤ 4096; omega
    | ⟨3, _⟩ => exact hc i
  · match a with
    | ⟨0, _⟩ => show (0 + 1) * 1 ≤ 2; omega
    | ⟨1, _⟩ => exact he i
    | ⟨2, _⟩ => show (0 + 1) * 4096 ≤ 4096; omega
    | ⟨3, _⟩ => exact hc i

/-- The frames: as compiled; -/
theorem frame6 : Cert.quiescent_Kernel6 := fun m g hp =>
  frame_compiled m g (inside_of m (eight_of _ _ _ _ _ (hp 0)))

/-- over the reals; -/
theorem frame6_ideal : Cert.quiescent_Kernel6Ideal := fun m g hp =>
  frame_run m g (inside_of m (eight_of _ _ _ _ _ (hp 0)))

/-- of the reference. -/
theorem reference6_frame : Cert.quiescent_Reference6Ideal := fun m g _ =>
  (θ_run Cert.Reference6Ideal.defs _ _).mono (fun r h => ⟨fun c => (h c).2, sem_eq_zero_of_no_sems (by decide) r.2⟩) (Cert.Reference6Ideal.Value.run (F := Ideal) m g)

/-- The equation: the kernel's result is the reference's. -/
theorem algebraic6 : Cert.algebraic_Kernel6Ideal_Reference6Ideal := by
  intro m g m' g' hp hargs
  have hte := eight_of _ _ _ _ _ (hp 0)
  have hO : Inside m := inside_of m hte
  refine ⟨fun c => (dats m hO 0 c).arrAt 3 (cfgM m hO).N,
    (θ_run Cert.Kernel6Ideal.defs _ _).mono (fun r h c => ?_) (run_result m g hO), ?_⟩
  · exact ⟨h.2.2 c, h.1 c⟩
  refine (θ_run Cert.Reference6Ideal.defs _ _).mono (fun r h c => ⟨(h c).1.trans ?_, (h c).2⟩) (Cert.Reference6Ideal.Value.run (F := Ideal) m' g')
  obtain rfl : c = 0 := Subsingleton.elim _ _
  obtain ⟨a0, a1, a2, a3, a4⟩ := hargs 0
  have e := result_eq m hO 0 _ _ _ _ _ (by rw [a0]; exact hte) a0.symm a1.symm a2.symm a3.symm a4.symm
  exact (e.trans rfl).symm

end Cert.ExpertGate

end
-- ==== Proof.Chunk.lean ====
/- What one chunk of the kernel computes: 128 query rows of one head are normed, rotated, scored against
   the stored keys, and the stored values are averaged with the resulting weights. The same norm-and-rotate
   step is applied to the keys, 512 rows at a time. Each is written as vector operations, and then read at
   one element as a formula over plain functions of a row. -/
module

public import proofs.«01_k».proof.Proof.Gen.KernelIdeal.Value
public import Idealize.ShloMosaic.Lib.Pointwise

@[expose] public section

set_option maxRecDepth 16384

noncomputable section

namespace Cert.MixerB

open Cert.KernelIdeal Cert.KernelIdeal.Gen Idealize.ShloMosaic Idealize.ShloMosaic.TcCoe Idealize.SL.Sem

/-! ## Functions of a row -/

/-- The lane a rotary pair partner of lane `d` stands at: within each half of 64 lanes the two quarters of
    32 lanes change places. -/
def swapLane (d : Fin 128) : Fin 128 :=
  if d.val % 64 < 32 then ⟨(d.val + 32) % 128, Nat.mod_lt _ (by decide)⟩ else ⟨(d.val + 96) % 128, Nat.mod_lt _ (by decide)⟩

/-- The reciprocal root of a row's mean square (plus the small constant). -/
def rowInv (x : Fin 128 → EReal) : EReal :=
  Ideal.rsqrt (Ideal.div (∑ d, x d * x d) (Scalar.ofBits (F := Ideal) .f32 0x43000000#32) + Scalar.ofBits (F := Ideal) .f32 0x358637BD#32)

/-- A row after the norm and its gains. -/
def rowNorm (x g : Fin 128 → EReal) (d : Fin 128) : EReal := x d * rowInv x * g d

/-- A row after the norm and the rotation by tables `c` and `s`. -/
def rowRope (x g c s : Fin 128 → EReal) (d : Fin 128) : EReal :=
  rowNorm x g d * c d + rowNorm x g (swapLane d) * s d

/-- The score of a query row against key `k`. -/
def rowScore (q : Fin 128 → EReal) (K : Fin 2048 → Fin 128 → EReal) (k : Fin 2048) : EReal := ∑ d, q d * K k d

/-- The unnormalised weight of key `k`: two to the scaled difference of its score to the largest. -/
def rowWeight (q : Fin 128 → EReal) (K : Fin 2048 → Fin 128 → EReal) (k : Fin 2048) : EReal :=
  Ideal.exp2 ((rowScore q K k - Finset.univ.fold max ⊥ (rowScore q K)) * Named.named (F := Ideal) κ (φ := .f32) "scale_log2e" 0x3E0293EE#32)

/-- Lane `d` of the attention of one query row over values `V`, whose lanes 128 to 255 are summed too to
    give the divisor. -/
def rowAttn (q : Fin 128 → EReal) (K : Fin 2048 → Fin 128 → EReal) (V : Fin 2048 → Fin 256 → EReal) (d : Fin 128) : EReal :=
  Ideal.div (∑ k, rowWeight q K k * V k ⟨d.val, by omega⟩) (∑ k, rowWeight q K k * V k ⟨128 + d.val, by omega⟩)

/-! ## The vector operations -/

/-- Norm and rotation of 128 rows. -/
def rope128 (x : Vec Ideal S128x128 .f32) (g : Vec Ideal S1x128 .f32) (c s : Vec Ideal S128x128 .f32) : FVec Ideal S128x128 .bf16 :=
  have y : FVec Ideal S128x128 .f32 := mulf (mulf x (broadcastTo S128x128 (rsqrt (addf (divf (shapeCast S128x1 (multiReduction .add [1] S128 (mulf x x) 0x00000000#32 reduces_S128x128_S128 (.inl rfl) rfl) shapeCasts_S128_S128x1) (broadcast S128x1 (Scalar.ofBits .f32 0x43000000#32))) (broadcast S128x1 (Scalar.ofBits .f32 0x358637BD#32)))) broadcasts_S128x1_S128x128)) (broadcastTo S128x128 (shapeCast S1x128 g shapeCasts_S1x128_S1x128) broadcasts_S1x128_S128x128)
  truncf .bf16 (addf (mulf y (shapeCast S128x128 c shapeCasts_S128x128_S128x128))
    (mulf (select (cmpi .slt (andi (iota .tc S128x128 32 [1] iota_S128x128_d1_w32) (broadcast S128x128 63#32)) (broadcast S128x128 32#32))
      (dynamicRotate 1 96#32 none y rotates_S128x128_d1) (dynamicRotate 1 32#32 none y rotates_S128x128_d1)) (shapeCast S128x128 s shapeCasts_S128x128_S128x128))) bitsLt_bf16_f32

/-- Norm and rotation of 512 rows. -/
def rope512 (x : Vec Ideal S512x128 .f32) (g : Vec Ideal S1x128 .f32) (c s : Vec Ideal S512x128 .f32) : FVec Ideal S512x128 .bf16 :=
  have y : FVec Ideal S512x128 .f32 := mulf (mulf x (broadcastTo S512x128 (rsqrt (addf (divf (shapeCast S512x1 (multiReduction .add [1] S512 (mulf x x) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 (shapeCast S1x128 g shapeCasts_S1x128_S1x128) broadcasts_S1x128_S512x128)
  shapeCast S512x128 (truncf .bf16 (addf (mulf y (shapeCast S512x128 c shapeCasts_S512x128_S512x128))
    (mulf (select (cmpi .slt (andi (iota .tc S512x128 32 [1] iota_S512x128_d1_w32) (broadcast S512x128 63#32)) (broadcast S512x128 32#32))
      (dynamicRotate 1 96#32 none y rotates_S512x128_d1) (dynamicRotate 1 32#32 none y rotates_S512x128_d1)) (shapeCast S512x128 s shapeCasts_S512x128_S512x128))) bitsLt_bf16_f32) shapeCasts_S512x128_S512x128

/-- The attention of 128 query rows (already normed and rotated) over the stored keys and values. -/
def attn128 (q : FVec Ideal S128x128 .bf16) (kw : FVec Ideal S2048x128 .bf16) (vw : FVec Ideal S2048x256 .bf16) : FVec Ideal S128x128 .f32 :=
  have sc : FVec Ideal S128x2048 .f32 := matmul dot_S128x128_S2048x128_S128x2048_1_1_0_0_n_n none q kw (constant S128x2048 .f32 0x00000000#32)
  have mx : FVec Ideal S128 .f32 := multiReduction .maximumf [1] S128 sc 0xFF800000#32 reduces_S128x2048_S128 (.inl rfl) rfl
  have p : FVec Ideal S128x2048 .bf16 := truncf .bf16 (exp2 (mulf (subf sc (broadcastTo S128x2048 (shapeCast S128x1 mx shapeCasts_S128_S128x1) broadcasts_S128x1_S128x2048)) (broadcast S128x2048 (Named.named κ "scale_log2e" 0x3E0293EE#32)))) bitsLt_bf16_f32
  have o : FVec Ideal S128x256 .f32 := matmul dot_S128x2048_S2048x256_S128x256_1_0_0_1_n_n none p vw (constant S128x256 .f32 0x00000000#32)
  divf (extractStridedSlice S128x128 ![0, 0] o slices_S128x256_o0_0_S128x128) (extractStridedSlice S128x128 ![0, 128] o slices_S128x256_o0_128_S128x128)

/-- One chunk: rotate the queries, then attend. -/
def chunk (kw : FVec Ideal S2048x128 .bf16) (vw : FVec Ideal S2048x256 .bf16) (x : Vec Ideal S128x128 .f32) (g : Vec Ideal S1x128 .f32)
    (c s : Vec Ideal S128x128 .f32) : FVec Ideal S128x128 .f32 :=
  attn128 (rope128 x g c s) kw vw

/-! ## Their values at an element -/

/-- The comparison the kernel selects by, on lane numbers. -/
theorem lane_test (d : Fin 128) :
    IntOp.cmpi .slt (IntOp.andi (BitVec.ofNat 32 d.val) 63#32) 32#32 = if d.val % 64 < 32 then 1#1 else 0#1 := by
  revert d; decide

/-- Selecting between the two rolled copies of a row is reading it at the partner lane. -/
theorem select_swap (y : Fin 128 → EReal) (d : Fin 128) (h₁ : (d.val + 128 - 96) % 128 < 128) (h₂ : (d.val + 128 - 32) % 128 < 128) :
    Scalar.select (IntOp.cmpi .slt (IntOp.andi (BitVec.ofNat 32 d.val) 63#32) 32#32)
      (y ⟨(d.val + 128 - 96) % 128, h₁⟩) (y ⟨(d.val + 128 - 32) % 128, h₂⟩) = y (swapLane d) := by
  rw [lane_test]
  unfold swapLane
  split
  · exact congrArg y (Fin.ext (by show (d.val + 128 - 96) % 128 = (d.val + 32) % 128; omega))
  · exact congrArg y (Fin.ext (by show (d.val + 128 - 32) % 128 = (d.val + 96) % 128; omega))

/-- A normed and rotated element of a chunk of 128 rows. -/
theorem rope128_apply (x : Vec Ideal S128x128 .f32) (g : Vec Ideal S1x128 .f32) (c s : Vec Ideal S128x128 .f32) (r d : Fin 128) :
    rope128 x g c s (ix2 r d)
      = rowRope (fun l => x (ix2 r l)) (fun l => g (ix2 0 l)) (fun l => c (ix2 r l)) (fun l => s (ix2 r l)) d := by
  unfold rope128
  pointwise
  unfold rowRope
  rw [← select_swap (rowNorm _ _)]
  rfl

/-- A normed and rotated element of a slab of 512 rows. -/
theorem rope512_apply (x : Vec Ideal S512x128 .f32) (g : Vec Ideal S1x128 .f32) (c s : Vec Ideal S512x128 .f32) (r : Fin 512) (d : Fin 128) :
    rope512 x g c s (ix2 r d)
      = rowRope (fun l => x (ix2 r l)) (fun l => g (ix2 0 l)) (fun l => c (ix2 r l)) (fun l => s (ix2 r l)) d := by
  unfold rope512
  pointwise
  unfold rowRope
  rw [← select_swap (rowNorm _ _)]
  rfl

/-- The word a maximum starts from is the least extended real. -/
theorem negInf_word : Ideal.ofBits FTy.f32 0xFF800000#32 = ⊥ := by
  simp [Ideal.ofBits, Ideal.ieee]

/-- An attended element. -/
theorem attn128_apply (q : FVec Ideal S128x128 .bf16) (kw : FVec Ideal S2048x128 .bf16) (vw : FVec Ideal S2048x256 .bf16) (r d : Fin 128) :
    attn128 q kw vw (ix2 r d)
      = rowAttn (fun l => q (ix2 r l)) (fun k l => kw (ix2 k l)) (fun k l => vw (ix2 k l)) d := by
  unfold attn128
  pointwise [dot_S128x128_S2048x128_S128x2048_1_1_0_0_n_n, dot_S128x2048_S2048x256_S128x256_1_0_0_1_n_n]
  rw [negInf_word]
  rfl

/-- A chunk at an element: the attention of the rotated row. -/
theorem chunk_apply (kw : FVec Ideal S2048x128 .bf16) (vw : FVec Ideal S2048x256 .bf16) (x : Vec Ideal S128x128 .f32) (g : Vec Ideal S1x128 .f32)
    (c s : Vec Ideal S128x128 .f32) (r d : Fin 128) :
    chunk kw vw x g c s (ix2 r d)
      = rowAttn (rowRope (fun l => x (ix2 r l)) (fun l => g (ix2 0 l)) (fun l => c (ix2 r l)) (fun l => s (ix2 r l)))
          (fun k l => kw (ix2 k l)) (fun k l => vw (ix2 k l)) d := by
  unfold chunk
  rw [attn128_apply]
  simp only [rope128_apply]

end Cert.MixerB

end
-- ==== Proof.Block.lean ====
/- What one run of the kernel body leaves: the block of the output as a function of the input blocks and the
   stored keys and values, and, at a point that fills the scratch, the stored keys and values themselves. -/
module

public import proofs.«01_k».proof.Proof.Chunk
public import Idealize.ShloMosaic.Lib.Pipeline.ValueKit.Tiles

@[expose] public section

set_option maxRecDepth 16384

noncomputable section

namespace Cert.MixerB

open Cert.KernelIdeal Cert.KernelIdeal.Gen Idealize.ShloMosaic Idealize.ShloMosaic.TcCoe Idealize.SL.Sem Idealize.ShloMosaic.Tactic

/-- The keys the scratch holds: each row of the key block, normed and rotated. -/
def keysOf (x1 : Vec Ideal S2048x128 .f32) (gk : Vec Ideal S1x128 .f32) (cs sn : Vec Ideal S2048x128 .f32) (k : Fin 2048) (d : Fin 128) : EReal :=
  rowRope (fun l => x1 (ix2 k l)) (fun l => gk (ix2 0 l)) (fun l => cs (ix2 k l)) (fun l => sn (ix2 k l)) d

/-- The values the scratch holds: the value block, and ones beside it. -/
def valsOf (x2 : Vec Ideal S2048x128 .f32) (k : Fin 2048) (d : Fin 256) : EReal :=
  if h : d.val < 128 then x2 (ix2 k ⟨d.val, h⟩) else 1

theorem valsOf_hi (x2 : Vec Ideal S2048x128 .f32) (k : Fin 2048) (d : Fin 256) (h : ¬ d.val < 128) : valsOf x2 k d = 1 := dif_neg h

/-- Row `r`, lane `l` of the output block of the point whose third coordinate is `q`. -/
def blockOut (q : Fin 2) (x0 : Vec Ideal S1024x512 .f32) (gq : Vec Ideal S1x128 .f32) (cs sn : Vec Ideal S2048x128 .f32)
    (K : Fin 2048 → Fin 128 → EReal) (V : Fin 2048 → Fin 256 → EReal) (r : Fin 1024) (l : Fin 512) : EReal :=
  rowAttn (rowRope (fun d => x0 (ix2 r ⟨l.val / 128 * 128 + d.val, by omega⟩)) (fun d => gq (ix2 0 d))
      (fun d => cs (ix2 ⟨1024 * q.val + r.val, by omega⟩ d)) (fun d => sn (ix2 ⟨1024 * q.val + r.val, by omega⟩ d)))
    K V ⟨l.val % 128, Nat.mod_lt _ (by decide)⟩

/-- The attention of a row depends on its arguments only through their values. -/
theorem attn_congr {x x' g g' c c' s s' : Fin 128 → EReal} {K K' : Fin 2048 → Fin 128 → EReal} {V V' : Fin 2048 → Fin 256 → EReal}
    {d d' : Fin 128} (hx : ∀ l, x l = x' l) (hg : ∀ l, g l = g' l) (hc : ∀ l, c l = c' l) (hs : ∀ l, s l = s' l)
    (hK : ∀ k l, K k l = K' k l) (hV : ∀ k l, V k l = V' k l) (hd : d = d') :
    rowAttn (rowRope x g c s) K V d = rowAttn (rowRope x' g' c' s') K' V' d' := by
  obtain rfl := funext hx; obtain rfl := funext hg; obtain rfl := funext hc; obtain rfl := funext hs
  obtain rfl := funext fun k => funext (hK k); obtain rfl := funext fun k => funext (hV k); rw [hd]

/-- So does its rotation. -/
theorem rope_congr {x x' g g' c c' s s' : Fin 128 → EReal} {d : Fin 128} (hx : ∀ l, x l = x' l) (hg : ∀ l, g l = g' l)
    (hc : ∀ l, c l = c' l) (hs : ∀ l, s l = s' l) : rowRope x g c s d = rowRope x' g' c' s' d := by
  obtain rfl := funext hx; obtain rfl := funext hg; obtain rfl := funext hc; obtain rfl := funext hs; rfl

section Point

variable (c : Dev nD) (i : grid0.Coords) (arg3 : Memref sig .tc .vmem S1024x512 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S1x128 .f32) (harg6 : arg6.IsWhole) (arg7 : Memref sig .tc .vmem S1x128 .f32) (harg7 : arg7.IsWhole)
  (arg8 : Memref sig .tc .vmem S2048x128 .f32) (harg8 : arg8.IsWhole) (arg9 : Memref sig .tc .vmem S2048x128 .f32) (harg9 : arg9.IsWhole)
  (arg10 : Memref sig .tc .vmem S1024x512 .f32) (harg10 : arg10.IsWhole) (arg11 : Memref sig .tc .vmem S2048x128 .bf16) (harg11 : arg11.IsWhole)
  (arg12 : Memref sig .tc .vmem S2048x256 .bf16) (harg12 : arg12.IsWhole)
  (x0 : Vec Ideal S1024x512 .f32) (x1 : Vec Ideal S2048x128 .f32) (x2 : Vec Ideal S2048x128 .f32) (x3 : Vec Ideal S1x128 .f32)
  (x4 : Vec Ideal S1x128 .f32) (x5 : Vec Ideal S2048x128 .f32) (x6 : Vec Ideal S2048x128 .f32)

omit c in
/-- The table rows a chunk reads start at the point's first row plus the chunk's. -/
theorem off1_eq (a : ℕ) (ha : a % 128 = 0) (h : a + 128 ≤ 1024) : k0_off1 i (BitVec.ofNat 32 a) = ![1024 * (i 2).val + a, 0] := by
  obtain ⟨r, rfl⟩ : ∃ r, a = 128 * r := ⟨a / 128, by omega⟩
  exact k0_off1_eq i ⟨r, by omega⟩

omit c in
theorem off1_inb (a : ℕ) (ha : a % 128 = 0) (h : a + 128 ≤ 1024) : ∀ k, k0_off1 i (BitVec.ofNat 32 a) k + S128x128.size k ≤ S2048x128.size k := by
  obtain ⟨r, rfl⟩ : ∃ r, a = 128 * r := ⟨a / 128, by omega⟩
  exact k0_off1_inb i ⟨r, by omega⟩

/-- One stored piece of the output: the chunk whose queries start at row `a`, lane `b` of the query block is
    `blockOut` at the place it is stored. -/
theorem piece_out (kw : FVec Ideal S2048x128 .bf16) (vw : FVec Ideal S2048x256 .bf16)
    (K : Fin 2048 → Fin 128 → EReal) (V : Fin 2048 → Fin 256 → EReal) (hK : ∀ k d, kw (ix2 k d) = K k d) (hV : ∀ k d, vw (ix2 k d) = V k d) (a b : ℕ) (ha : a % 128 = 0) (hb : b % 128 = 0)
    (inb : ∀ k, (![a, b] : Fin 2 → ℕ) k + S128x128.size k ≤ S1024x512.size k)
    (x : S128x128.Idx) :
    chunk kw vw (View.readAt (Elt Ideal) arg3.view (Rect.unit (s := S1024x512) ![a, b] S128x128.size inb).toLoadRect (harg3.unread x0))
        (View.readAt (Elt Ideal) arg6.view (Rect.unit (s := S1x128) ![0, 0] S1x128.size inb_S1x128_S1x128_0_0).toLoadRect (harg6.unread x3))
        (View.readAt (Elt Ideal) arg8.view (Rect.unit (s := S2048x128) (k0_off1 i (BitVec.ofNat 32 a)) S128x128.size (off1_inb i a ha (inb 0))).toLoadRect (harg8.unread x5))
        (View.readAt (Elt Ideal) arg9.view (Rect.unit (s := S2048x128) (k0_off1 i (BitVec.ofNat 32 a)) S128x128.size (off1_inb i a ha (inb 0))).toLoadRect (harg9.unread x6)) x
      = (fun y : S1024x512.Idx => blockOut (i 2) x0 x3 x5 x6 K V (y 0) (y 1))
          ((Rect.unit (s := S1024x512) ![a, b] S128x128.size inb).emb x) := by
  obtain ⟨r, d, rfl⟩ : ∃ r d : Fin 128, x = ix2 r d := ⟨x 0, x 1, by funext k; fin_cases k <;> rfl⟩
  have h0 : a + 128 ≤ 1024 := inb 0
  have h1 : b + 128 ≤ 512 := inb 1
  have hq : (i 2).val < 2 := (i 2).isLt
  have hy : (Rect.unit (s := S1024x512) ![a, b] S128x128.size inb).emb (ix2 r d) = ix2 ⟨a + r.val, by omega⟩ ⟨b + d.val, by omega⟩ := by
    funext k
    apply Fin.ext
    fin_cases k
    · show a + 1 * r.val = a + r.val
      omega
    · show b + 1 * d.val = b + d.val
      omega
  rw [chunk_apply, hy]
  have e0 : ∀ l : Fin 128, View.ld x0 (Rect.unit (s := S1024x512) ![a, b] S128x128.size inb) (ix2 r l)
      = x0 (ix2 ⟨a + r.val, by omega⟩ ⟨(b + d.val) / 128 * 128 + l.val, by omega⟩) := fun l =>
    View.ld_unit_apply_of _ _ _ _ _ _ (fun k => by
      fin_cases k
      · rfl
      · show (b + d.val) / 128 * 128 + l.val = b + l.val
        omega)
  have e8 : ∀ (T : Vec Ideal S2048x128 .f32) (l : Fin 128), View.ld T (Rect.unit (s := S2048x128) (k0_off1 i (BitVec.ofNat 32 a)) S128x128.size (off1_inb i a ha (inb 0))) (ix2 r l)
      = T (ix2 ⟨1024 * (i 2).val + (a + r.val), by omega⟩ l) := fun T l =>
    View.ld_unit_apply_of _ _ _ _ _ _ (fun k => by
      refine Eq.trans ?_ (congrArg (· + (ix2 r l k).val) (congrFun (off1_eq i a ha h0) k)).symm
      fin_cases k
      · show 1024 * (i 2).val + (a + r.val) = 1024 * (i 2).val + a + r.val
        omega
      · show l.val = 0 + l.val
        omega)
  have e6 : View.ld x3 (Rect.unit (s := S1x128) ![0, 0] S1x128.size inb_S1x128_S1x128_0_0) = x3 :=
    View.ld_unit_zero (by funext k; fin_cases k <;> rfl) _ _
  have ed : d = ⟨(b + d.val) % 128, Nat.mod_lt _ (by decide)⟩ := Fin.ext (by show d.val = (b + d.val) % 128; omega)
  exact attn_congr (fun l => by rw [View.readAt_eq_ld, harg3.read_unread]; exact e0 l)
    (fun l => by rw [View.readAt_eq_ld, harg6.read_unread, e6]) (fun l => by rw [View.readAt_eq_ld, harg8.read_unread]; exact e8 x5 l)
    (fun l => by rw [View.readAt_eq_ld, harg9.read_unread]; exact e8 x6 l) hK hV ed

/-- What the output block holds after a point that reads the scratch as the point before left it. -/
theorem out_B (hc0 : ¬cond0_0 i) (xs0 : Vec Ideal S2048x128 .bf16) (xs1 : Vec Ideal S2048x256 .bf16) (y : S1024x512.Idx) :
    out0_B_7 (F := Ideal) c i arg3 harg3 arg4 harg4 arg5 harg5 arg6 harg6 arg7 harg7 arg8 harg8 arg9 harg9 arg10 harg10 arg11 harg11 arg12 harg12 hc0
        x0 x1 x2 x3 x4 x5 x6 xs0 xs1 y
      = blockOut (i 2) x0 x3 x5 x6 (fun k d => xs0 (ix2 k d)) (fun k d => xs1 (ix2 k d)) (y 0) (y 1) := by
  refine View.read_writes_apply_of_pieces _ _
    (fun y : S1024x512.Idx => blockOut (i 2) x0 x3 x5 x6 (fun k d => xs0 (ix2 k d)) (fun k d => xs1 (ix2 k d)) (y 0) (y 1)) _ ?_ y
    (cover0_B_7 (F := Ideal) c i arg3 harg3 arg4 harg4 arg5 harg5 arg6 harg6 arg7 harg7 arg8 harg8 arg9 harg9 arg10 harg10 arg11 harg11 arg12 harg12 hc0
        x0 x1 x2 x3 x4 x5 x6 xs0 xs1 y)
  have e0 : View.readAt (Elt Ideal) arg11.view (Rect.unit (s := S2048x128) ![0, 0] S2048x128.size inb_S2048x128_S2048x128_0_0).toLoadRect (harg11.unread xs0) = xs0 := by
    rw [View.readAt_eq_ld, harg11.read_unread]
    exact View.ld_unit_zero (by funext a; fin_cases a <;> rfl) _ _
  have e1 : View.readAt (Elt Ideal) arg12.view (Rect.unit (s := S2048x256) ![0, 0] S2048x256.size inb_S2048x256_S2048x256_0_0).toLoadRect (harg12.unread xs1) = xs1 := by
    rw [View.readAt_eq_ld, harg12.read_unread]
    exact View.ld_unit_zero (by funext a; fin_cases a <;> rfl) _ _
  unfold kernelRun0_B
  dsimp only
  repeat
    refine List.forall_mem_cons.2 ⟨fun x => Eq.trans ?_ (piece_out i arg3 harg3 arg6 harg6 arg8 harg8 arg9 harg9 x0 x3 x5 x6 _ _ _ _
      (fun k d => congrFun e0 (ix2 k d)) (fun k d => congrFun e1 (ix2 k d)) _ _ (by decide) (by decide) (by decide) x), ?_⟩
    · rfl
  exact List.forall_mem_nil _

omit c i in
/-- One stored piece of the keys: the 512 rows from row `a`, normed and rotated. -/
theorem piece_keys (a : ℕ) (inb : ∀ k, (![a, 0] : Fin 2 → ℕ) k + S512x128.size k ≤ S2048x128.size k) (x : S512x128.Idx) :
    rope512 (View.readAt (Elt Ideal) arg4.view (Rect.unit (s := S2048x128) ![a, 0] S512x128.size inb).toLoadRect (harg4.unread x1))
        (View.readAt (Elt Ideal) arg7.view (Rect.unit (s := S1x128) ![0, 0] S1x128.size inb_S1x128_S1x128_0_0).toLoadRect (harg7.unread x4))
        (View.readAt (Elt Ideal) arg8.view (Rect.unit (s := S2048x128) ![a, 0] S512x128.size inb).toLoadRect (harg8.unread x5))
        (View.readAt (Elt Ideal) arg9.view (Rect.unit (s := S2048x128) ![a, 0] S512x128.size inb).toLoadRect (harg9.unread x6)) x
      = (fun y : S2048x128.Idx => keysOf x1 x4 x5 x6 (y 0) (y 1)) ((Rect.unit (s := S2048x128) ![a, 0] S512x128.size inb).emb x) := by
  obtain ⟨r, d, rfl⟩ : ∃ (r : Fin 512) (d : Fin 128), x = ix2 r d := ⟨x 0, x 1, by funext k; fin_cases k <;> rfl⟩
  have h0 : a + 512 ≤ 2048 := inb 0
  have hy : (Rect.unit (s := S2048x128) ![a, 0] S512x128.size inb).emb (ix2 r d) = ix2 ⟨a + r.val, by omega⟩ d := by
    funext k
    apply Fin.ext
    fin_cases k
    · show a + 1 * r.val = a + r.val
      omega
    · show 0 + 1 * d.val = d.val
      omega
  have e : ∀ (T : Vec Ideal S2048x128 .f32) (l : Fin 128), View.ld T (Rect.unit (s := S2048x128) ![a, 0] S512x128.size inb) (ix2 r l)
      = T (ix2 ⟨a + r.val, by omega⟩ l) := fun T l =>
    View.ld_unit_apply_of _ _ _ _ _ _ (fun k => by
      fin_cases k
      · rfl
      · show l.val = 0 + l.val
        omega)
  have e7 : View.ld x4 (Rect.unit (s := S1x128) ![0, 0] S1x128.size inb_S1x128_S1x128_0_0) = x4 :=
    View.ld_unit_zero (by funext k; fin_cases k <;> rfl) _ _
  rw [rope512_apply, hy]
  exact rope_congr (fun l => by rw [View.readAt_eq_ld, harg4.read_unread]; exact e x1 l)
    (fun l => by rw [View.readAt_eq_ld, harg7.read_unread, e7]) (fun l => by rw [View.readAt_eq_ld, harg8.read_unread]; exact e x5 l)
    (fun l => by rw [View.readAt_eq_ld, harg9.read_unread]; exact e x6 l)

omit c i in
/-- One stored piece of the values: 512 rows of the value block in lanes 0 to 127; -/
theorem piece_vals (a : ℕ) (inb : ∀ k, (![a, 0] : Fin 2 → ℕ) k + S512x128.size k ≤ S2048x128.size k)
    (inb' : ∀ k, (![a, 0] : Fin 2 → ℕ) k + S512x128.size k ≤ S2048x256.size k) (x : S512x128.Idx) :
    (shapeCast S512x128 (truncf .bf16 (View.readAt (Elt Ideal) arg5.view (Rect.unit (s := S2048x128) ![a, 0] S512x128.size inb).toLoadRect (harg5.unread x2) : FVec Ideal S512x128 .f32) bitsLt_bf16_f32 : FVec Ideal S512x128 .bf16)
        shapeCasts_S512x128_S512x128 : FVec Ideal S512x128 .bf16) x
      = (fun y : S2048x256.Idx => valsOf x2 (y 0) (y 1)) ((Rect.unit (s := S2048x256) ![a, 0] S512x128.size inb').emb x) := by
  obtain ⟨r, d, rfl⟩ : ∃ (r : Fin 512) (d : Fin 128), x = ix2 r d := ⟨x 0, x 1, by funext k; fin_cases k <;> rfl⟩
  have h0 : a + 512 ≤ 2048 := inb 0
  have hy : (Rect.unit (s := S2048x256) ![a, 0] S512x128.size inb').emb (ix2 r d) = ix2 ⟨a + r.val, by omega⟩ ⟨d.val, by omega⟩ := by
    funext k
    apply Fin.ext
    fin_cases k
    · show a + 1 * r.val = a + r.val
      omega
    · show 0 + 1 * d.val = d.val
      omega
  rw [hy, shapeCast_self, View.readAt_eq_ld, harg5.read_unread]
  show View.ld x2 (Rect.unit (s := S2048x128) ![a, 0] S512x128.size inb) (ix2 r d) = valsOf x2 ⟨a + r.val, by omega⟩ ⟨d.val, by omega⟩
  rw [valsOf, dif_pos d.isLt]
  exact View.ld_unit_apply_of _ _ _ _ _ _ (fun k => by
      fin_cases k
      · rfl
      · show d.val = 0 + d.val
        omega)

omit c i in
/-- and ones in lanes 128 to 255. -/
theorem piece_ones (a : ℕ) (inb' : ∀ k, (![a, 128] : Fin 2 → ℕ) k + S512x128.size k ≤ S2048x256.size k) (x : S512x128.Idx) :
    (shapeCast S512x128 (broadcast S512x128 (Scalar.ofBits .bf16 0x3F80#16) : FVec Ideal S512x128 .bf16)
        shapeCasts_S512x128_S512x128 : FVec Ideal S512x128 .bf16) x
      = (fun y : S2048x256.Idx => valsOf x2 (y 0) (y 1)) ((Rect.unit (s := S2048x256) ![a, 128] S512x128.size inb').emb x) := by
  have h : ¬ ((Rect.unit (s := S2048x256) ![a, 128] S512x128.size inb').emb x 1).val < 128 := by
    show ¬ (128 + 1 * (x 1).val < 128)
    omega
  rw [shapeCast_self]
  exact Ideal.ofBits_one_bf16.trans (valsOf_hi x2 _ _ h).symm

/-- The stored keys, after a point that fills the scratch. -/
theorem keys_A (hc0 : cond0_0 i) :
    View.canon (kernelRun0_A (F := Ideal) c i arg3 harg3 arg4 harg4 arg5 harg5 arg6 harg6 arg7 harg7 arg8 harg8 arg9 harg9 arg10 harg10 arg11 harg11 arg12 harg12 hc0
        x0 x1 x2 x3 x4 x5 x6).2.1
      = fun y : S2048x128.Idx => keysOf x1 x4 x5 x6 (y 0) (y 1) := by
  funext y
  refine View.canon_apply_of_pieces (fun y : S2048x128.Idx => keysOf x1 x4 x5 x6 (y 0) (y 1)) _ ?_ y
    (scover0_A_0 (F := Ideal) c i arg3 harg3 arg4 harg4 arg5 harg5 arg6 harg6 arg7 harg7 arg8 harg8 arg9 harg9 arg10 harg10 arg11 harg11 arg12 harg12 hc0
        x0 x1 x2 x3 x4 x5 x6 y)
  unfold kernelRun0_A
  dsimp only
  repeat
    refine List.forall_mem_cons.2 ⟨fun x => Eq.trans ?_ (piece_keys arg4 harg4 arg7 harg7 arg8 harg8 arg9 harg9 x1 x4 x5 x6 _ (by decide) x), ?_⟩
    · rfl
  exact List.forall_mem_nil _

/-- The stored values, after such a point. -/
theorem vals_A (hc0 : cond0_0 i) :
    View.canon (kernelRun0_A (F := Ideal) c i arg3 harg3 arg4 harg4 arg5 harg5 arg6 harg6 arg7 harg7 arg8 harg8 arg9 harg9 arg10 harg10 arg11 harg11 arg12 harg12 hc0
        x0 x1 x2 x3 x4 x5 x6).2.2.1
      = fun y : S2048x256.Idx => valsOf x2 (y 0) (y 1) := by
  funext y
  refine View.canon_apply_of_pieces (fun y : S2048x256.Idx => valsOf x2 (y 0) (y 1)) _ ?_ y
    (scover0_A_1 (F := Ideal) c i arg3 harg3 arg4 harg4 arg5 harg5 arg6 harg6 arg7 harg7 arg8 harg8 arg9 harg9 arg10 harg10 arg11 harg11 arg12 harg12 hc0
        x0 x1 x2 x3 x4 x5 x6 y)
  unfold kernelRun0_A
  dsimp only
  repeat
    refine List.forall_mem_cons.2 ⟨fun x => Eq.trans ?_ (piece_ones x2 _ (by decide) x), ?_⟩
    · rfl
    refine List.forall_mem_cons.2 ⟨fun x => Eq.trans ?_ (piece_vals arg5 harg5 x2 _ (by decide) (by decide) x), ?_⟩
    · rfl
  exact List.forall_mem_nil _

/-- What the output block holds after a point that fills the scratch first. -/
theorem out_A (hc0 : cond0_0 i) (y : S1024x512.Idx) :
    out0_A_7 (F := Ideal) c i arg3 harg3 arg4 harg4 arg5 harg5 arg6 harg6 arg7 harg7 arg8 harg8 arg9 harg9 arg10 harg10 arg11 harg11 arg12 harg12 hc0
        x0 x1 x2 x3 x4 x5 x6 y
      = blockOut (i 2) x0 x3 x5 x6 (keysOf x1 x4 x5 x6) (valsOf x2) (y 0) (y 1) := by
  refine View.read_writes_apply_of_pieces _ _
    (fun y : S1024x512.Idx => blockOut (i 2) x0 x3 x5 x6 (keysOf x1 x4 x5 x6) (valsOf x2) (y 0) (y 1)) _ ?_ y
    (cover0_A_7 (F := Ideal) c i arg3 harg3 arg4 harg4 arg5 harg5 arg6 harg6 arg7 harg7 arg8 harg8 arg9 harg9 arg10 harg10 arg11 harg11 arg12 harg12 hc0
        x0 x1 x2 x3 x4 x5 x6 y)
  have e0 : View.readCov (Val := Elt Ideal) arg11.view (kernelRun0_A (F := Ideal) c i arg3 harg3 arg4 harg4 arg5 harg5 arg6 harg6 arg7 harg7 arg8 harg8 arg9 harg9 arg10 harg10 arg11 harg11 arg12 harg12 hc0
        x0 x1 x2 x3 x4 x5 x6).2.1 (Rect.unit (s := S2048x128) ![0, 0] S2048x128.size inb_S2048x128_S2048x128_0_0).toLoadRect
      = fun y : S2048x128.Idx => keysOf x1 x4 x5 x6 (y 0) (y 1) := by
    rw [← keys_A c i arg3 harg3 arg4 harg4 arg5 harg5 arg6 harg6 arg7 harg7 arg8 harg8 arg9 harg9 arg10 harg10 arg11 harg11 arg12 harg12 x0 x1 x2 x3 x4 x5 x6 hc0,
      View.readCov_eq_canon']
    exact View.ld_unit_zero (by funext k; fin_cases k <;> rfl) _ _
  have e1 : View.readCov (Val := Elt Ideal) arg12.view (kernelRun0_A (F := Ideal) c i arg3 harg3 arg4 harg4 arg5 harg5 arg6 harg6 arg7 harg7 arg8 harg8 arg9 harg9 arg10 harg10 arg11 harg11 arg12 harg12 hc0
        x0 x1 x2 x3 x4 x5 x6).2.2.1 (Rect.unit (s := S2048x256) ![0, 0] S2048x256.size inb_S2048x256_S2048x256_0_0).toLoadRect
      = fun y : S2048x256.Idx => valsOf x2 (y 0) (y 1) := by
    rw [← vals_A c i arg3 harg3 arg4 harg4 arg5 harg5 arg6 harg6 arg7 harg7 arg8 harg8 arg9 harg9 arg10 harg10 arg11 harg11 arg12 harg12 x0 x1 x2 x3 x4 x5 x6 hc0,
      View.readCov_eq_canon']
    exact View.ld_unit_zero (by funext k; fin_cases k <;> rfl) _ _
  have key := fun a b ha hb inb x => piece_out i arg3 harg3 arg6 harg6 arg8 harg8 arg9 harg9 x0 x3 x5 x6 _ _ (keysOf x1 x4 x5 x6) (valsOf x2)
    (fun k d => congrFun e0 (ix2 k d)) (fun k d => congrFun e1 (ix2 k d)) a b ha hb inb x
  clear e0 e1
  unfold kernelRun0_A at key ⊢
  dsimp only at key ⊢
  repeat
    refine List.forall_mem_cons.2 ⟨fun x => Eq.trans ?_ (key _ _ (by decide) (by decide) (by decide) x), ?_⟩
    · rfl
  exact List.forall_mem_nil _

end Point

end Cert.MixerB

end
-- ==== Proof.Array.lean ====
/- What the kernel's result array holds: the attention of every row of the projection, as a function of the projection,
   the two gains and the two rotary tables. -/
module

public import proofs.«01_k».proof.Proof.Block
public import proofs.«01_k».proof.Proof.Gen.KernelIdeal.Value

@[expose] public section

set_option maxRecDepth 16384

noncomputable section

namespace Cert.MixerB

open Cert.KernelIdeal Cert.KernelIdeal.Gen Cert.KernelIdeal.Value Idealize.ShloMosaic Idealize.ShloMosaic.TcCoe Idealize.SL.Sem Idealize.ShloMosaic.Tactic

/-- Key row `k` of batch `b` and key head `g`: the projection's columns from 4096, normed and rotated. -/
def keyAt (X : Vec Ideal S8192x9216 .f32) (gk : Vec Ideal S1x128 .f32) (cs sn : Vec Ideal S2048x128 .f32) (b : Fin 4) (g : Fin 2)
    (k : Fin 2048) (d : Fin 128) : EReal :=
  rowRope (fun l => X (ix2 ⟨b.val * 2048 + k.val, by omega⟩ ⟨4096 + g.val * 128 + l.val, by omega⟩)) (fun l => gk (ix2 0 l))
    (fun l => cs (ix2 k l)) (fun l => sn (ix2 k l)) d

/-- Value row `k` of batch `b` and key head `g`: the projection's columns from 4352, and ones beside them. -/
def valAt (X : Vec Ideal S8192x9216 .f32) (b : Fin 4) (g : Fin 2) (k : Fin 2048) (d : Fin 256) : EReal :=
  if h : d.val < 128 then X (ix2 ⟨b.val * 2048 + k.val, by omega⟩ ⟨4352 + g.val * 128 + d.val, by omega⟩) else 1

/-- The result at `(row, col)`: head `col / 128` of the row's query against the keys and values of the row's batch and the
    head's group of four. -/
def attnAt (X : Vec Ideal S8192x9216 .f32) (gq gk : Vec Ideal S1x128 .f32) (cs sn : Vec Ideal S2048x128 .f32) (row : Fin 8192) (col : Fin 1024) : EReal :=
  rowAttn (rowRope (fun d => X (ix2 row ⟨3072 + col.val / 128 * 128 + d.val, by omega⟩)) (fun d => gq (ix2 0 d))
      (fun d => cs (ix2 ⟨row.val % 2048, Nat.mod_lt _ (by decide)⟩ d)) (fun d => sn (ix2 ⟨row.val % 2048, Nat.mod_lt _ (by decide)⟩ d)))
    (keyAt X gk cs sn ⟨row.val / 2048, by omega⟩ ⟨col.val / 512, by omega⟩) (valAt X ⟨row.val / 2048, by omega⟩ ⟨col.val / 512, by omega⟩)
    ⟨col.val % 128, Nat.mod_lt _ (by decide)⟩

section
variable (m : (ℓ : Loc nD τ sig) → Buf (Elt Ideal) ℓ) (c : Dev nD)

theorem coord2 : ∀ t : Fin cfg0.N, (grid0.coords t 2).val = t.val % 2 :=
  (by decide +kernel : ∀ t : Fin grid0.N, (grid0.coords t 2).val = t.val % 2)

theorem idx0 : ∀ t : Fin cfg0.N, win0_0.index t 0 = t.val / 4 * 2 + t.val % 2 ∧ win0_0.index t 1 = 6 + t.val / 2 % 2 :=
  (by decide +kernel : ∀ t : Fin grid0.N, win0_0.index t 0 = t.val / 4 * 2 + t.val % 2 ∧ win0_0.index t 1 = 6 + t.val / 2 % 2)
theorem idx1 : ∀ t : Fin cfg0.N, win0_1.index t 0 = t.val / 4 ∧ win0_1.index t 1 = 32 + t.val / 2 % 2 :=
  (by decide +kernel : ∀ t : Fin grid0.N, win0_1.index t 0 = t.val / 4 ∧ win0_1.index t 1 = 32 + t.val / 2 % 2)
theorem idx2 : ∀ t : Fin cfg0.N, win0_2.index t 0 = t.val / 4 ∧ win0_2.index t 1 = 34 + t.val / 2 % 2 :=
  (by decide +kernel : ∀ t : Fin grid0.N, win0_2.index t 0 = t.val / 4 ∧ win0_2.index t 1 = 34 + t.val / 2 % 2)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val / 4 * 2 + t.val % 2 ∧ win0_7.index t 1 = t.val / 2 % 2 :=
  (by decide +kernel : ∀ t : Fin grid0.N, win0_7.index t 0 = t.val / 4 * 2 + t.val % 2 ∧ win0_7.index t 1 = t.val / 2 % 2)

theorem lt16 (t : Fin cfg0.N) : t.val < 16 := t.isLt.trans_eq (show cfg0.N = 16 from N_0)

/-- The query block of a point, read from the projection. -/
theorem blk0 (t : Fin cfg0.N) (r : Fin 1024) (l : Fin 512) : (iblk m c 0 t : Vec Ideal S1024x512 .f32) (ix2 r l)
    = V m c main_arg0 (ix2 ⟨(t.val / 4 * 2 + t.val % 2) * 1024 + r.val, by have := lt16 t; omega⟩ ⟨(6 + t.val / 2 % 2) * 512 + l.val, by omega⟩) := by
  unfold iblk
  rw [View.read_apply]
  show V m c main_arg0 _ = _
  congr 1
  funext a
  apply Fin.ext
  match a with
  | ⟨0, _⟩ => show win0_0.index t 0 * 1024 + 1 * r.val = _; rw [(idx0 t).1, Nat.one_mul]; rfl
  | ⟨1, _⟩ => show win0_0.index t 1 * 512 + 1 * l.val = _; rw [(idx0 t).2, Nat.one_mul]; rfl

/-- The key block of a point. -/
theorem blk1 (t : Fin cfg0.N) (r : Fin 2048) (l : Fin 128) : (iblk m c 1 t : Vec Ideal S2048x128 .f32) (ix2 r l)
    = V m c main_arg0 (ix2 ⟨t.val / 4 * 2048 + r.val, by have := lt16 t; omega⟩ ⟨(32 + t.val / 2 % 2) * 128 + l.val, by omega⟩) := by
  unfold iblk
  rw [View.read_apply]
  show V m c main_arg0 _ = _
  congr 1
  funext a
  apply Fin.ext
  match a with
  | ⟨0, _⟩ => show win0_1.index t 0 * 2048 + 1 * r.val = _; rw [(idx1 t).1, Nat.one_mul]; rfl
  | ⟨1, _⟩ => show win0_1.index t 1 * 128 + 1 * l.val = _; rw [(idx1 t).2, Nat.one_mul]; rfl

/-- The value block of a point. -/
theorem blk2 (t : Fin cfg0.N) (r : Fin 2048) (l : Fin 128) : (iblk m c 2 t : Vec Ideal S2048x128 .f32) (ix2 r l)
    = V m c main_arg0 (ix2 ⟨t.val / 4 * 2048 + r.val, by have := lt16 t; omega⟩ ⟨(34 + t.val / 2 % 2) * 128 + l.val, by omega⟩) := by
  unfold iblk
  rw [View.read_apply]
  show V m c main_arg0 _ = _
  congr 1
  funext a
  apply Fin.ext
  match a with
  | ⟨0, _⟩ => show win0_2.index t 0 * 2048 + 1 * r.val = _; rw [(idx2 t).1, Nat.one_mul]; rfl
  | ⟨1, _⟩ => show win0_2.index t 1 * 128 + 1 * l.val = _; rw [(idx2 t).2, Nat.one_mul]; rfl

/-- The query gain, whole at every point; -/
theorem blk3 (t : Fin cfg0.N) (r : Fin 1) (l : Fin 128) : (iblk m c 3 t : Vec Ideal S1x128 .f32) (ix2 r l) = V m c main_v70 (ix2 r l) := by
  unfold iblk
  rw [View.read_apply]
  show V m c main_v70 _ = _
  congr 1
  funext a
  apply Fin.ext
  match a with
  | ⟨0, _⟩ => show win0_3.index t 0 * 1 + 1 * r.val = r.val; rw [(idx3 t).1]; omega
  | ⟨1, _⟩ => show win0_3.index t 1 * 128 + 1 * l.val = l.val; rw [(idx3 t).2]; omega

/-- the key gain; -/
theorem blk4 (t : Fin cfg0.N) (r : Fin 1) (l : Fin 128) : (iblk m c 4 t : Vec Ideal S1x128 .f32) (ix2 r l) = V m c main_v71 (ix2 r l) := by
  unfold iblk
  rw [View.read_apply]
  show V m c main_v71 _ = _
  congr 1
  funext a
  apply Fin.ext
  match a with
  | ⟨0, _⟩ => show win0_4.index t 0 * 1 + 1 * r.val = r.val; rw [(idx4 t).1]; omega
  | ⟨1, _⟩ => show win0_4.index t 1 * 128 + 1 * l.val = l.val; rw [(idx4 t).2]; omega

/-- the cosines; -/
theorem blk5 (t : Fin cfg0.N) (r : Fin 2048) (l : Fin 128) : (iblk m c 5 t : Vec Ideal S2048x128 .f32) (ix2 r l) = V m c main_v48 (ix2 r l) := by
  unfold iblk
  rw [View.read_apply]
  show V m c main_v48 _ = _
  congr 1
  funext a
  apply Fin.ext
  match a with
  | ⟨0, _⟩ => show win0_5.index t 0 * 2048 + 1 * r.val = r.val; rw [(idx5 t).1]; omega
  | ⟨1, _⟩ => show win0_5.index t 1 * 128 + 1 * l.val = l.val; rw [(idx5 t).2]; omega

/-- the signed sines. -/
theorem blk6 (t : Fin cfg0.N) (r : Fin 2048) (l : Fin 128) : (iblk m c 6 t : Vec Ideal S2048x128 .f32) (ix2 r l) = V m c main_v51 (ix2 r l) := by
  unfold iblk
  rw [View.read_apply]
  show V m c main_v51 _ = _
  congr 1
  funext a
  apply Fin.ext
  match a with
  | ⟨0, _⟩ => show win0_6.index t 0 * 2048 + 1 * r.val = r.val; rw [(idx6 t).1]; omega
  | ⟨1, _⟩ => show win0_6.index t 1 * 128 + 1 * l.val = l.val; rw [(idx6 t).2]; omega

/-- The batch and the key head of a point. -/
abbrev batch (t : Fin cfg0.N) : Fin 4 := ⟨t.val / 4, by have := lt16 t; omega⟩
abbrev group (t : Fin cfg0.N) : Fin 2 := ⟨t.val / 2 % 2, Nat.mod_lt _ (by decide)⟩

/-- The keys made of a point's blocks are those of its batch and key head; -/
theorem keysOf_blk (t : Fin cfg0.N) (k : Fin 2048) (d : Fin 128) :
    keysOf (iblk m c 1 t) (iblk m c 4 t) (iblk m c 5 t) (iblk m c 6 t) k d
      = keyAt (V m c main_arg0) (V m c main_v71) (V m c main_v48) (V m c main_v51) (batch t) (group t) k d :=
  rope_congr (fun l => (blk1 m c t k l).trans (congrArg (V m c main_arg0) (congrArg (ix2 _) (Fin.ext (by
      show (32 + t.val / 2 % 2) * 128 + l.val = 4096 + t.val / 2 % 2 * 128 + l.val
      omega))))) (fun l => blk4 m c t 0 l) (fun l => blk5 m c t k l) (fun l => blk6 m c t k l)

/-- and so are the values. -/
theorem valsOf_blk (t : Fin cfg0.N) (k : Fin 2048) (d : Fin 256) :
    valsOf (iblk m c 2 t) k d = valAt (V m c main_arg0) (batch t) (group t) k d := by
  unfold valsOf valAt
  by_cases h : d.val < 128
  · rw [dif_pos h, dif_pos h]
    exact (blk2 m c t k _).trans (congrArg (V m c main_arg0) (congrArg (ix2 _) (Fin.ext (by
      show (34 + t.val / 2 % 2) * 128 + d.val = 4352 + t.val / 2 % 2 * 128 + d.val
      omega))))
  · rw [dif_neg h, dif_neg h]

/-- The output block of a point over the keys and values of its batch and key head is its part of the attention. -/
theorem blockOut_blk (t : Fin cfg0.N) (K : Fin 2048 → Fin 128 → EReal) (W : Fin 2048 → Fin 256 → EReal)
    (hK : ∀ k d, K k d = keyAt (V m c main_arg0) (V m c main_v71) (V m c main_v48) (V m c main_v51) (batch t) (group t) k d)
    (hW : ∀ k d, W k d = valAt (V m c main_arg0) (batch t) (group t) k d) (r : Fin 1024) (l : Fin 512) :
    blockOut (grid0.coords t 2) (iblk m c 0 t) (iblk m c 3 t) (iblk m c 5 t) (iblk m c 6 t) K W r l
      = attnAt (V m c main_arg0) (V m c main_v70) (V m c main_v71) (V m c main_v48) (V m c main_v51)
          ⟨(t.val / 4 * 2 + t.val % 2) * 1024 + r.val, by have := lt16 t; omega⟩ ⟨t.val / 2 % 2 * 512 + l.val, by omega⟩ := by
  have h16 := lt16 t
  have hp : (⟨1024 * (grid0.coords t 2).val + r.val, by have := (grid0.coords t 2).isLt; have : (grid0.coords t 2).val < 2 := this; omega⟩ : Fin 2048)
      = ⟨((t.val / 4 * 2 + t.val % 2) * 1024 + r.val) % 2048, Nat.mod_lt _ (by decide)⟩ := Fin.ext (by
    show 1024 * (grid0.coords t 2).val + r.val = ((t.val / 4 * 2 + t.val % 2) * 1024 + r.val) % 2048
    rw [coord2]
    omega)
  have hb : batch t = ⟨((t.val / 4 * 2 + t.val % 2) * 1024 + r.val) / 2048, by omega⟩ := Fin.ext (by
    show t.val / 4 = ((t.val / 4 * 2 + t.val % 2) * 1024 + r.val) / 2048
    omega)
  have hg : group t = ⟨(t.val / 2 % 2 * 512 + l.val) / 512, by omega⟩ := Fin.ext (by
    show t.val / 2 % 2 = (t.val / 2 % 2 * 512 + l.val) / 512
    omega)
  rw [hb, hg] at hK hW
  refine attn_congr (fun d => ?_) (fun d => blk3 m c t 0 d) (fun d => ?_) (fun d => ?_) hK hW (Fin.ext ?_)
  · refine (blk0 m c t r _).trans (congrArg (V m c main_arg0) (congrArg (ix2 _) (Fin.ext ?_)))
    show (6 + t.val / 2 % 2) * 512 + (l.val / 128 * 128 + d.val) = 3072 + (t.val / 2 % 2 * 512 + l.val) / 128 * 128 + d.val
    omega
  · exact (blk5 m c t _ d).trans (congrArg (fun p => V m c main_v48 (ix2 p d)) hp)
  · exact (blk6 m c t _ d).trans (congrArg (fun p => V m c main_v51 (ix2 p d)) hp)
  · show l.val % 128 = (t.val / 2 % 2 * 512 + l.val) % 128
    omega

/-- The stored keys after a point that fills the scratch. -/
theorem scratch0_A (t : Fin cfg0.N) (h0 : t.val % 2 = 0) (k : Fin 2048) (d : Fin 128) :
    (outsAt0 m c t.val t.isLt).2.1 (ix2 k d)
      = keyAt (V m c main_arg0) (V m c main_v71) (V m c main_v48) (V m c main_v51) (batch t) (group t) k d := by
  rw [outsAt0_A m c t h0]
  unfold sout0_A_0
  dsimp only
  rw [View.read_writes_eq_canon _ _ _ (fun y => scover0_A_0 (F := Ideal) c _ _ _ _ _ _ _ _ _ _ _ _ _ _ _ _ _ _ _ _ _ _ _ _ _ _ _ _ _ y), keys_A]
  exact keysOf_blk m c t k d

/-- The stored values after such a point. -/
theorem scratch1_A (t : Fin cfg0.N) (h0 : t.val % 2 = 0) (k : Fin 2048) (d : Fin 256) :
    (outsAt0 m c t.val t.isLt).2.2 (ix2 k d) = valAt (V m c main_arg0) (batch t) (group t) k d := by
  rw [outsAt0_A m c t h0]
  unfold sout0_A_1
  dsimp only
  rw [View.read_writes_eq_canon _ _ _ (fun y => scover0_A_1 (F := Ideal) c _ _ _ _ _ _ _ _ _ _ _ _ _ _ _ _ _ _ _ _ _ _ _ _ _ _ _ _ _ y), vals_A]
  exact valsOf_blk m c t k d

/-- What every point leaves in its output block. -/
theorem out_eq (t : Fin cfg0.N) (r : Fin 1024) (l : Fin 512) :
    (outsAt0 m c t.val t.isLt).1 (ix2 r l)
      = attnAt (V m c main_arg0) (V m c main_v70) (V m c main_v71) (V m c main_v48) (V m c main_v51)
          ⟨(t.val / 4 * 2 + t.val % 2) * 1024 + r.val, by have := lt16 t; omega⟩ ⟨t.val / 2 % 2 * 512 + l.val, by omega⟩ := by
  by_cases h0 : t.val % 2 = 0
  · rw [outsAt0_A m c t h0]
    dsimp only
    rw [out_A]
    exact blockOut_blk m c t _ _ (fun k d => keysOf_blk m c t k d) (fun k d => valsOf_blk m c t k d) r l
  · have hlt : t.val - 1 < cfg0.N := Nat.lt_of_le_of_lt (Nat.sub_le _ _) t.isLt
    have hb : batch ⟨t.val - 1, hlt⟩ = batch t := Fin.ext (by show (t.val - 1) / 4 = t.val / 4; omega)
    have hg : group ⟨t.val - 1, hlt⟩ = group t := Fin.ext (by show (t.val - 1) / 2 % 2 = t.val / 2 % 2; omega)
    rw [outsAt0_B m c t h0]
    dsimp only
    rw [out_B]
    refine blockOut_blk m c t _ _ (fun k d => ?_) (fun k d => ?_) r l
    · rw [← hb, ← hg]
      exact scratch0_A m c ⟨t.val - 1, hlt⟩ (by show (t.val - 1) % 2 = 0; omega) k d
    · rw [← hb, ← hg]
      exact scratch1_A m c ⟨t.val - 1, hlt⟩ (by show (t.val - 1) % 2 = 0; omega) k d

/-- A point's block of an array of the result's shape, read at an index. -/
theorem read7 (G : Vec Ideal S8192x1024 .f32) (t : Fin cfg0.N) (r : Fin 1024) (l : Fin 512) :
    (((cfg0.win 7).blk t).view.read (Elt Ideal) G : Vec Ideal S1024x512 .f32) (ix2 r l)
      = G (ix2 ⟨(t.val / 4 * 2 + t.val % 2) * 1024 + r.val, by have := lt16 t; omega⟩ ⟨t.val / 2 % 2 * 512 + l.val, by omega⟩) := by
  rw [View.read_apply]
  show G _ = _
  congr 1
  funext a
  apply Fin.ext
  match a with
  | ⟨0, _⟩ => show win0_7.index t 0 * 1024 + 1 * r.val = _; rw [(idx7 t).1, Nat.one_mul]; rfl
  | ⟨1, _⟩ => show win0_7.index t 1 * 512 + 1 * l.val = _; rw [(idx7 t).2, Nat.one_mul]; rfl

/-- The attention as an array. -/
def attnArray (X : Vec Ideal S8192x9216 .f32) (gq gk : Vec Ideal S1x128 .f32) (cs sn : Vec Ideal S2048x128 .f32) : Vec Ideal S8192x1024 .f32 :=
  fun y => attnAt X gq gk cs sn (y 0) (y 1)

theorem attnArray_apply (X : Vec Ideal S8192x9216 .f32) (gq gk : Vec Ideal S1x128 .f32) (cs sn : Vec Ideal S2048x128 .f32) (row : Fin 8192) (col : Fin 1024) :
    attnArray X gq gk cs sn (ix2 row col) = attnAt X gq gk cs sn row col := rfl

/-- So what a point writes back is its block of the attention. -/
theorem flushed_eq (t : Fin cfg0.N) : (dats m 0 c).flushed 7 t = ((cfg0.win 7).blk t).view.read (Elt Ideal)
    (attnArray (V m c main_arg0) (V m c main_v70) (V m c main_v71) (V m c main_v48) (V m c main_v51)) := by
  rw [flushed7]
  generalize hG : attnArray (V m c main_arg0) (V m c main_v70) (V m c main_v71) (V m c main_v48) (V m c main_v51) = G
  have key : ∀ (r : Fin 1024) (l : Fin 512), (outsAt0 m c t.val t.isLt).1 (ix2 r l) = (((cfg0.win 7).blk t).view.read (Elt Ideal) G : Vec Ideal S1024x512 .f32) (ix2 r l) := by
    intro r l
    rw [read7, ← hG, attnArray_apply]
    exact out_eq m c t r l
  generalize (outsAt0 m c t.val t.isLt).1 = O at key ⊢
  funext y
  have hy : (y : S1024x512.Idx) = ix2 (y 0) (y 1) := by funext k; fin_cases k <;> rfl
  rw [hy]
  exact key (y 0) (y 1)

/-- The array at the end: the attention at every row and column. -/
theorem array_eq : (dats m 0 c).arrAt 7 cfg0.N =
    attnArray (V m c main_arg0) (V m c main_v70) (V m c main_v71) (V m c main_v48) (V m c main_v51) := by
  refine (dats m 0 c).arrAt_eq_of_cover 7 (attnArray (V m c main_arg0) (V m c main_v70) (V m c main_v71)
    (V m c main_v48) (V m c main_v51)) (fun t _ => flushed_eq m c t) (fun (i : S8192x1024.Idx) => ?_)
  · have h0 : (i 0 : Nat) < 8192 := (i 0).isLt
    have h1 : (i 1 : Nat) < 1024 := (i 1).isLt
    let t : Fin cfg0.N := ⟨(i 0 : Nat) / 2048 * 4 + (i 1 : Nat) / 512 * 2 + (i 0 : Nat) / 1024 % 2, (by omega : _ < 16).trans_eq (show 16 = cfg0.N from N_0.symm)⟩
    have ht : t.val = (i 0 : Nat) / 2048 * 4 + (i 1 : Nat) / 512 * 2 + (i 0 : Nat) / 1024 % 2 := rfl
    refine ⟨t, flush0_7 t, ?_⟩
    show i ∈ ((View.whole main_v72).slice (win0_7.rect t)).set
    rw [View.set_slice_whole, Rect.mem_set_unit]
    intro a
    match a with
    | ⟨0, _⟩ =>
      show win0_7.index t 0 * 1024 ≤ (i 0 : Nat) ∧ (i 0 : Nat) < win0_7.index t 0 * 1024 + 1024
      rw [(idx7 t).1, ht]
      omega
    | ⟨1, _⟩ =>
      show win0_7.index t 1 * 512 ≤ (i 1 : Nat) ∧ (i 1 : Nat) < win0_7.index t 1 * 512 + 512
      rw [(idx7 t).2, ht]
      omega

end

end Cert.MixerB

end
-- ==== Proof.Tables.lean ====
/- The rotary tables and the gains as the kernel's launch finds them: what the lines before the launch compute. -/
module

public import proofs.«01_k».proof.Proof.Gen.KernelIdeal.Value
public import Idealize.ShloMosaic.Lib.Pointwise

@[expose] public section

set_option maxRecDepth 16384

noncomputable section

namespace Cert.MixerB

open Cert.KernelIdeal Cert.KernelIdeal.Gen Cert.KernelIdeal.Value Idealize.ShloMosaic Idealize.ShloMosaic.TcCoe Idealize.SL.Sem Idealize.ShloMosaic.Tactic
open Idealize.ShloMosaic.StableHlo

/-- Position `p`'s row on the grid of width 64: `p // 64`, as the host's floor division computes it. -/
def gridRow : Vec Ideal S2048 .i32 :=
  select
    (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

/-- The divisor of the host's remainder: 64, or 1 were it 0. -/
def gridWidth : Vec Ideal S_ .i32 :=
  select (cmpi .eq (id (constantI S_ 32 64#32)) (constantI S_ 32 0#32)) (constantI S_ 32 1#32) (id (constantI S_ 32 64#32))

/-- Position `p`'s column on that grid: `p % 64`. -/
def gridCol : Vec Ideal S2048 .i32 :=
  select
    (andi
      (cmpi .ne
        (cmpi .slt (Host.remsi (iotaInDim S2048 32 0) (broadcastInDim S2048 ![] bcast_S_S2048 gridWidth))
          (broadcastInDim S2048 ![] bcast_S_S2048 (constantI S_ 32 0#32)))
        (broadcastInDim S2048 ![] bcast_S_S2048 (cmpi .slt gridWidth (constantI S_ 32 0#32))))
      (cmpi .ne (Host.remsi (iotaInDim S2048 32 0) (broadcastInDim S2048 ![] bcast_S_S2048 gridWidth))
        (broadcastInDim S2048 ![] bcast_S_S2048 (constantI S_ 32 0#32))))
    (addi (Host.remsi (iotaInDim S2048 32 0) (broadcastInDim S2048 ![] bcast_S_S2048 gridWidth)) (broadcastInDim S2048 ![] bcast_S_S2048 gridWidth))
    (Host.remsi (iotaInDim S2048 32 0) (broadcastInDim S2048 ![] bcast_S_S2048 gridWidth))

/-- The angles of the positions `t`: `t[p] * 10000 ** (-j / 32)`. -/
def angles (t : Vec Ideal S2048 .i32) : FVec Ideal S2048x32 .f32 :=
  mulf
    (broadcastInDim S2048x32 ![0, 1] bcast_S2048x1_S2048x32_0_1 (broadcastInDim S2048x1 ![0] bcast_S2048_S2048x1_0 (sitofp FTy.f32 t)))
    (broadcastInDim S2048x32 ![0, 1] bcast_S1x32_S2048x32_0_1
      (broadcastInDim S1x32 ![1] bcast_S32_S1x32_1
        (Host.powf (broadcastInDim S32 ![] bcast_S_S32 (constant S_ FTy.f32 0x461C4000#32))
          (Host.divf (Host.negf (sitofp FTy.f32 (iotaInDim S32 32 0))) (broadcastInDim S32 ![] bcast_S_S32 (constant S_ FTy.f32 0x42000000#32))))))

/-- The angle of position `p` at lane `d`: the row's in the lanes below 64, the column's in the others. -/
def angle (p : Fin 2048) (d : Fin 128) : EReal :=
  if d.val < 64 then angles gridRow (ix2 p ⟨d.val % 32, by omega⟩) else angles gridCol (ix2 p ⟨d.val % 32, by omega⟩)

/-- The table of cosines. -/
def cosAt (p : Fin 2048) (d : Fin 128) : EReal := Ideal.cos (angle p d)

/-- The table of sines, with the sign of the rotation's first half. -/
def sinAt (p : Fin 2048) (d : Fin 128) : EReal := if d.val % 64 < 32 then - Ideal.sin (angle p d) else Ideal.sin (angle p d)

/-- Four arrays side by side. -/
def concat4 (a b c d : FVec Ideal S2048x32 .f32) : Vec Ideal S2048x128 .f32 :=
  concatenate S2048x128 1 [⟨S2048x32, a⟩, ⟨S2048x32, b⟩, ⟨S2048x32, c⟩, ⟨S2048x32, d⟩] concatenates_S2048x32_S2048x32_S2048x32_S2048x32_S2048x128_d1

/-- They depend only on the arrays. -/
theorem concat4_congr {a b c d a' b' c' d' : FVec Ideal S2048x32 .f32} (ha : a = a') (hb : b = b') (hc : c = c') (hd : d = d') :
    concat4 a b c d = concat4 a' b' c' d' := by
  rw [ha, hb, hc, hd]

section
variable (m : (ℓ : Loc nD τ sig) → Buf (Elt Ideal) ℓ) (c : Dev nD)

set_option maxHeartbeats 4000000 in
/-- The cosines the launch finds. -/
theorem cosTable : (V m c main_v48 : Vec Ideal S2048x128 .f32)
    = concat4 (Host.cos (angles gridRow)) (Host.cos (angles gridRow)) (Host.cos (angles gridCol)) (Host.cos (angles gridCol)) := by
  dsimp only [V]
  simp only [hostOps0, hostOps0_1, hostOps0_2, hostOps0_3, hostOps0_4, List.flatten_cons, List.flatten_nil, List.append_nil, List.cons_append, List.nil_append,
    TRef.binary, TRef.unary, TRef.nullary, TRef.ternary, TRef.toBuf, TRef.ofBuf, cast_eq]
  after_results_simp
  refine concat4_congr ?_ ?_ ?_ ?_
  all_goals
    try after_results_simp
    rfl

set_option maxHeartbeats 4000000 in
/-- The signed sines the launch finds. -/
theorem sinTable : (V m c main_v51 : Vec Ideal S2048x128 .f32)
    = concat4 (Host.negf (Host.sin (angles gridRow))) (Host.sin (angles gridRow)) (Host.negf (Host.sin (angles gridCol))) (Host.sin (angles gridCol)) := by
  dsimp only [V]
  simp only [hostOps0, hostOps0_1, hostOps0_2, hostOps0_3, hostOps0_4, List.flatten_cons, List.flatten_nil, List.append_nil, List.cons_append, List.nil_append,
    TRef.binary, TRef.unary, TRef.nullary, TRef.ternary, TRef.toBuf, TRef.ofBuf, cast_eq]
  after_results_simp
  refine concat4_congr ?_ ?_ ?_ ?_
  all_goals
    try after_results_simp
    rfl

/-- The query gain the launch finds: the argument as one row; -/
theorem gainQ : (V m c main_v70 : Vec Ideal S1x128 .f32) = shapeCast S1x128 (m ((c : Thread nD τ).loc main_arg1) : Vec Ideal S128 .f32) shapeCasts_S128_S1x128 := by
  dsimp only [V]
  simp only [hostOps0, hostOps0_1, hostOps0_2, hostOps0_3, hostOps0_4, List.flatten_cons, List.flatten_nil, List.append_nil, List.cons_append, List.nil_append,
    TRef.binary, TRef.unary, TRef.nullary, TRef.ternary, TRef.toBuf, TRef.ofBuf, cast_eq]
  after_results_simp
  rfl

/-- and the key gain. -/
theorem gainK : (V m c main_v71 : Vec Ideal S1x128 .f32) = shapeCast S1x128 (m ((c : Thread nD τ).loc main_arg2) : Vec Ideal S128 .f32) shapeCasts_S128_S1x128 := by
  dsimp only [V]
  simp only [hostOps0, hostOps0_1, hostOps0_2, hostOps0_3, hostOps0_4, List.flatten_cons, List.flatten_nil, List.append_nil, List.cons_append, List.nil_append,
    TRef.binary, TRef.unary, TRef.nullary, TRef.ternary, TRef.toBuf, TRef.ofBuf, cast_eq]
  after_results_simp
  rfl

/-- The cosines at an index; -/
theorem cosTable_apply (p : Fin 2048) (d : Fin 128) : (V m c main_v48 : Vec Ideal S2048x128 .f32) (ix2 p d) = cosAt p d := by
  rw [cosTable]
  pointwise [concat4]
  unfold cosAt angle
  have e : ∀ (t : Vec Ideal S2048 .i32) (j : ℕ) (hj : j < 32), j = d.val % 32 →
      angles t (ix2 p ⟨j, hj⟩) = angles t (ix2 p ⟨d.val % 32, Nat.mod_lt _ (by decide)⟩) := fun t j hj h => by
    subst h
    rfl
  by_cases h1 : d.val < 32
  · exact (dif_pos h1).trans (congrArg Ideal.cos ((e _ _ _ (by omega)).trans (if_pos (by omega)).symm))
  refine (dif_neg h1).trans ?_
  by_cases h2 : d.val - 32 < 32
  · exact (dif_pos h2).trans (congrArg Ideal.cos ((e _ _ _ (by omega)).trans (if_pos (by omega)).symm))
  refine (dif_neg h2).trans ?_
  by_cases h3 : d.val - 32 - 32 < 32
  · exact (dif_pos h3).trans (congrArg Ideal.cos ((e _ _ _ (by omega)).trans (if_neg (by omega)).symm))
  · exact (dif_neg h3).trans (congrArg Ideal.cos ((e _ _ _ (by omega)).trans (if_neg (by omega)).symm))

/-- the signed sines; -/
theorem sinTable_apply (p : Fin 2048) (d : Fin 128) : (V m c main_v51 : Vec Ideal S2048x128 .f32) (ix2 p d) = sinAt p d := by
  rw [sinTable]
  pointwise [concat4]
  unfold sinAt angle
  have e : ∀ (t : Vec Ideal S2048 .i32) (j : ℕ) (hj : j < 32), j = d.val % 32 →
      angles t (ix2 p ⟨j, hj⟩) = angles t (ix2 p ⟨d.val % 32, Nat.mod_lt _ (by decide)⟩) := fun t j hj h => by
    subst h
    rfl
  by_cases h1 : d.val < 32
  · exact ((dif_pos h1).trans (congrArg (fun z => - Ideal.sin z) ((e _ _ _ (by omega)).trans (if_pos (by omega)).symm))).trans (if_pos (by omega)).symm
  refine (dif_neg h1).trans ?_
  by_cases h2 : d.val - 32 < 32
  · exact ((dif_pos h2).trans (congrArg Ideal.sin ((e _ _ _ (by omega)).trans (if_pos (by omega)).symm))).trans (if_neg (by omega)).symm
  refine (dif_neg h2).trans ?_
  by_cases h3 : d.val - 32 - 32 < 32
  · exact ((dif_pos h3).trans (congrArg (fun z => - Ideal.sin z) ((e _ _ _ (by omega)).trans (if_neg (by omega)).symm))).trans (if_pos (by omega)).symm
  · exact ((dif_neg h3).trans (congrArg Ideal.sin ((e _ _ _ (by omega)).trans (if_neg (by omega)).symm))).trans (if_neg (by omega)).symm

/-- the query gain; -/
theorem gainQ_apply (d : Fin 128) : (V m c main_v70 : Vec Ideal S1x128 .f32) (ix2 0 d) = (m ((c : Thread nD τ).loc main_arg1) : Vec Ideal S128 .f32) (ix1 d) := by
  rw [gainQ]
  pointwise []

/-- the key gain. -/
theorem gainK_apply (d : Fin 128) : (V m c main_v71 : Vec Ideal S1x128 .f32) (ix2 0 d) = (m ((c : Thread nD τ).loc main_arg2) : Vec Ideal S128 .f32) (ix1 d) := by
  rw [gainK]
  pointwise []

end

/-- Every angle is real. -/
theorem angles_real (t : Vec Ideal S2048 .i32) (p : Fin 2048) (j : Fin 32) : ∃ a : ℝ, angles t (ix2 p j) = (a : EReal) := by
  unfold angles
  pointwise []
  have h1 : Ideal.ofBits .f32 0x461C4000#32 = ((10000 : ℝ) : EReal) := by
    simp [Ideal.ofBits, Ideal.ieee, -EReal.coe_mul]; norm_num
  have h2 : Ideal.ofBits .f32 0x42000000#32 = ((32 : ℝ) : EReal) := by
    simp [Ideal.ofBits, Ideal.ieee, -EReal.coe_mul]; norm_num
  have h3 : ∀ x : BitVec 32, (FloatOps.sitofp FTy.f32 x : Ideal .f32) = ((x.toInt : ℝ) : EReal) := fun _ => rfl
  rw [h1, h2, h3, h3, ← EReal.coe_neg, Ideal.div_coe (by norm_num), ← EReal.coe_mul, Ideal.pow_coe_coe, ← EReal.coe_mul]
  exact ⟨_, rfl⟩

end Cert.MixerB

end
-- ==== Proof.Row.lean ====
/- The mathematics of one row: the norm leaves real numbers whatever the entries, and the kernel's form of the softmax average
   is the reference's. -/
module

public import proofs.«01_k».proof.Proof.Chunk

@[expose] public section

set_option maxRecDepth 16384

noncomputable section

namespace Cert.MixerB

open Cert.KernelIdeal Idealize.ShloMosaic

/-! ## Numbers written in the programs -/

theorem word128 : Ideal.ofBits .f32 0x43000000#32 = ((128 : ℝ) : EReal) := by
  simp [Ideal.ofBits, Ideal.ieee, -EReal.coe_mul]; norm_num

theorem wordEps : Ideal.ofBits .f32 0x358637BD#32 = ((8796093 / 8796093022208 : ℝ) : EReal) := by
  simp [Ideal.ofBits, Ideal.ieee, -EReal.coe_mul]; norm_num

/-- The factor of the scores, as a 32-bit float has it. -/
theorem wordScale : Ideal.ofBits .f32 0x3DB504F3#32 = ((11863283 / 134217728 : ℝ) : EReal) := by
  simp [Ideal.ofBits, Ideal.ieee, -EReal.coe_mul]; norm_num

/-- A sum of real numbers. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ## The norm -/

/-- A square is not negative. -/
theorem sq_nonneg' (x : EReal) : 0 ≤ x * x := by
  induction x using EReal.rec with
  | bot => simp
  | top => simp
  | coe r => rw [← EReal.coe_mul]; exact_mod_cast mul_self_nonneg r

/-- An entry times the reciprocal root of its row's mean square is a real number: where an entry is infinite, the mean is and
    the reciprocal root is zero. -/
theorem unit_real (x : Fin 128 → EReal) (d : Fin 128) : ∃ r : ℝ, x d * rowInv x = (r : EReal) := by
  unfold rowInv
  show ∃ r : ℝ, x d * Ideal.rsqrt (Ideal.div (∑ d, x d * x d) (Ideal.ofBits .f32 0x43000000#32) + Ideal.ofBits .f32 0x358637BD#32) = (r : EReal)
  rw [word128, wordEps, Ideal.div_coe (by norm_num : (128 : ℝ) ≠ 0)]
  by_cases hx : ∀ e, ∃ r : ℝ, x e = (r : EReal)
  · choose y hy using hx
    have hs : ∑ d, x d * x d = ((∑ d, y d * y d : ℝ) : EReal) := by
      rw [coe_sum]
      exact Finset.sum_congr rfl fun e _ => by rw [hy e, EReal.coe_mul]
    have hp : 0 < (∑ d, y d * y d) * (1 / 128) + 8796093 / 8796093022208 := by
      have : 0 ≤ ∑ d, y d * y d := Finset.sum_nonneg fun e _ => mul_self_nonneg (y e)
      positivity
    rw [hs, ← EReal.coe_mul, ← EReal.coe_add, Ideal.rsqrt_coe, if_neg (not_lt.2 hp.le), if_neg hp.ne', hy d, ← EReal.coe_mul]
    exact ⟨_, rfl⟩
  · obtain ⟨e, he⟩ := not_forall.1 hx
    have hsq : x e * x e = ⊤ := by
      induction h : x e using EReal.rec with
      | bot => simp
      | top => simp
      | coe r => exact absurd ⟨r, h⟩ he
    have hs : ∑ d, x d * x d = ⊤ := top_le_iff.1 (hsq ▸ Finset.single_le_sum (f := fun d => x d * x d) (fun i _ => sq_nonneg' (x i)) (Finset.mem_univ e))
    rw [hs, EReal.top_mul_coe_of_pos (by norm_num), EReal.top_add_coe, Ideal.rsqrt_top, mul_zero]
    exact ⟨0, rfl⟩

/-- A normed and rotated row is real where the gains and the tables are. -/
theorem rope_real (x g c s : Fin 128 → EReal) (hg : ∀ d, ∃ r : ℝ, g d = (r : EReal)) (hc : ∀ d, ∃ r : ℝ, c d = (r : EReal))
    (hs : ∀ d, ∃ r : ℝ, s d = (r : EReal)) (d : Fin 128) : ∃ r : ℝ, rowRope x g c s d = (r : EReal) := by
  obtain ⟨u, hu⟩ := unit_real x d
  obtain ⟨u', hu'⟩ := unit_real x (swapLane d)
  obtain ⟨a, ha⟩ := hg d
  obtain ⟨a', ha'⟩ := hg (swapLane d)
  obtain ⟨b, hb⟩ := hc d
  obtain ⟨e, he⟩ := hs d
  refine ⟨u * a * b + u' * a' * e, ?_⟩
  unfold rowRope rowNorm
  rw [hu, hu', ha, ha', hb, he]
  simp only [EReal.coe_add, EReal.coe_mul]

/-- So are the scores of real rows. -/
theorem score_real (q : Fin 128 → EReal) (K : Fin 2048 → Fin 128 → EReal) (hq : ∀ d, ∃ r : ℝ, q d = (r : EReal))
    (hK : ∀ k d, ∃ r : ℝ, K k d = (r : EReal)) (k : Fin 2048) : ∃ r : ℝ, rowScore q K k = (r : EReal) := by
  choose a ha using hq
  choose b hb using hK k
  refine ⟨∑ d, a d * b d, ?_⟩
  unfold rowScore
  rw [coe_sum]
  exact Finset.sum_congr rfl fun d _ => by rw [ha, hb, EReal.coe_mul]

/-! ## The average -/

/-- A positive real factor distributes over a sum, whatever its terms. -/
theorem sum_mul_pos {ι : Type} (s : Finset ι) (f : ι → EReal) (a : ℝ) (h : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi, EReal.right_distrib_of_nonneg_of_ne_top (by exact_mod_cast h) (EReal.coe_ne_top a), ih]

/-- The largest of real numbers is one of them. -/
theorem max_real (r : Fin 2048 → ℝ) : ∃ k₀, (∀ k, r k ≤ r k₀) ∧ ∀ a : ℝ, 0 ≤ a →
    Finset.univ.fold max (⊥ : EReal) (fun k => (r k : EReal) * (a : EReal)) = ((r k₀ * a : ℝ) : EReal) := by
  obtain ⟨k₀, _, h⟩ := Finset.exists_max_image Finset.univ r ⟨0, Finset.mem_univ 0⟩
  refine ⟨k₀, fun k => h k (Finset.mem_univ k), fun a ha => ?_⟩
  refine le_antisymm ?_ ?_
  · refine Finset.fold_max_le _ |>.2 ⟨bot_le, fun k _ => ?_⟩
    rw [← EReal.coe_mul]
    exact_mod_cast mul_le_mul_of_nonneg_right (h k (Finset.mem_univ k)) ha
  · exact Finset.le_fold_max _ |>.2 (Or.inr ⟨k₀, Finset.mem_univ _, by rw [EReal.coe_mul]⟩)

/-- One row of the reference: the scores times the factor, the softmax over the keys, and the average of the values. -/
def refScore (q : Fin 128 → EReal) (K : Fin 2048 → Fin 128 → EReal) (k : Fin 2048) : EReal :=
  rowScore q K k * Ideal.ofBits .f32 0x3DB504F3#32

def refExp (q : Fin 128 → EReal) (K : Fin 2048 → Fin 128 → EReal) (k : Fin 2048) : EReal :=
  Ideal.exp (refScore q K k - max ⊥ (Finset.univ.fold max ⊥ (refScore q K)))

def refAttn (q : Fin 128 → EReal) (K : Fin 2048 → Fin 128 → EReal) (v : Fin 2048 → EReal) : EReal :=
  ∑ k, Ideal.div (refExp q K k) (∑ j, refExp q K j) * v k

/-- The name's value: the factor over the logarithm of two. -/
theorem scale_named : Named.named (F := Ideal) κ (φ := .f32) "scale_log2e" 0x3E0293EE#32 = (((11863283 / 134217728) * (Real.log 2)⁻¹ : ℝ) : EReal) :=
  IdealRules.named_const.ideal_named_scalar _ _ _ _ rfl

/-- The kernel's row is the reference's, for real queries and keys and any values. -/
theorem row_eq (q : Fin 128 → EReal) (K : Fin 2048 → Fin 128 → EReal) (V : Fin 2048 → Fin 256 → EReal) (v : Fin 2048 → EReal) (d : Fin 128)
    (hq : ∀ d, ∃ r : ℝ, q d = (r : EReal)) (hK : ∀ k d, ∃ r : ℝ, K k d = (r : EReal))
    (hV : ∀ k, V k ⟨d.val, by omega⟩ = v k) (hV1 : ∀ k, V k ⟨128 + d.val, by omega⟩ = 1) :
    rowAttn q K V d = refAttn q K v := by
  choose r hr using score_real q K hq hK
  obtain ⟨k₀, hk, hmax⟩ := max_real r
  have hl : Real.log 2 ≠ 0 := (Real.log_pos (by norm_num)).ne'
  have hw : ∀ k, rowWeight q K k = ((Real.exp ((r k - r k₀) * (11863283 / 134217728)) : ℝ) : EReal) := fun k => by
    have h1 : Finset.univ.fold max ⊥ (rowScore q K) = ((r k₀ : ℝ) : EReal) := by
      have := hmax 1 zero_le_one
      simp only [EReal.coe_one, mul_one] at this
      rw [← this]
      exact congrArg (Finset.univ.fold max ⊥) (funext hr)
    unfold rowWeight
    rw [scale_named, h1, hr, ← EReal.coe_sub, ← EReal.coe_mul, Ideal.exp2_coe]
    refine congrArg _ ?_
    rw [Real.rpow_eq_pow, Real.rpow_def_of_pos (by norm_num)]
    refine congrArg _ ?_
    field_simp
  have he : ∀ k, refExp q K k = ((Real.exp ((r k - r k₀) * (11863283 / 134217728)) : ℝ) : EReal) := fun k => by
    have hs : refScore q K = fun k => (r k : EReal) * ((11863283 / 134217728 : ℝ) : EReal) := funext fun k => by
      unfold refScore
      rw [wordScale, hr]
    unfold refExp
    rw [hs, hmax _ (by norm_num), max_eq_right bot_le]
    dsimp only
    rw [← EReal.coe_mul, ← EReal.coe_sub, Ideal.exp_coe, ← sub_mul]
  set u : Fin 2048 → ℝ := fun k => Real.exp ((r k - r k₀) * (11863283 / 134217728)) with hu
  have hL : 0 < ∑ k, u k := Finset.sum_pos (fun k _ => Real.exp_pos _) ⟨0, Finset.mem_univ 0⟩
  have hsum : (∑ k, (u k : EReal)) = ((∑ k, u k : ℝ) : EReal) := (coe_sum _ _).symm
  unfold rowAttn refAttn
  simp only [hw, he, hV, hV1, mul_one]
  rw [show (∑ k, ((Real.exp ((r k - r k₀) * (11863283 / 134217728)) : ℝ) : EReal)) = ((∑ k, u k : ℝ) : EReal) from hsum]
  simp only [Ideal.div_coe hL.ne']
  rw [sum_mul_pos _ _ _ (one_div_pos.2 hL).le]
  exact Finset.sum_congr rfl fun k _ => by rw [mul_assoc, mul_comm (v k), ← mul_assoc]

end Cert.MixerB
-- ==== Proof.Reference.lean ====
/- What the reference computes: its own lines as functions of the projection and the gains, and their values at an index. -/
module

public import proofs.«01_k».proof.Proof.Tables
public import proofs.«01_k».proof.Proof.Row
public import proofs.«01_k».proof.Proof.Gen.ReferenceIdeal.Run

@[expose] public section

set_option maxRecDepth 16384

noncomputable section

namespace Cert.MixerB

open Cert.ReferenceIdeal Cert.ReferenceIdeal.Gen Cert.ReferenceIdeal.Value Idealize.ShloMosaic Idealize.ShloMosaic.TcCoe Idealize.SL.Sem

/-! ## The rotation -/

/-- Rotation of 64 lanes by 32 angles: lane `j` pairs with lane `j + 32`. -/
def halfRot (z : Fin 64 → EReal) (a : Fin 32 → EReal) (j : Fin 64) : EReal :=
  if j.val < 32 then z j * Ideal.cos (a ⟨j.val % 32, Nat.mod_lt _ (by decide)⟩) - z ⟨(j.val + 32) % 64, Nat.mod_lt _ (by decide)⟩ * Ideal.sin (a ⟨j.val % 32, Nat.mod_lt _ (by decide)⟩)
  else z j * Ideal.cos (a ⟨j.val % 32, Nat.mod_lt _ (by decide)⟩) + z ⟨(j.val + 32) % 64, Nat.mod_lt _ (by decide)⟩ * Ideal.sin (a ⟨j.val % 32, Nat.mod_lt _ (by decide)⟩)

/-- Rotating the two halves of a row, one by the row's and one by the column's angles, is rotating it by the tables. -/
theorem halves_eq (y : Fin 128 → EReal) (p : Fin 2048) (d : Fin 128) :
    (if h : d.val < 64 then halfRot (fun j => y ⟨j.val, by omega⟩) (fun j => angles gridRow (ix2 p j)) ⟨d.val, h⟩
      else halfRot (fun j => y ⟨64 + j.val, by omega⟩) (fun j => angles gridCol (ix2 p j)) ⟨d.val - 64, by omega⟩)
      = y d * cosAt p d + y (swapLane d) * sinAt p d := by
  have hy : ∀ i j : Fin 128, i.val = j.val → y i = y j := fun i j h => congrArg y (Fin.ext h)
  have ha : ∀ (t : Vec Ideal Cert.KernelIdeal.S2048 .i32) (i j : Fin 32), i.val = j.val → angles t (ix2 p i) = angles t (ix2 p j) :=
    fun t i j h => congrArg (fun k => angles t (ix2 p k)) (Fin.ext h)
  unfold cosAt sinAt angle swapLane halfRot
  by_cases h1 : d.val < 64
  · rw [dif_pos h1, if_pos h1]
    by_cases h2 : d.val < 32
    · rw [if_pos h2, if_pos (show d.val % 64 < 32 by omega), if_pos (show d.val % 64 < 32 by omega), sub_eq_add_neg, mul_neg]
      refine congrArg₂ (fun a b => a + -(b * _)) rfl (hy _ _ ?_)
      show (d.val + 32) % 64 = (d.val + 32) % 128
      omega
    · rw [if_neg h2, if_neg (show ¬ d.val % 64 < 32 by omega), if_neg (show ¬ d.val % 64 < 32 by omega)]
      refine congrArg₂ (fun a b => a + b * _) rfl (hy _ _ ?_)
      show (d.val + 32) % 64 = (d.val + 96) % 128
      omega
  · rw [dif_neg h1, if_neg h1]
    dsimp only
    have e0 : ∀ h, y ⟨64 + (d.val - 64), h⟩ = y d := fun h => hy _ _ (show 64 + (d.val - 64) = d.val by omega)
    have e1 : ∀ h, angles gridCol (ix2 p ⟨(d.val - 64) % 32, h⟩) = angles gridCol (ix2 p ⟨d.val % 32, Nat.mod_lt _ (by decide)⟩) :=
      fun h => ha _ _ _ (show (d.val - 64) % 32 = d.val % 32 by omega)
    by_cases h2 : d.val - 64 < 32
    · rw [if_pos h2, if_pos (show d.val % 64 < 32 by omega), if_pos (show d.val % 64 < 32 by omega), sub_eq_add_neg, mul_neg, e0, e1]
      refine congrArg (fun b => _ + -(b * _)) (hy _ _ ?_)
      show 64 + (d.val - 64 + 32) % 64 = (d.val + 32) % 128
      omega
    · rw [if_neg h2, if_neg (show ¬ d.val % 64 < 32 by omega), if_neg (show ¬ d.val % 64 < 32 by omega), e0, e1]
      refine congrArg (fun b => _ + b * _) (hy _ _ ?_)
      show 64 + (d.val - 64 + 32) % 64 = (d.val + 96) % 128
      omega

/-- The two ways of writing the rotation of one half: by the quarters' own lanes, or by the half's. -/
theorem halves_join (z : Fin 64 → EReal) (a : Fin 32 → EReal) (j : Fin 64) :
    (if h : j.val < 32 then z ⟨j.val, by omega⟩ * Ideal.cos (a ⟨j.val, h⟩) - z ⟨32 + j.val, by omega⟩ * Ideal.sin (a ⟨j.val, h⟩)
      else z ⟨32 + (j.val - 32), by omega⟩ * Ideal.cos (a ⟨j.val - 32, by omega⟩) + z ⟨j.val - 32, by omega⟩ * Ideal.sin (a ⟨j.val - 32, by omega⟩))
      = halfRot z a j := by
  have hz : ∀ (i j : ℕ) (hi : i < 64) (hj : j < 64), i = j → z ⟨i, hi⟩ = z ⟨j, hj⟩ := fun i j hi hj e => by subst e; rfl
  have ha : ∀ (i j : ℕ) (hi : i < 32) (hj : j < 32), i = j → a ⟨i, hi⟩ = a ⟨j, hj⟩ := fun i j hi hj e => by subst e; rfl
  unfold halfRot
  by_cases h1 : j.val < 32
  · refine (dif_pos h1).trans (Eq.trans ?_ (if_pos h1).symm)
    exact congrArg₂ (· - ·) (congrArg₂ (· * ·) (hz _ _ _ _ (by omega)) (congrArg Ideal.cos (ha _ _ _ _ (by omega))))
      (congrArg₂ (· * ·) (hz _ _ _ _ (by omega)) (congrArg Ideal.sin (ha _ _ _ _ (by omega))))
  · refine (dif_neg h1).trans (Eq.trans ?_ (if_neg h1).symm)
    exact congrArg₂ (· + ·) (congrArg₂ (· * ·) (hz _ _ _ _ (by omega)) (congrArg Ideal.cos (ha _ _ _ _ (by omega))))
      (congrArg₂ (· * ·) (hz _ _ _ _ (by omega)) (congrArg Ideal.sin (ha _ _ _ _ (by omega))))

/-! ## Queries -/

/-- The projection, batch by batch. -/
def batched (X : FVec Ideal S8192x9216 .f32) : FVec Ideal S4x2048x9216 .f32 := shapeCast _ X shapeCasts_S8192x9216_S4x2048x9216

/-- The query heads of the projection. -/
def qHeads (X : FVec Ideal S8192x9216 .f32) : FVec Ideal S4x8x2048x128 .f32 :=
  transpose S4x8x2048x128 [0, 2, 1, 3] (shapeCast _ (extractStridedSlice S4x2048x1024 ![0, 0, 3072] (batched X) slices_S4x2048x9216_S4x2048x1024_0_0_3072) shapeCasts_S4x2048x1024_S4x2048x8x128) transposes_S4x2048x8x128_S4x8x2048x128_0_2_1_3

/-- The norm of the query heads, with their gain. -/
def qNorm (Y : FVec Ideal S4x8x2048x128 .f32) (g : FVec Ideal S128 .f32) : FVec Ideal S4x8x2048x128 .f32 :=
  mulf (mulf Y (broadcastInDim S4x8x2048x128 ![0, 1, 2, 3] bcast_S4x8x2048x1_S4x8x2048x128_0_1_2_3 (Host.rsqrt (addf (Host.divf (broadcastInDim S4x8x2048x1 ![0, 1, 2] bcast_S4x8x2048_S4x8x2048x1_0_1_2 (Host.reduceAdd (mulf Y Y) (constant S_ .f32 0x00000000#32) reducesTo_S4x8x2048x128_S4x8x2048_d3 h_S_)) (broadcastInDim S4x8x2048x1 ![] bcast_S_S4x8x2048x1 (constant S_ .f32 0x43000000#32))) (broadcastInDim S4x8x2048x1 ![] bcast_S_S4x8x2048x1 (constant S_ .f32 0x358637BD#32)))))) (broadcastInDim S4x8x2048x128 ![0, 1, 2, 3] bcast_S1x1x1x128_S4x8x2048x128_0_1_2_3 (broadcastInDim S1x1x1x128 ![3] bcast_S128_S1x1x1x128_3 g))

/-- The rotation of half of the query lanes. -/
def qHalf (Z : FVec Ideal S4x8x2048x64 .f32) (a : FVec Ideal S2048x32 .f32) : FVec Ideal S4x8x2048x64 .f32 :=
  have z1 : FVec Ideal S4x8x2048x32 .f32 := extractStridedSlice S4x8x2048x32 ![0, 0, 0, 0] Z slices_S4x8x2048x64_S4x8x2048x32_0_0_0_0
  have z2 : FVec Ideal S4x8x2048x32 .f32 := extractStridedSlice S4x8x2048x32 ![0, 0, 0, 32] Z slices_S4x8x2048x64_S4x8x2048x32_0_0_0_32
  have c : FVec Ideal S4x8x2048x32 .f32 := broadcastInDim S4x8x2048x32 ![0, 1, 2, 3] bcast_S1x1x2048x32_S4x8x2048x32_0_1_2_3 (broadcastInDim S1x1x2048x32 ![2, 3] bcast_S2048x32_S1x1x2048x32_2_3 (Host.cos a))
  have s : FVec Ideal S4x8x2048x32 .f32 := broadcastInDim S4x8x2048x32 ![0, 1, 2, 3] bcast_S1x1x2048x32_S4x8x2048x32_0_1_2_3 (broadcastInDim S1x1x2048x32 ![2, 3] bcast_S2048x32_S1x1x2048x32_2_3 (Host.sin a))
  concatenate S4x8x2048x64 3 [⟨S4x8x2048x32, subf (mulf z1 c) (mulf z2 s)⟩, ⟨S4x8x2048x32, addf (mulf z2 c) (mulf z1 s)⟩] concatenates_S4x8x2048x32_S4x8x2048x32_S4x8x2048x64_d3

/-- The rotation of the query lanes: the first half by the angles `r`, the second by `c`. -/
def qRope (Y : FVec Ideal S4x8x2048x128 .f32) (r c : FVec Ideal S2048x32 .f32) : FVec Ideal S4x8x2048x128 .f32 :=
  concatenate S4x8x2048x128 3 [⟨S4x8x2048x64, qHalf (extractStridedSlice S4x8x2048x64 ![0, 0, 0, 0] Y slices_S4x8x2048x128_S4x8x2048x64_0_0_0_0) r⟩, ⟨S4x8x2048x64, qHalf (extractStridedSlice S4x8x2048x64 ![0, 0, 0, 64] Y slices_S4x8x2048x128_S4x8x2048x64_0_0_0_64) c⟩] concatenates_S4x8x2048x64_S4x8x2048x64_S4x8x2048x128_d3

theorem qHeads_apply (X : FVec Ideal S8192x9216 .f32) (b : Fin 4) (h : Fin 8) (p : Fin 2048) (d : Fin 128) :
    qHeads X (ix4 b h p d) = X (ix2 ⟨b.val * 2048 + p.val, by omega⟩ ⟨3072 + (h.val * 128 + d.val), by omega⟩) := by
  unfold qHeads batched
  pointwise []

theorem qNorm_apply (Y : FVec Ideal S4x8x2048x128 .f32) (g : FVec Ideal S128 .f32) (b : Fin 4) (h : Fin 8) (p : Fin 2048) (d : Fin 128) :
    qNorm Y g (ix4 b h p d) = rowNorm (fun l => Y (ix4 b h p l)) (fun l => g (ix1 l)) d := by
  unfold qNorm
  pointwise []
  rfl

theorem qHalf_apply (Z : FVec Ideal S4x8x2048x64 .f32) (a : FVec Ideal S2048x32 .f32) (b : Fin 4) (h : Fin 8) (p : Fin 2048) (j : Fin 64) :
    qHalf Z a (ix4 b h p j) = halfRot (fun l => Z (ix4 b h p l)) (fun l => a (ix2 p l)) j := by
  unfold qHalf
  pointwise []
  exact halves_join (fun l => Z (ix4 b h p l)) (fun l => a (ix2 p l)) j

theorem qRope_apply (Y : FVec Ideal S4x8x2048x128 .f32) (b : Fin 4) (h : Fin 8) (p : Fin 2048) (d : Fin 128) :
    qRope Y (angles gridRow) (angles gridCol) (ix4 b h p d)
      = Y (ix4 b h p d) * cosAt p d + Y (ix4 b h p (swapLane d)) * sinAt p d := by
  refine Eq.trans ?_ (halves_eq (fun l => Y (ix4 b h p l)) p d)
  unfold qRope
  generalize angles gridRow = r
  generalize angles gridCol = c
  pointwise [qHalf_apply]

/-! ## Keys and values -/

/-- The key heads of the projection; -/
def kHeads (X : FVec Ideal S8192x9216 .f32) : FVec Ideal S4x2x2048x128 .f32 :=
  transpose S4x2x2048x128 [0, 2, 1, 3] (shapeCast _ (extractStridedSlice S4x2048x256 ![0, 0, 4096] (batched X) slices_S4x2048x9216_S4x2048x256_0_0_4096) shapeCasts_S4x2048x256_S4x2048x2x128) transposes_S4x2048x2x128_S4x2x2048x128_0_2_1_3

/-- the value heads; -/
def vHeads (X : FVec Ideal S8192x9216 .f32) : FVec Ideal S4x2x2048x128 .f32 :=
  transpose S4x2x2048x128 [0, 2, 1, 3] (shapeCast _ (extractStridedSlice S4x2048x256 ![0, 0, 4352] (batched X) slices_S4x2048x9216_S4x2048x256_0_0_4352) shapeCasts_S4x2048x256_S4x2048x2x128) transposes_S4x2048x2x128_S4x2x2048x128_0_2_1_3

/-- the norm of the key heads, with their gain; -/
def kNorm (Y : FVec Ideal S4x2x2048x128 .f32) (g : FVec Ideal S128 .f32) : FVec Ideal S4x2x2048x128 .f32 :=
  mulf (mulf Y (broadcastInDim S4x2x2048x128 ![0, 1, 2, 3] bcast_S4x2x2048x1_S4x2x2048x128_0_1_2_3 (Host.rsqrt (addf (Host.divf (broadcastInDim S4x2x2048x1 ![0, 1, 2] bcast_S4x2x2048_S4x2x2048x1_0_1_2 (Host.reduceAdd (mulf Y Y) (constant S_ .f32 0x00000000#32) reducesTo_S4x2x2048x128_S4x2x2048_d3 h_S_)) (broadcastInDim S4x2x2048x1 ![] bcast_S_S4x2x2048x1 (constant S_ .f32 0x43000000#32))) (broadcastInDim S4x2x2048x1 ![] bcast_S_S4x2x2048x1 (constant S_ .f32 0x358637BD#32)))))) (broadcastInDim S4x2x2048x128 ![0, 1, 2, 3] bcast_S1x1x1x128_S4x2x2048x128_0_1_2_3 (broadcastInDim S1x1x1x128 ![3] bcast_S128_S1x1x1x128_3 g))

/-- the rotation of half of the key lanes, -/
def kHalf (Z : FVec Ideal S4x2x2048x64 .f32) (a : FVec Ideal S2048x32 .f32) : FVec Ideal S4x2x2048x64 .f32 :=
  have z1 : FVec Ideal S4x2x2048x32 .f32 := extractStridedSlice S4x2x2048x32 ![0, 0, 0, 0] Z slices_S4x2x2048x64_S4x2x2048x32_0_0_0_0
  have z2 : FVec Ideal S4x2x2048x32 .f32 := extractStridedSlice S4x2x2048x32 ![0, 0, 0, 32] Z slices_S4x2x2048x64_S4x2x2048x32_0_0_0_32
  have c : FVec Ideal S4x2x2048x32 .f32 := broadcastInDim S4x2x2048x32 ![0, 1, 2, 3] bcast_S1x1x2048x32_S4x2x2048x32_0_1_2_3 (broadcastInDim S1x1x2048x32 ![2, 3] bcast_S2048x32_S1x1x2048x32_2_3 (Host.cos a))
  have s : FVec Ideal S4x2x2048x32 .f32 := broadcastInDim S4x2x2048x32 ![0, 1, 2, 3] bcast_S1x1x2048x32_S4x2x2048x32_0_1_2_3 (broadcastInDim S1x1x2048x32 ![2, 3] bcast_S2048x32_S1x1x2048x32_2_3 (Host.sin a))
  concatenate S4x2x2048x64 3 [⟨S4x2x2048x32, subf (mulf z1 c) (mulf z2 s)⟩, ⟨S4x2x2048x32, addf (mulf z2 c) (mulf z1 s)⟩] concatenates_S4x2x2048x32_S4x2x2048x32_S4x2x2048x64_d3

/-- and of all of them. -/
def kRope (Y : FVec Ideal S4x2x2048x128 .f32) (r c : FVec Ideal S2048x32 .f32) : FVec Ideal S4x2x2048x128 .f32 :=
  concatenate S4x2x2048x128 3 [⟨S4x2x2048x64, kHalf (extractStridedSlice S4x2x2048x64 ![0, 0, 0, 0] Y slices_S4x2x2048x128_S4x2x2048x64_0_0_0_0) r⟩, ⟨S4x2x2048x64, kHalf (extractStridedSlice S4x2x2048x64 ![0, 0, 0, 64] Y slices_S4x2x2048x128_S4x2x2048x64_0_0_0_64) c⟩] concatenates_S4x2x2048x64_S4x2x2048x64_S4x2x2048x128_d3

theorem kHeads_apply (X : FVec Ideal S8192x9216 .f32) (b : Fin 4) (h : Fin 2) (p : Fin 2048) (d : Fin 128) :
    kHeads X (ix4 b h p d) = X (ix2 ⟨b.val * 2048 + p.val, by omega⟩ ⟨4096 + (h.val * 128 + d.val), by omega⟩) := by
  unfold kHeads batched
  pointwise []

theorem vHeads_apply (X : FVec Ideal S8192x9216 .f32) (b : Fin 4) (h : Fin 2) (p : Fin 2048) (d : Fin 128) :
    vHeads X (ix4 b h p d) = X (ix2 ⟨b.val * 2048 + p.val, by omega⟩ ⟨4352 + (h.val * 128 + d.val), by omega⟩) := by
  unfold vHeads batched
  pointwise []

theorem kNorm_apply (Y : FVec Ideal S4x2x2048x128 .f32) (g : FVec Ideal S128 .f32) (b : Fin 4) (h : Fin 2) (p : Fin 2048) (d : Fin 128) :
    kNorm Y g (ix4 b h p d) = rowNorm (fun l => Y (ix4 b h p l)) (fun l => g (ix1 l)) d := by
  unfold kNorm
  pointwise []
  rfl

theorem kHalf_apply (Z : FVec Ideal S4x2x2048x64 .f32) (a : FVec Ideal S2048x32 .f32) (b : Fin 4) (h : Fin 2) (p : Fin 2048) (j : Fin 64) :
    kHalf Z a (ix4 b h p j) = halfRot (fun l => Z (ix4 b h p l)) (fun l => a (ix2 p l)) j := by
  unfold kHalf
  pointwise []
  exact halves_join (fun l => Z (ix4 b h p l)) (fun l => a (ix2 p l)) j

theorem kRope_apply (Y : FVec Ideal S4x2x2048x128 .f32) (b : Fin 4) (h : Fin 2) (p : Fin 2048) (d : Fin 128) :
    kRope Y (angles gridRow) (angles gridCol) (ix4 b h p d)
      = Y (ix4 b h p d) * cosAt p d + Y (ix4 b h p (swapLane d)) * sinAt p d := by
  refine Eq.trans ?_ (halves_eq (fun l => Y (ix4 b h p l)) p d)
  unfold kRope
  generalize angles gridRow = r
  generalize angles gridCol = c
  pointwise [kHalf_apply]

/-! ## Scores, weights and the result -/

/-- The scores, scaled. -/
def scores (q : FVec Ideal S4x8x2048x128 .f32) (k : FVec Ideal S4x2x2048x128 .f32) : FVec Ideal S4x2x4x2048x2048 .f32 :=
  mulf (Host.dotGeneral dot_S4x2x4x2048x128_S4x2x2048x128_S4x2x4x2048x2048_4_3_23_2_01_01 none (shapeCast S4x2x4x2048x128 q shapeCasts_S4x8x2048x128_S4x2x4x2048x128) k)
    (broadcastInDim S4x2x4x2048x2048 ![] bcast_S_S4x2x4x2048x2048 (constant S_ .f32 0x3DB504F3#32))

/-- The largest score of each query. -/
def largest (s : FVec Ideal S4x2x4x2048x2048 .f32) : FVec Ideal S4x2x4x2048 .f32 :=
  Host.reduce FloatOps.maximumf s (constant S_ .f32 0xFF800000#32) reducesTo_S4x2x4x2048x2048_S4x2x4x2048_d4 h_S_

/-- Exponentials of scores, with a number of each query taken off. -/
def expScores (s : FVec Ideal S4x2x4x2048x2048 .f32) (l : FVec Ideal S4x2x4x2048 .f32) : FVec Ideal S4x2x4x2048x2048 .f32 :=
  Host.exp (subf s (broadcastInDim S4x2x4x2048x2048 ![0, 1, 2, 3, 4] bcast_S4x2x4x2048x1_S4x2x4x2048x2048_0_1_2_3_4 (broadcastInDim S4x2x4x2048x1 ![0, 1, 2, 3] bcast_S4x2x4x2048_S4x2x4x2048x1_0_1_2_3 (maximumf (broadcastInDim S4x2x4x2048 ![] bcast_S_S4x2x4x2048 (constant S_ .f32 0xFF800000#32)) l))))

/-- Exponentials of scores, the largest of a query taken off. -/
def weights (s : FVec Ideal S4x2x4x2048x2048 .f32) : FVec Ideal S4x2x4x2048x2048 .f32 := expScores s (largest s)

/-- The average of the values, its heads side by side. -/
def average (e : FVec Ideal S4x2x4x2048x2048 .f32) (v : FVec Ideal S4x2x2048x128 .f32) : FVec Ideal S8192x1024 .f32 :=
  shapeCast _ (transpose S4x2048x8x128 [0, 2, 1, 3] (shapeCast S4x8x2048x128 (Host.dotGeneral dot_S4x2x4x2048x2048_S4x2x2048x128_S4x2x4x2048x128_4_2_23_3_01_01 none (Host.divf e (broadcastInDim S4x2x4x2048x2048 ![0, 1, 2, 3, 4] bcast_S4x2x4x2048x1_S4x2x4x2048x2048_0_1_2_3_4 (broadcastInDim S4x2x4x2048x1 ![0, 1, 2, 3] bcast_S4x2x4x2048_S4x2x4x2048x1_0_1_2_3 (Host.reduceAdd e (constant S_ .f32 0x00000000#32) reducesTo_S4x2x4x2048x2048_S4x2x4x2048_d4 h_S_)))) v) shapeCasts_S4x2x4x2048x128_S4x8x2048x128) transposes_S4x8x2048x128_S4x2048x8x128_0_2_1_3) shapeCasts_S4x2048x8x128_S8192x1024

/-- The reference, from the projection and the gains. -/
def mixer (X : FVec Ideal S8192x9216 .f32) (gq gk : FVec Ideal S128 .f32) : FVec Ideal S8192x1024 .f32 :=
  average (weights (scores (qRope (qNorm (qHeads X) gq) (angles gridRow) (angles gridCol)) (kRope (kNorm (kHeads X) gk) (angles gridRow) (angles gridCol)))) (vHeads X)

theorem scores_apply (q : FVec Ideal S4x8x2048x128 .f32) (k : FVec Ideal S4x2x2048x128 .f32) (b : Fin 4) (g : Fin 2) (i : Fin 4) (p x : Fin 2048) :
    scores q k (ix5 b g i p x) = refScore (fun d => q (ix4 b ⟨g.val * 4 + i.val, by omega⟩ p d)) (fun x d => k (ix4 b g x d)) x := by
  unfold scores
  pointwise []
  rfl

theorem largest_apply (s : FVec Ideal S4x2x4x2048x2048 .f32) (b : Fin 4) (g : Fin 2) (i : Fin 4) (p : Fin 2048) :
    largest s (ix4 b g i p) = Finset.univ.fold max (Ideal.ofBits .f32 0xFF800000#32) (fun y => s (ix5 b g i p y)) := by
  unfold largest
  pointwise []

theorem expScores_apply (s : FVec Ideal S4x2x4x2048x2048 .f32) (l : FVec Ideal S4x2x4x2048 .f32) (b : Fin 4) (g : Fin 2) (i : Fin 4) (p x : Fin 2048) :
    expScores s l (ix5 b g i p x) = Ideal.exp (s (ix5 b g i p x) - max (Ideal.ofBits .f32 0xFF800000#32) (l (ix4 b g i p))) := by
  unfold expScores
  pointwise []

theorem weights_apply (s : FVec Ideal S4x2x4x2048x2048 .f32) (b : Fin 4) (g : Fin 2) (i : Fin 4) (p x : Fin 2048) :
    weights s (ix5 b g i p x)
      = Ideal.exp (s (ix5 b g i p x) - max ⊥ (Finset.univ.fold max ⊥ (fun y => s (ix5 b g i p y)))) := by
  unfold weights
  rw [expScores_apply, largest_apply, negInf_word]

theorem average_apply (e : FVec Ideal S4x2x4x2048x2048 .f32) (v : FVec Ideal S4x2x2048x128 .f32) (row : Fin 8192) (col : Fin 1024)
    (b : Fin 4) (p : Fin 2048) (g : Fin 2) (i : Fin 4) (d : Fin 128) (hr : row.val = b.val * 2048 + p.val) (hc : col.val = (g.val * 4 + i.val) * 128 + d.val) :
    average e v (ix2 row col)
      = ∑ k, Ideal.div (e (ix5 b g i p k)) (∑ j, e (ix5 b g i p j)) * v (ix4 b g k d) := by
  have hb : ∀ h, (⟨row.val / 2048, h⟩ : Fin 4) = b := fun _ => Fin.ext (show row.val / 2048 = b.val by omega)
  have hp : ∀ h, (⟨row.val % 2048, h⟩ : Fin 2048) = p := fun _ => Fin.ext (show row.val % 2048 = p.val by omega)
  have hg : ∀ h, (⟨col.val / 128 / 4, h⟩ : Fin 2) = g := fun _ => Fin.ext (show col.val / 128 / 4 = g.val by omega)
  have hi : ∀ h, (⟨col.val / 128 % 4, h⟩ : Fin 4) = i := fun _ => Fin.ext (show col.val / 128 % 4 = i.val by omega)
  have hd : ∀ h, (⟨col.val % 128, h⟩ : Fin 128) = d := fun _ => Fin.ext (show col.val % 128 = d.val by omega)
  unfold average
  pointwise []
  simp only [hb, hp, hg, hi, hd]

end Cert.MixerB
-- ==== Proof.Equation.lean ====
/- The equation: with finite gains, the array the kernel leaves is the reference's. -/
module

public import proofs.«01_k».proof.Proof.Array
public import proofs.«01_k».proof.Proof.Reference

@[expose] public section

set_option maxRecDepth 16384

noncomputable section

namespace Cert.MixerB

open Cert.ReferenceIdeal Cert.ReferenceIdeal.Gen Cert.ReferenceIdeal.Value Idealize.ShloMosaic Idealize.ShloMosaic.TcCoe Idealize.SL.Sem

/-- The query row behind an element of the result; -/
def queryRow (X : FVec Ideal S8192x9216 .f32) (gq : FVec Ideal S128 .f32) (row : Fin 8192) (col : Fin 1024) : Fin 128 → EReal :=
  rowRope (fun d => X (ix2 row ⟨3072 + col.val / 128 * 128 + d.val, by omega⟩)) (fun d => gq (ix1 d))
    (cosAt ⟨row.val % 2048, Nat.mod_lt _ (by decide)⟩) (sinAt ⟨row.val % 2048, Nat.mod_lt _ (by decide)⟩)

/-- the key rows; -/
def keyRows (X : FVec Ideal S8192x9216 .f32) (gk : FVec Ideal S128 .f32) (b : Fin 4) (g : Fin 2) (k : Fin 2048) : Fin 128 → EReal :=
  rowRope (fun l => X (ix2 ⟨b.val * 2048 + k.val, by omega⟩ ⟨4096 + g.val * 128 + l.val, by omega⟩)) (fun l => gk (ix1 l)) (cosAt k) (sinAt k)

/-- one lane of the value rows. -/
def valueLane (X : FVec Ideal S8192x9216 .f32) (b : Fin 4) (g : Fin 2) (d : Fin 128) (k : Fin 2048) : EReal :=
  X (ix2 ⟨b.val * 2048 + k.val, by omega⟩ ⟨4352 + g.val * 128 + d.val, by omega⟩)

/-- The reference at an element: the softmax average over that element's rows. -/
theorem mixer_apply (X : FVec Ideal S8192x9216 .f32) (gq gk : FVec Ideal S128 .f32) (row : Fin 8192) (col : Fin 1024) :
    mixer X gq gk (ix2 row col)
      = refAttn (queryRow X gq row col) (keyRows X gk ⟨row.val / 2048, by omega⟩ ⟨col.val / 512, by omega⟩)
          (valueLane X ⟨row.val / 2048, by omega⟩ ⟨col.val / 512, by omega⟩ ⟨col.val % 128, Nat.mod_lt _ (by decide)⟩) := by
  have hX : ∀ (r r' : Fin 8192) (c c' : Fin 9216), r.val = r'.val → c.val = c'.val → X (ix2 r c) = X (ix2 r' c') :=
    fun r r' c c' h h' => by rw [Fin.ext h, Fin.ext h']
  have hq : ∀ d, qRope (qNorm (qHeads X) gq) (angles gridRow) (angles gridCol)
      (ix4 ⟨row.val / 2048, by omega⟩ ⟨col.val / 512 * 4 + col.val / 128 % 4, by omega⟩ ⟨row.val % 2048, Nat.mod_lt _ (by decide)⟩ d) = queryRow X gq row col d := fun d => by
    rw [qRope_apply, qNorm_apply, qNorm_apply]
    simp only [qHeads_apply]
    unfold queryRow rowRope
    rw [show (fun l : Fin 128 => X (ix2 ⟨row.val / 2048 * 2048 + row.val % 2048, by omega⟩ ⟨3072 + ((col.val / 512 * 4 + col.val / 128 % 4) * 128 + l.val), by omega⟩))
      = fun l => X (ix2 row ⟨3072 + col.val / 128 * 128 + l.val, by omega⟩) from funext fun l => hX _ _ _ _
        (show row.val / 2048 * 2048 + row.val % 2048 = row.val by omega)
        (show 3072 + ((col.val / 512 * 4 + col.val / 128 % 4) * 128 + l.val) = 3072 + col.val / 128 * 128 + l.val by omega)]
  have hk : ∀ k d, kRope (kNorm (kHeads X) gk) (angles gridRow) (angles gridCol)
      (ix4 ⟨row.val / 2048, by omega⟩ ⟨col.val / 512, by omega⟩ k d) = keyRows X gk ⟨row.val / 2048, by omega⟩ ⟨col.val / 512, by omega⟩ k d := fun k d => by
    rw [kRope_apply, kNorm_apply, kNorm_apply]
    simp only [kHeads_apply]
    unfold keyRows rowRope
    rw [show (fun l : Fin 128 => X (ix2 ⟨row.val / 2048 * 2048 + k.val, by omega⟩ ⟨4096 + (col.val / 512 * 128 + l.val), by omega⟩))
      = fun l => X (ix2 ⟨row.val / 2048 * 2048 + k.val, by omega⟩ ⟨4096 + col.val / 512 * 128 + l.val, by omega⟩) from funext fun l => hX _ _ _ _ rfl
        (show 4096 + (col.val / 512 * 128 + l.val) = 4096 + col.val / 512 * 128 + l.val by omega)]
  have he : ∀ k, weights (scores (qRope (qNorm (qHeads X) gq) (angles gridRow) (angles gridCol)) (kRope (kNorm (kHeads X) gk) (angles gridRow) (angles gridCol)))
      (ix5 ⟨row.val / 2048, by omega⟩ ⟨col.val / 512, by omega⟩ ⟨col.val / 128 % 4, Nat.mod_lt _ (by decide)⟩ ⟨row.val % 2048, Nat.mod_lt _ (by decide)⟩ k)
        = refExp (queryRow X gq row col) (keyRows X gk ⟨row.val / 2048, by omega⟩ ⟨col.val / 512, by omega⟩) k := fun k => by
    rw [weights_apply]
    simp only [scores_apply]
    rw [funext hq, funext fun k => funext (hk k)]
    rfl
  unfold mixer
  rw [average_apply _ _ row col ⟨row.val / 2048, by omega⟩ ⟨row.val % 2048, Nat.mod_lt _ (by decide)⟩ ⟨col.val / 512, by omega⟩
    ⟨col.val / 128 % 4, Nat.mod_lt _ (by decide)⟩ ⟨col.val % 128, Nat.mod_lt _ (by decide)⟩
    (show row.val = row.val / 2048 * 2048 + row.val % 2048 by omega)
    (show col.val = (col.val / 512 * 4 + col.val / 128 % 4) * 128 + col.val % 128 by omega)]
  simp only [he]
  unfold refAttn valueLane
  refine Finset.sum_congr rfl fun k _ => congrArg₂ (fun a b : EReal => a * b) rfl ?_
  rw [vHeads_apply]
  exact hX _ _ _ _ rfl (show 4352 + (col.val / 512 * 128 + col.val % 128) = 4352 + col.val / 512 * 128 + col.val % 128 by omega)

/-- The tables are real; -/
theorem angle_real (p : Fin 2048) (d : Fin 128) : ∃ a : ℝ, angle p d = (a : EReal) := by
  unfold angle
  split
  · exact angles_real _ _ _
  · exact angles_real _ _ _

theorem cos_real (p : Fin 2048) (d : Fin 128) : ∃ a : ℝ, cosAt p d = (a : EReal) := by
  obtain ⟨a, ha⟩ := angle_real p d
  exact ⟨Real.cos a, by unfold cosAt; rw [ha]; rfl⟩

theorem sin_real (p : Fin 2048) (d : Fin 128) : ∃ a : ℝ, sinAt p d = (a : EReal) := by
  obtain ⟨a, ha⟩ := angle_real p d
  unfold sinAt
  rw [ha]
  split
  · exact ⟨-Real.sin a, by rw [EReal.coe_neg]; rfl⟩
  · exact ⟨Real.sin a, rfl⟩

/-- With real gains, the attention the kernel leaves at an element is the reference's. -/
theorem attn_eq (X : FVec Ideal S8192x9216 .f32) (gq gk : FVec Ideal S128 .f32) (hq : ∀ d, ∃ r : ℝ, gq (ix1 d) = (r : EReal))
    (hk : ∀ d, ∃ r : ℝ, gk (ix1 d) = (r : EReal)) (g1 g2 : Vec Ideal Cert.KernelIdeal.S1x128 .f32) (cs sn : Vec Ideal Cert.KernelIdeal.S2048x128 .f32)
    (h1 : ∀ d, g1 (ix2 0 d) = gq (ix1 d)) (h2 : ∀ d, g2 (ix2 0 d) = gk (ix1 d)) (hc : ∀ p d, cs (ix2 p d) = cosAt p d)
    (hs : ∀ p d, sn (ix2 p d) = sinAt p d) (row : Fin 8192) (col : Fin 1024) :
    attnAt X g1 g2 cs sn row col = mixer X gq gk (ix2 row col) := by
  rw [mixer_apply]
  unfold attnAt
  simp only [h1, hc, hs]
  have hK : keyAt X g2 cs sn ⟨row.val / 2048, by omega⟩ ⟨col.val / 512, by omega⟩ = keyRows X gk ⟨row.val / 2048, by omega⟩ ⟨col.val / 512, by omega⟩ := by
    funext k d
    unfold keyAt keyRows
    simp only [h2, hc, hs]
  rw [hK]
  refine row_eq _ _ _ _ _ (rope_real _ _ _ _ hq (cos_real _) (sin_real _)) (fun k => rope_real _ _ _ _ hk (cos_real _) (sin_real _)) (fun k => ?_) (fun k => ?_)
  · unfold valAt
    exact dif_pos (show col.val % 128 < 128 from Nat.mod_lt _ (by decide))
  · unfold valAt
    exact dif_neg (show ¬ 128 + col.val % 128 < 128 by omega)

/-- As arrays: what the kernel leaves is the reference of the arguments. -/
theorem result_eq (m : (ℓ : Loc Cert.KernelIdeal.nD Cert.KernelIdeal.τ Cert.KernelIdeal.sig) → Buf (Elt Ideal) ℓ) (c : Dev Cert.KernelIdeal.nD)
    (X : FVec Ideal S8192x9216 .f32) (gq gk : FVec Ideal S128 .f32)
    (hX : m ((c.tc : Thread Cert.KernelIdeal.nD Cert.KernelIdeal.τ).loc Cert.KernelIdeal.main_arg0) = X)
    (hgq : m ((c.tc : Thread Cert.KernelIdeal.nD Cert.KernelIdeal.τ).loc Cert.KernelIdeal.main_arg1) = gq)
    (hgk : m ((c.tc : Thread Cert.KernelIdeal.nD Cert.KernelIdeal.τ).loc Cert.KernelIdeal.main_arg2) = gk)
    (hq : ∀ d, ∃ r : ℝ, gq (ix1 d) = (r : EReal)) (hk : ∀ d, ∃ r : ℝ, gk (ix1 d) = (r : EReal)) :
    (Cert.KernelIdeal.Gen.dats m 0 c).arrAt 7 Cert.KernelIdeal.cfg0.N = mixer X gq gk := by
  subst hX hgq hgk
  rw [array_eq m c, Cert.KernelIdeal.Gen.V_main_arg0]
  refine funext fun (y : S8192x1024.Idx) => ?_
  rw [eq_ix2 y]
  exact attn_eq _ _ _ hq hk _ _ _ _ (gainQ_apply m c) (gainK_apply m c) (cosTable_apply m c) (sinTable_apply m c) _ _

end Cert.MixerB
-- ==== Proof.Down.lean ====
/- The call ffn_down: each block of the result gathers two half products and the residual; so the array is the residual
   plus the whole product, as the reference computes it. -/
module

public import proofs.«01_k».proof.Proof.Sums
public import proofs.«01_k».proof.Proof.Gen.Kernel3Ideal.Value
public import proofs.«01_k».proof.Proof.Gen.Reference3Ideal.Run
public import Idealize.ShloMosaic.Lib.Pipeline.ValueKit.Tiles

@[expose] public section

set_option maxRecDepth 16384

noncomputable section

namespace Cert.Down

open Cert.Kernel3Ideal Cert.Kernel3Ideal.Gen Cert.Kernel3Ideal.Value Idealize.ShloMosaic Idealize.ShloMosaic.TcCoe Idealize.SL.Sem Idealize.ShloMosaic.Tactic
open Idealize.ShloMosaic.StableHlo
open Cert.Sums (read_whole zero2)

/-- Row `r`, column `l` of the product of two blocks. -/
def part (a : Vec Ideal S1024x5504 .bf16) (w : Vec Ideal S5504x512 .bf16) (r : Fin 1024) (l : Fin 512) : EReal :=
  ∑ k : Fin 5504, (a (ix2 r k) : EReal) * w (ix2 k l)

/-- The body's product at an element. -/
theorem pay1_apply (a : Vec Ideal S1024x5504 .bf16) (w : Vec Ideal S5504x512 .bf16) (r : Fin 1024) (l : Fin 512) :
    k0_pay1 (F := Ideal) a w (ix2 r l) = part a w r l := by
  unfold k0_pay1 part
  pointwise [dot_S1024x5504_S5504x512_S1024x512_1_0_0_1_n_n]

section Point

variable (c : Dev nD) (i : grid0.Coords) (arg3 : Memref sig .tc .vmem S1024x5504 .bf16) (harg3 : arg3.IsWhole)
  (arg4 : Memref sig .tc .vmem S5504x512 .bf16) (harg4 : arg4.IsWhole) (arg5 : Memref sig .tc .vmem S1024x512 .f32) (harg5 : arg5.IsWhole)
  (arg6 : Memref sig .tc .vmem S1024x512 .f32) (harg6 : arg6.IsWhole)
  (x0 : Vec Ideal S1024x5504 .bf16) (x1 : Vec Ideal S5504x512 .bf16) (x2 : Vec Ideal S1024x512 .f32)

/-- The first point of a block leaves the residual and the first half product; -/
theorem out_A (hc0 : cond0_0 i) (hc1 : ¬cond0_1 i) (r : Fin 1024) (l : Fin 512) :
    out0_A_3 (F := Ideal) c i arg3 harg3 arg4 harg4 arg5 harg5 arg6 harg6 hc0 hc1 x0 x1 x2 (ix2 r l) = x2 (ix2 r l) + part x0 x1 r l := by
  unfold out0_A_3
  rw [View.read_writes_eq_canon _ _ _ (fun y => cover0_A_3 (F := Ideal) c i arg3 harg3 arg4 harg4 arg5 harg5 arg6 harg6 hc0 hc1 x0 x1 x2 y)]
  unfold kernelRun0_A
  dsimp only
  rw [View.canon_cons_unit_zero zero2, read_whole zero2, read_whole zero2, read_whole zero2, ← pay1_apply]
  rfl

/-- the second adds the second half product. -/
theorem out_B (hc0 : ¬cond0_0 i) (hc1 : cond0_1 i) (xo : Vec Ideal S1024x512 .f32) (r : Fin 1024) (l : Fin 512) :
    out0_B_3 (F := Ideal) c i arg3 harg3 arg4 harg4 arg5 harg5 arg6 harg6 hc0 hc1 x0 x1 x2 xo (ix2 r l) = xo (ix2 r l) + part x0 x1 r l := by
  unfold out0_B_3
  rw [View.read_writes_eq_canon _ _ _ (fun y => cover0_B_3 (F := Ideal) c i arg3 harg3 arg4 harg4 arg5 harg5 arg6 harg6 hc0 hc1 x0 x1 x2 xo y)]
  unfold kernelRun0_B
  dsimp only
  rw [View.canon_cons_unit_zero zero2, read_whole zero2, read_whole zero2, read_whole zero2, ← pay1_apply]
  unfold k0_pay3
  rw [shapeCast_self]
  rfl

end Point

section
variable (m : (ℓ : Loc nD τ sig) → Buf (Elt Ideal) ℓ) (c : Dev nD)

theorem idx0 : ∀ t : Fin cfg0.N, win0_0.index t 0 = t.val / 16 ∧ win0_0.index t 1 = t.val % 2 :=
  (by decide +kernel : ∀ t : Fin grid0.N, win0_0.index t 0 = t.val / 16 ∧ win0_0.index t 1 = t.val % 2)
theorem idx1 : ∀ t : Fin cfg0.N, win0_1.index t 0 = t.val % 2 ∧ win0_1.index t 1 = t.val / 2 % 8 :=
  (by decide +kernel : ∀ t : Fin grid0.N, win0_1.index t 0 = t.val % 2 ∧ win0_1.index t 1 = t.val / 2 % 8)
theorem idx2 : ∀ t : Fin cfg0.N, win0_2.index t 0 = t.val / 16 ∧ win0_2.index t 1 = t.val / 2 % 8 :=
  (by decide +kernel : ∀ t : Fin grid0.N, win0_2.index t 0 = t.val / 16 ∧ win0_2.index t 1 = t.val / 2 % 8)
theorem idx3 : ∀ t : Fin cfg0.N, win0_3.index t 0 = t.val / 16 ∧ win0_3.index t 1 = t.val / 2 % 8 :=
  (by decide +kernel : ∀ t : Fin grid0.N, win0_3.index t 0 = t.val / 16 ∧ win0_3.index t 1 = t.val / 2 % 8)
theorem flush3 : ∀ t : Fin cfg0.N, (cfg0.win 3).flush t = true ↔ t.val % 2 = 1 :=
  (by decide +kernel : ∀ t : Fin grid0.N, win0_3.flush t = true ↔ t.val % 2 = 1)

theorem lt128 (t : Fin cfg0.N) : t.val < 128 := t.isLt.trans_eq (show cfg0.N = 128 from N_0)

/-- The left block of a point, read from its array; -/
theorem blk0 (t : Fin cfg0.N) (r : Fin 1024) (k : Fin 5504) : (iblk m c 0 t : Vec Ideal S1024x5504 .bf16) (ix2 r k)
    = V m c main_arg0 (ix2 ⟨t.val / 16 * 1024 + r.val, by have := lt128 t; omega⟩ ⟨t.val % 2 * 5504 + k.val, by omega⟩) := by
  unfold iblk
  rw [View.read_apply]
  show V m c main_arg0 _ = _
  congr 1
  funext a
  apply Fin.ext
  match a with
  | ⟨0, _⟩ => show win0_0.index t 0 * 1024 + 1 * r.val = _; rw [(idx0 t).1, Nat.one_mul]; rfl
  | ⟨1, _⟩ => show win0_0.index t 1 * 5504 + 1 * k.val = _; rw [(idx0 t).2, Nat.one_mul]; rfl

/-- the block of the weights; -/
theorem blk1 (t : Fin cfg0.N) (k : Fin 5504) (l : Fin 512) : (iblk m c 1 t : Vec Ideal S5504x512 .bf16) (ix2 k l)
    = V m c main_v2 (ix2 ⟨t.val % 2 * 5504 + k.val, by omega⟩ ⟨t.val / 2 % 8 * 512 + l.val, by omega⟩) := by
  unfold iblk
  rw [View.read_apply]
  show V m c main_v2 _ = _
  congr 1
  funext a
  apply Fin.ext
  match a with
  | ⟨0, _⟩ => show win0_1.index t 0 * 5504 + 1 * k.val = _; rw [(idx1 t).1, Nat.one_mul]; rfl
  | ⟨1, _⟩ => show win0_1.index t 1 * 512 + 1 * l.val = _; rw [(idx1 t).2, Nat.one_mul]; rfl

/-- the block of the residual. -/
theorem blk2 (t : Fin cfg0.N) (r : Fin 1024) (l : Fin 512) : (iblk m c 2 t : Vec Ideal S1024x512 .f32) (ix2 r l)
    = V m c main_arg2 (ix2 ⟨t.val / 16 * 1024 + r.val, by have := lt128 t; omega⟩ ⟨t.val / 2 % 8 * 512 + l.val, by omega⟩) := by
  unfold iblk
  rw [View.read_apply]
  show V m c main_arg2 _ = _
  congr 1
  funext a
  apply Fin.ext
  match a with
  | ⟨0, _⟩ => show win0_2.index t 0 * 1024 + 1 * r.val = _; rw [(idx2 t).1, Nat.one_mul]; rfl
  | ⟨1, _⟩ => show win0_2.index t 1 * 512 + 1 * l.val = _; rw [(idx2 t).2, Nat.one_mul]; rfl

/-- The weights the launch finds: those of the layer. -/
theorem weights_apply (k : Fin 11008) (l : Fin 4096) :
    (V m c main_v2 : Vec Ideal S11008x4096 .bf16) (ix2 k l) = (m ((c : Thread nD τ).loc main_arg1) : Vec Ideal S2x11008x4096 .f32) (ix3 0 k l) := by
  have h : (V m c main_v2 : Vec Ideal S11008x4096 .bf16) = (truncf .bf16 (shapeCast S11008x4096 (extractStridedSlice S1x11008x4096 ![0, 0, 0]
      (m ((c : Thread nD τ).loc main_arg1) : FVec Ideal S2x11008x4096 .f32) slices_S2x11008x4096_S1x11008x4096_0_0_0 : FVec Ideal S1x11008x4096 .f32)
      shapeCasts_S1x11008x4096_S11008x4096 : FVec Ideal S11008x4096 .f32) bitsLt_bf16_f32 : FVec Ideal S11008x4096 .bf16) := by
    dsimp only [V]
    simp only [hostOps0]
    after_results_simp
    rfl
  rw [h]
  generalize (m ((c : Thread nD τ).loc main_arg1) : FVec Ideal S2x11008x4096 .f32) = W
  pointwise

/-- The residual plus the product, at a row and column. -/
def downAt (A : Vec Ideal S8192x11008 .bf16) (W : Vec Ideal S11008x4096 .bf16) (X : Vec Ideal S8192x4096 .f32) (row : Fin 8192) (col : Fin 4096) : EReal :=
  (X (ix2 row col) : EReal) + ∑ k : Fin 11008, (A (ix2 row k) : EReal) * W (ix2 k col)

/-- What the second point of a block leaves in it. -/
theorem out_eq (t : Fin cfg0.N) (h1 : t.val % 2 = 1) (r : Fin 1024) (l : Fin 512) :
    (outsAt0 m c t.val t.isLt : Vec Ideal S1024x512 .f32) (ix2 r l)
      = downAt (V m c main_arg0) (V m c main_v2) (V m c main_arg2) ⟨t.val / 16 * 1024 + r.val, by have := lt128 t; omega⟩ ⟨t.val / 2 % 8 * 512 + l.val, by omega⟩ := by
  have h128 := lt128 t
  have hlt : t.val - 1 < cfg0.N := Nat.lt_of_le_of_lt (Nat.sub_le _ _) t.isLt
  have ha : outsAt0 m c (t.val - 1) hlt = _ := outsAt0_A m c ⟨t.val - 1, hlt⟩ (by show (t.val - 1) % 2 = 0; omega) (by show ¬ (t.val - 1) % 2 = 1; omega)
  rw [outsAt0_B m c t (by omega) h1, out_B, ha, out_A, add_assoc]
  unfold downAt
  rw [Cert.Sums.sum_two]
  refine congrArg₂ (fun a b : EReal => a + b) ((blk2 m c _ r l).trans (congrArg₂ (fun x y => V m c main_arg2 (ix2 x y)) (Fin.ext ?_) (Fin.ext ?_)))
    (congrArg₂ (fun a b : EReal => a + b) (Finset.sum_congr rfl fun k _ => congrArg₂ (fun a b : EReal => a * b) ?_ ?_)
      (Finset.sum_congr rfl fun k _ => congrArg₂ (fun a b : EReal => a * b) ?_ ?_))
  · show (t.val - 1) / 16 * 1024 + r.val = t.val / 16 * 1024 + r.val
    omega
  · show (t.val - 1) / 2 % 8 * 512 + l.val = t.val / 2 % 8 * 512 + l.val
    omega
  · refine (blk0 m c _ r k).trans (congrArg₂ (fun x y => V m c main_arg0 (ix2 x y)) (Fin.ext ?_) (Fin.ext ?_))
    · show (t.val - 1) / 16 * 1024 + r.val = t.val / 16 * 1024 + r.val
      omega
    · show (t.val - 1) % 2 * 5504 + k.val = k.val
      omega
  · refine (blk1 m c _ k l).trans (congrArg₂ (fun x y => V m c main_v2 (ix2 x y)) (Fin.ext ?_) (Fin.ext ?_))
    · show (t.val - 1) % 2 * 5504 + k.val = k.val
      omega
    · show (t.val - 1) / 2 % 8 * 512 + l.val = t.val / 2 % 8 * 512 + l.val
      omega
  · refine (blk0 m c _ r k).trans (congrArg₂ (fun x y => V m c main_arg0 (ix2 x y)) rfl (Fin.ext ?_))
    show t.val % 2 * 5504 + k.val = 5504 + k.val
    omega
  · refine (blk1 m c _ k l).trans (congrArg₂ (fun x y => V m c main_v2 (ix2 x y)) (Fin.ext ?_) rfl)
    show t.val % 2 * 5504 + k.val = 5504 + k.val
    omega

/-- A point's block of an array of the result's shape, read at an index. -/
theorem read3 (G : Vec Ideal S8192x4096 .f32) (t : Fin cfg0.N) (r : Fin 1024) (l : Fin 512) :
    (((cfg0.win 3).blk t).view.read (Elt Ideal) G : Vec Ideal S1024x512 .f32) (ix2 r l)
      = G (ix2 ⟨t.val / 16 * 1024 + r.val, by have := lt128 t; omega⟩ ⟨t.val / 2 % 8 * 512 + l.val, by omega⟩) := by
  rw [View.read_apply]
  show G _ = _
  congr 1
  funext a
  apply Fin.ext
  match a with
  | ⟨0, _⟩ => show win0_3.index t 0 * 1024 + 1 * r.val = _; rw [(idx3 t).1, Nat.one_mul]; rfl
  | ⟨1, _⟩ => show win0_3.index t 1 * 512 + 1 * l.val = _; rw [(idx3 t).2, Nat.one_mul]; rfl

/-- The residual plus the product, as an array. -/
def downArray (A : Vec Ideal S8192x11008 .bf16) (W : Vec Ideal S11008x4096 .bf16) (X : Vec Ideal S8192x4096 .f32) : Vec Ideal S8192x4096 .f32 :=
  fun y => downAt A W X (y 0) (y 1)

theorem downArray_apply (A : Vec Ideal S8192x11008 .bf16) (W : Vec Ideal S11008x4096 .bf16) (X : Vec Ideal S8192x4096 .f32) (row : Fin 8192) (col : Fin 4096) :
    downArray A W X (ix2 row col) = downAt A W X row col := rfl

/-- So what such a point writes back is its block of that array. -/
theorem flushed_eq (t : Fin cfg0.N) (h1 : t.val % 2 = 1) : (dats m 0 c).flushed 3 t = ((cfg0.win 3).blk t).view.read (Elt Ideal)
    (downArray (V m c main_arg0) (V m c main_v2) (V m c main_arg2)) := by
  rw [flushed3]
  generalize hG : downArray (V m c main_arg0) (V m c main_v2) (V m c main_arg2) = G
  have key : ∀ (r : Fin 1024) (l : Fin 512), (outsAt0 m c t.val t.isLt : Vec Ideal S1024x512 .f32) (ix2 r l)
      = (((cfg0.win 3).blk t).view.read (Elt Ideal) G : Vec Ideal S1024x512 .f32) (ix2 r l) := by
    intro r l
    rw [read3, ← hG, downArray_apply]
    exact out_eq m c t h1 r l
  generalize outsAt0 m c t.val t.isLt = O at key ⊢
  funext y
  have hy : (y : S1024x512.Idx) = ix2 (y 0) (y 1) := by funext k; fin_cases k <;> rfl
  rw [hy]
  exact key (y 0) (y 1)

/-- The array at the end: the residual plus the product everywhere. -/
theorem array_eq : (dats m 0 c).arrAt 3 cfg0.N = downArray (V m c main_arg0) (V m c main_v2) (V m c main_arg2) := by
  refine (dats m 0 c).arrAt_eq_of_cover 3 (downArray (V m c main_arg0) (V m c main_v2) (V m c main_arg2))
    (fun t ht => flushed_eq m c t ((flush3 t).1 ht)) (fun (i : S8192x4096.Idx) => ?_)
  have h0 : (i 0 : Nat) < 8192 := (i 0).isLt
  have h1 : (i 1 : Nat) < 4096 := (i 1).isLt
  let t : Fin cfg0.N := ⟨(i 0 : Nat) / 1024 * 16 + (i 1 : Nat) / 512 * 2 + 1, (by omega : _ < 128).trans_eq (show 128 = cfg0.N from N_0.symm)⟩
  have ht : t.val = (i 0 : Nat) / 1024 * 16 + (i 1 : Nat) / 512 * 2 + 1 := rfl
  refine ⟨t, (flush3 t).2 (by omega), ?_⟩
  show i ∈ ((View.whole main_v3).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [(idx3 t).1, ht]
    omega
  | ⟨1, _⟩ =>
    show win0_3.index t 1 * 512 ≤ (i 1 : Nat) ∧ (i 1 : Nat) < win0_3.index t 1 * 512 + 512
    rw [(idx3 t).2, ht]
    omega

end

/-- The reference: the residual plus the product with the layer's weights. -/
def refDown (A : FVec Ideal S8192x11008 .bf16) (W : FVec Ideal S2x11008x4096 .f32) (X : FVec Ideal S8192x4096 .f32) : FVec Ideal S8192x4096 .f32 :=
  addf X (Host.dotGeneral Cert.Reference3Ideal.dot_S8192x11008_S11008x4096_S8192x4096_1_0_0_1_n_n none (extf .f32 A bitsLt_bf16_f32 : FVec Ideal S8192x11008 .f32)
    (shapeCast S11008x4096 (extractStridedSlice S1x11008x4096 ![0, 0, 0] W Cert.Reference3Ideal.Facts₀.slices_S2x11008x4096_S1x11008x4096_0_0_0 : FVec Ideal S1x11008x4096 .f32)
      Cert.Reference3Ideal.Facts₀.shapeCasts_S1x11008x4096_S11008x4096 : FVec Ideal S11008x4096 .f32))

theorem refDown_apply (A : FVec Ideal S8192x11008 .bf16) (W : FVec Ideal S2x11008x4096 .f32) (X : FVec Ideal S8192x4096 .f32) (row : Fin 8192) (col : Fin 4096) :
    refDown A W X (ix2 row col) = (X (ix2 row col) : EReal) + ∑ k : Fin 11008, (A (ix2 row k) : EReal) * W (ix3 0 k col) := by
  unfold refDown
  pointwise [Cert.Reference3Ideal.dot_S8192x11008_S11008x4096_S8192x4096_1_0_0_1_n_n]

/-- What the kernel leaves is the reference of the arguments. -/
theorem result_eq (m : (ℓ : Loc nD τ sig) → Buf (Elt Ideal) ℓ) (c : Dev nD) (A : FVec Ideal S8192x11008 .bf16) (W : FVec Ideal S2x11008x4096 .f32) (X : FVec Ideal S8192x4096 .f32)
    (hA : m ((c.tc : Thread nD τ).loc main_arg0) = A) (hW : m ((c.tc : Thread nD τ).loc main_arg1) = W) (hX : m ((c.tc : Thread nD τ).loc main_arg2) = X) :
    (dats m 0 c).arrAt 3 cfg0.N = refDown A W X := by
  subst hA hW hX
  rw [array_eq m c, V_main_arg0, V_main_arg2]
  refine funext fun (y : S8192x4096.Idx) => ?_
  obtain ⟨row, col, rfl⟩ : ∃ (row : Fin 8192) (col : Fin 4096), y = ix2 row col := ⟨y 0, y 1, by funext k; fin_cases k <;> rfl⟩
  refine Eq.trans ?_ (refDown_apply _ _ _ row col).symm
  exact congrArg₂ (fun a b : EReal => a + b) rfl
    (Finset.sum_congr rfl fun k _ => congrArg₂ (fun a b : EReal => a * b) rfl (weights_apply m c k col))

end Cert.Down

end
-- ==== Proof.InProj.lean ====
/- The call in_proj: the weights are stored by columns, so a block of the result is rows of the left array against rows of
   the weights' block; the first point of a block of columns keeps the rounded weights in scratch and the other points read
   them there. The array is the whole product, as the reference computes it. -/
module

public import proofs.«01_k».proof.Proof.Sums
public import proofs.«01_k».proof.Proof.Gen.Kernel4Ideal.Value
public import proofs.«01_k».proof.Proof.Gen.Reference4Ideal.Run
public import Idealize.ShloMosaic.Lib.Pipeline.ValueKit.Tiles

@[expose] public section

set_option maxRecDepth 16384

noncomputable section

namespace Cert.InProj

open Cert.Kernel4Ideal Cert.Kernel4Ideal.Gen Cert.Kernel4Ideal.Value Idealize.ShloMosaic Idealize.ShloMosaic.TcCoe Idealize.SL.Sem Idealize.ShloMosaic.Tactic
open Idealize.ShloMosaic.StableHlo
open Cert.Sums (read_whole zero2 zero3)

/-- The first point's product at an element; -/
theorem pay3_apply (a : Vec Ideal S1024x4096 .bf16) (w : Vec Ideal S1x512x4096 .f32) (r : Fin 1024) (l : Fin 512) :
    k0_pay3 (F := Ideal) a w (ix2 r l) = ∑ k : Fin 4096, (a (ix2 r k) : EReal) * w (ix3 0 l k) := by
  unfold k0_pay3 k0_pay1
  pointwise [dot_S1024x4096_S512x4096_S1024x512_1_1_0_0_n_n]

/-- the other points'; -/
theorem pay4_apply (a : Vec Ideal S1024x4096 .bf16) (w : Vec Ideal S512x4096 .bf16) (r : Fin 1024) (l : Fin 512) :
    k0_pay4 (F := Ideal) a w (ix2 r l) = ∑ k : Fin 4096, (a (ix2 r k) : EReal) * w (ix2 l k) := by
  unfold k0_pay4
  pointwise [dot_S1024x4096_S512x4096_S1024x512_1_1_0_0_n_n]

/-- the weights the first point keeps. -/
theorem pay2_apply (w : Vec Ideal S1x512x4096 .f32) (l : Fin 512) (k : Fin 4096) :
    k0_pay2 (F := Ideal) w (ix2 l k) = w (ix3 0 l k) := by
  unfold k0_pay2 k0_pay1
  pointwise

section Point

variable (c : Dev nD) (i : grid0.Coords) (arg2 : Memref sig .tc .vmem S1024x4096 .bf16) (harg2 : arg2.IsWhole)
  (arg3 : Memref sig .tc .vmem S1x512x4096 .f32) (harg3 : arg3.IsWhole) (arg4 : Memref sig .tc .vmem S1024x512 .f32) (harg4 : arg4.IsWhole)
  (arg5 : Memref sig .tc .vmem S512x4096 .bf16) (harg5 : arg5.IsWhole)
  (x0 : Vec Ideal S1024x4096 .bf16) (x1 : Vec Ideal S1x512x4096 .f32)

/-- A point that starts a block of columns multiplies by the weights; -/
theorem out_A (hc0 : cond0_0 i) (hc1 : ¬cond0_1 i) (r : Fin 1024) (l : Fin 512) :
    out0_A_2 (F := Ideal) c i arg2 harg2 arg3 harg3 arg4 harg4 arg5 harg5 hc0 hc1 x0 x1 (ix2 r l) = ∑ k : Fin 4096, (x0 (ix2 r k) : EReal) * x1 (ix3 0 l k) := by
  unfold out0_A_2
  rw [View.read_writes_eq_canon _ _ _ (fun y => cover0_A_2 (F := Ideal) c i arg2 harg2 arg3 harg3 arg4 harg4 arg5 harg5 hc0 hc1 x0 x1 y)]
  unfold kernelRun0_A
  dsimp only
  rw [View.canon_cons_unit_zero zero2, read_whole zero2, read_whole zero3, pay3_apply]

/-- and keeps them; -/
theorem kept_A (hc0 : cond0_0 i) (hc1 : ¬cond0_1 i) (l : Fin 512) (k : Fin 4096) :
    sout0_A_0 (F := Ideal) c i arg2 harg2 arg3 harg3 arg4 harg4 arg5 harg5 hc0 hc1 x0 x1 (ix2 l k) = x1 (ix3 0 l k) := by
  unfold sout0_A_0
  rw [View.read_writes_eq_canon _ _ _ (fun y => scover0_A_0 (F := Ideal) c i arg2 harg2 arg3 harg3 arg4 harg4 arg5 harg5 hc0 hc1 x0 x1 y)]
  unfold kernelRun0_A
  dsimp only
  rw [View.canon_cons_unit_zero zero2, read_whole zero3, pay2_apply]

/-- another multiplies by what was kept. -/
theorem out_B (hc0 : ¬cond0_0 i) (hc1 : cond0_1 i) (xs : Vec Ideal S512x4096 .bf16) (r : Fin 1024) (l : Fin 512) :
    out0_B_2 (F := Ideal) c i arg2 harg2 arg3 harg3 arg4 harg4 arg5 harg5 hc0 hc1 x0 x1 xs (ix2 r l) = ∑ k : Fin 4096, (x0 (ix2 r k) : EReal) * xs (ix2 l k) := by
  unfold out0_B_2
  rw [View.read_writes_eq_canon _ _ _ (fun y => cover0_B_2 (F := Ideal) c i arg2 harg2 arg3 harg3 arg4 harg4 arg5 harg5 hc0 hc1 x0 x1 xs y)]
  unfold kernelRun0_B
  dsimp only
  rw [View.canon_cons_unit_zero zero2, read_whole zero2, read_whole zero2, pay4_apply]

end Point

section
variable (m : (ℓ : Loc nD τ sig) → Buf (Elt Ideal) ℓ) (c : Dev nD)

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = t.val / 8 ∧ win0_1.index t 2 = 0 :=
  (by decide +kernel : ∀ t : Fin grid0.N, win0_1.index t 0 = 0 ∧ win0_1.index t 1 = t.val / 8 ∧ win0_1.index t 2 = 0)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

theorem lt144 (t : Fin cfg0.N) : t.val < 144 := t.isLt.trans_eq (show cfg0.N = 144 from N_0)

/-- The left block of a point, read from its array; -/
theorem blk0 (t : Fin cfg0.N) (r : Fin 1024) (k : Fin 4096) : (iblk m c 0 t : Vec Ideal S1024x4096 .bf16) (ix2 r k)
    = V m c main_arg0 (ix2 ⟨t.val % 8 * 1024 + r.val, by omega⟩ k) := by
  unfold iblk
  rw [View.read_apply]
  show V m c main_arg0 _ = _
  congr 1
  funext a
  apply Fin.ext
  match a with
  | ⟨0, _⟩ => show win0_0.index t 0 * 1024 + 1 * r.val = _; rw [(idx0 t).1, Nat.one_mul]; rfl
  | ⟨1, _⟩ => show win0_0.index t 1 * 4096 + 1 * k.val = _; rw [(idx0 t).2, Nat.one_mul, Nat.zero_mul, Nat.zero_add]; rfl

/-- the block of the weights. -/
theorem blk1 (t : Fin cfg0.N) (l : Fin 512) (k : Fin 4096) : (X0_1 m c t : Vec Ideal S1x512x4096 .f32) (ix3 0 l k)
    = V m c main_v0 (ix3 0 ⟨t.val / 8 * 512 + l.val, by have := lt144 t; omega⟩ k) := by
  unfold X0_1 Pipeline.Window.fill
  rw [dif_pos (moved0_1 t _)]
  unfold iblk
  rw [View.read_apply]
  show V m c main_v0 _ = _
  congr 1
  funext a
  apply Fin.ext
  match a with
  | ⟨0, _⟩ => show win0_1.index t 0 * 1 + 1 * 0 = _; rw [(idx1 t).1]; rfl
  | ⟨1, _⟩ => show win0_1.index t 1 * 512 + 1 * l.val = _; rw [(idx1 t).2.1, Nat.one_mul]; rfl
  | ⟨2, _⟩ => show win0_1.index t 2 * 4096 + 1 * k.val = _; rw [(idx1 t).2.2, Nat.one_mul, Nat.zero_mul, Nat.zero_add]; rfl

/-- The weights the launch finds: the columns of the argument as rows. -/
theorem weights_apply (l : Fin 9280) (k : Fin 4096) :
    (V m c main_v0 : Vec Ideal S4x9280x4096 .f32) (ix3 0 l k) = (m ((c : Thread nD τ).loc main_arg1) : Vec Ideal S4x4096x9280 .f32) (ix3 0 k l) := by
  have h : (V m c main_v0 : Vec Ideal S4x9280x4096 .f32) = (transpose S4x9280x4096 [0, 2, 1]
      (m ((c : Thread nD τ).loc main_arg1) : FVec Ideal S4x4096x9280 .f32) transposes_S4x4096x9280_S4x9280x4096_0_2_1 : FVec Ideal S4x9280x4096 .f32) := by
    dsimp only [V]
    simp only [hostOps0]
    after_results_simp
  rw [h]
  generalize (m ((c : Thread nD τ).loc main_arg1) : FVec Ideal S4x4096x9280 .f32) = W
  pointwise

/-- What is kept after a point: the weights of its block of columns. -/
theorem kept_eq : ∀ (n : ℕ) (hn : n < cfg0.N) (l : Fin 512) (k : Fin 4096),
    ((outsAt0 m c n hn).2 : Vec Ideal S512x4096 .bf16) (ix2 l k)
      = V m c main_v0 (ix3 0 ⟨n / 8 * 512 + l.val, by have := lt144 ⟨n, hn⟩; dsimp only at this; omega⟩ k) := by
  intro n
  induction n with
  | zero =>
    intro hn l k
    have e : outsAt0 m c 0 hn = _ := outsAt0_A m c ⟨0, hn⟩ rfl (by show ¬ 1 ≤ 0 % 8; decide)
    rw [e]
    dsimp only
    rw [kept_A]
    exact blk1 m c ⟨0, hn⟩ l k
  | succ n ih =>
    intro hn l k
    by_cases h0 : (n + 1) % 8 = 0
    · have e : outsAt0 m c (n + 1) hn = _ := outsAt0_A m c ⟨n + 1, hn⟩ h0 (by show ¬ 1 ≤ (n + 1) % 8; omega)
      rw [e]
      dsimp only
      rw [kept_A]
      exact blk1 m c ⟨n + 1, hn⟩ l k
    · have e : outsAt0 m c (n + 1) hn = _ := outsAt0_B m c ⟨n + 1, hn⟩ h0 (by show 1 ≤ (n + 1) % 8; omega)
      rw [e]
      refine (ih (Nat.lt_of_succ_lt hn) l k).trans (congrArg (fun x => V m c main_v0 (ix3 0 x k)) (Fin.ext ?_))
      show n / 8 * 512 + l.val = (n + 1) / 8 * 512 + l.val
      omega

/-- The product at a row and column, the weights by columns. -/
def projAt (A : Vec Ideal S8192x4096 .bf16) (W : Vec Ideal S4x9280x4096 .f32) (row : Fin 8192) (col : Fin 9216) : EReal :=
  ∑ k : Fin 4096, (A (ix2 row k) : EReal) * W (ix3 0 ⟨col.val, by omega⟩ k)

/-- What a point leaves in its block. -/
theorem out_eq (t : Fin cfg0.N) (r : Fin 1024) (l : Fin 512) :
    ((outsAt0 m c t.val t.isLt).1 : Vec Ideal S1024x512 .f32) (ix2 r l)
      = projAt (V m c main_arg0) (V m c main_v0) ⟨t.val % 8 * 1024 + r.val, by omega⟩ ⟨t.val / 8 * 512 + l.val, by have := lt144 t; omega⟩ := by
  unfold projAt
  by_cases h0 : t.val % 8 = 0
  · rw [outsAt0_A m c t h0 (by omega)]
    dsimp only
    rw [out_A]
    exact Finset.sum_congr rfl fun k _ => congrArg₂ (fun a b : EReal => a * b) (blk0 m c t r k) (blk1 m c t l k)
  · rw [outsAt0_B m c t h0 (by omega)]
    dsimp only
    rw [out_B]
    refine Finset.sum_congr rfl fun k _ => congrArg₂ (fun a b : EReal => a * b) (blk0 m c t r k)
      ((kept_eq m c (t.val - 1) _ l k).trans (congrArg (fun x => V m c main_v0 (ix3 0 x k)) (Fin.ext ?_)))
    show (t.val - 1) / 8 * 512 + l.val = t.val / 8 * 512 + l.val
    omega

/-- A point's block of an array of the result's shape, read at an index. -/
theorem read2 (G : Vec Ideal S8192x9216 .f32) (t : Fin cfg0.N) (r : Fin 1024) (l : Fin 512) :
    (((cfg0.win 2).blk t).view.read (Elt Ideal) G : Vec Ideal S1024x512 .f32) (ix2 r l)
      = G (ix2 ⟨t.val % 8 * 1024 + r.val, by omega⟩ ⟨t.val / 8 * 512 + l.val, by have := lt144 t; omega⟩) := by
  rw [View.read_apply]
  show G _ = _
  congr 1
  funext a
  apply Fin.ext
  match a with
  | ⟨0, _⟩ => show win0_2.index t 0 * 1024 + 1 * r.val = _; rw [(idx2 t).1, Nat.one_mul]; rfl
  | ⟨1, _⟩ => show win0_2.index t 1 * 512 + 1 * l.val = _; rw [(idx2 t).2, Nat.one_mul]; rfl

/-- The product as an array. -/
def projArray (A : Vec Ideal S8192x4096 .bf16) (W : Vec Ideal S4x9280x4096 .f32) : Vec Ideal S8192x9216 .f32 :=
  fun y => projAt A W (y 0) (y 1)

theorem projArray_apply (A : Vec Ideal S8192x4096 .bf16) (W : Vec Ideal S4x9280x4096 .f32) (row : Fin 8192) (col : Fin 9216) :
    projArray A W (ix2 row col) = projAt A W row col := rfl

/-- So what a point writes back is its block of that array. -/
theorem flushed_eq (t : Fin cfg0.N) : (dats m 0 c).flushed 2 t = ((cfg0.win 2).blk t).view.read (Elt Ideal)
    (projArray (V m c main_arg0) (V m c main_v0)) := by
  rw [flushed2]
  generalize hG : projArray (V m c main_arg0) (V m c main_v0) = G
  have key : ∀ (r : Fin 1024) (l : Fin 512), ((outsAt0 m c t.val t.isLt).1 : Vec Ideal S1024x512 .f32) (ix2 r l)
      = (((cfg0.win 2).blk t).view.read (Elt Ideal) G : Vec Ideal S1024x512 .f32) (ix2 r l) := by
    intro r l
    rw [read2, ← hG, projArray_apply]
    exact out_eq m c t r l
  generalize (outsAt0 m c t.val t.isLt).1 = O at key ⊢
  funext y
  have hy : (y : S1024x512.Idx) = ix2 (y 0) (y 1) := by funext k; fin_cases k <;> rfl
  rw [hy]
  exact key (y 0) (y 1)

/-- The array at the end: the product everywhere. -/
theorem array_eq : (dats m 0 c).arrAt 2 cfg0.N = projArray (V m c main_arg0) (V m c main_v0) := by
  refine (dats m 0 c).arrAt_eq_of_cover 2 (projArray (V m c main_arg0) (V m c main_v0))
    (fun t _ => flushed_eq m c t) (fun (i : S8192x9216.Idx) => ?_)
  have h0 : (i 0 : Nat) < 8192 := (i 0).isLt
  have h1 : (i 1 : Nat) < 9216 := (i 1).isLt
  let t : Fin cfg0.N := ⟨(i 1 : Nat) / 512 * 8 + (i 0 : Nat) / 1024, (by omega : _ < 144).trans_eq (show 144 = cfg0.N from N_0.symm)⟩
  have ht : t.val = (i 1 : Nat) / 512 * 8 + (i 0 : Nat) / 1024 := rfl
  refine ⟨t, flush0_2 t, ?_⟩
  show i ∈ ((View.whole main_v1).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(idx2 t).1, ht]
    omega
  | ⟨1, _⟩ =>
    show win0_2.index t 1 * 512 ≤ (i 1 : Nat) ∧ (i 1 : Nat) < win0_2.index t 1 * 512 + 512
    rw [(idx2 t).2, ht]
    omega

end

/-- The reference: the product with the layer's weights. -/
def refProj (A : FVec Ideal S8192x4096 .bf16) (W : FVec Ideal S4x4096x9280 .f32) : FVec Ideal S8192x9216 .f32 :=
  Host.dotGeneral Cert.Reference4Ideal.dot_S8192x4096_S4096x9216_S8192x9216_1_0_0_1_n_n none (extf .f32 A bitsLt_bf16_f32 : FVec Ideal S8192x4096 .f32)
    (shapeCast Cert.Reference4Ideal.S4096x9216 (extractStridedSlice Cert.Reference4Ideal.S1x4096x9216 ![0, 0, 0] W Cert.Reference4Ideal.Facts₀.slices_S4x4096x9280_S1x4096x9216_0_0_0 : FVec Ideal Cert.Reference4Ideal.S1x4096x9216 .f32)
      Cert.Reference4Ideal.Facts₀.shapeCasts_S1x4096x9216_S4096x9216 : FVec Ideal Cert.Reference4Ideal.S4096x9216 .f32)

theorem refProj_apply (A : FVec Ideal S8192x4096 .bf16) (W : FVec Ideal S4x4096x9280 .f32) (row : Fin 8192) (col : Fin 9216) :
    refProj A W (ix2 row col) = ∑ k : Fin 4096, (A (ix2 row k) : EReal) * W (ix3 0 k ⟨col.val, by omega⟩) := by
  unfold refProj
  pointwise [Cert.Reference4Ideal.dot_S8192x4096_S4096x9216_S8192x9216_1_0_0_1_n_n]

/-- What the kernel leaves is the reference of the arguments. -/
theorem result_eq (m : (ℓ : Loc nD τ sig) → Buf (Elt Ideal) ℓ) (c : Dev nD) (A : FVec Ideal S8192x4096 .bf16) (W : FVec Ideal S4x4096x9280 .f32)
    (hA : m ((c.tc : Thread nD τ).loc main_arg0) = A) (hW : m ((c.tc : Thread nD τ).loc main_arg1) = W) :
    (dats m 0 c).arrAt 2 cfg0.N = refProj A W := by
  subst hA hW
  rw [array_eq m c, V_main_arg0]
  refine funext fun (y : S8192x9216.Idx) => ?_
  obtain ⟨row, col, rfl⟩ : ∃ (row : Fin 8192) (col : Fin 9216), y = ix2 row col := ⟨y 0, y 1, by funext k; fin_cases k <;> rfl⟩
  refine ((projArray_apply _ _ row col).trans ?_).trans (refProj_apply _ _ row col).symm
  unfold projAt
  exact Finset.sum_congr rfl fun k _ => congrArg₂ (fun a b : EReal => a * b) rfl (weights_apply m c ⟨col.val, by omega⟩ k)

end Cert.InProj

end
-- ==== Proof.OutProj.lean ====
/- The call out_proj: the first point of a block of columns multiplies slab by slab, rounding each slab of the weights and
   keeping it in scratch; the other points multiply by the whole scratch. Both add the residual. The array is the residual
   plus the whole product, as the reference computes it. -/
module

public import proofs.«01_k».proof.Proof.Sums
public import proofs.«01_k».proof.Proof.Gen.Kernel5Ideal.Value
public import proofs.«01_k».proof.Proof.Gen.Reference5Ideal.Run
public import Idealize.ShloMosaic.Lib.Pipeline.ValueKit.Tiles

@[expose] public section

set_option maxRecDepth 16384

noncomputable section

namespace Cert.OutProj

open Cert.Kernel5Ideal Cert.Kernel5Ideal.Gen Cert.Kernel5Ideal.Value Idealize.ShloMosaic Idealize.ShloMosaic.TcCoe Idealize.SL.Sem Idealize.ShloMosaic.Tactic
open Idealize.ShloMosaic.StableHlo
open Cert.Sums (read_whole zero2 zero3)

/-- The first point's value at an element: the residual and the products slab by slab; -/
theorem pay2_apply (a : Vec Ideal S1024x4096 .bf16) (w0 w1 w2 w3 w4 w5 w6 w7 : Vec Ideal S1x512x512 .f32) (x : Vec Ideal S1024x512 .f32) (r : Fin 1024) (l : Fin 512) :
    k0_pay2 (F := Ideal) a (k0_pay19 a (k0_pay10 a w0 w1 w2) (k0_pay11 w3) w4 w5 w6) (k0_pay20 w7) x (ix2 r l)
      = (x (ix2 r l) : EReal) + ((((((((∑ k : Fin 512, (a (ix2 r ⟨0 + k.val, by omega⟩) : EReal) * w0 (ix3 0 k l))
        + ∑ k : Fin 512, (a (ix2 r ⟨512 + k.val, by omega⟩) : EReal) * w1 (ix3 0 k l))
        + ∑ k : Fin 512, (a (ix2 r ⟨1024 + k.val, by omega⟩) : EReal) * w2 (ix3 0 k l))
        + ∑ k : Fin 512, (a (ix2 r ⟨1536 + k.val, by omega⟩) : EReal) * w3 (ix3 0 k l))
        + ∑ k : Fin 512, (a (ix2 r ⟨2048 + k.val, by omega⟩) : EReal) * w4 (ix3 0 k l))
        + ∑ k : Fin 512, (a (ix2 r ⟨2560 + k.val, by omega⟩) : EReal) * w5 (ix3 0 k l))
        + ∑ k : Fin 512, (a (ix2 r ⟨3072 + k.val, by omega⟩) : EReal) * w6 (ix3 0 k l))
        + ∑ k : Fin 512, (a (ix2 r ⟨3584 + k.val, by omega⟩) : EReal) * w7 (ix3 0 k l)) := by
  unfold k0_pay2 k0_pay19 k0_pay10 k0_pay11 k0_pay20 k0_pay4 k0_pay6 k0_pay8 k0_pay13 k0_pay15 k0_pay17
  pointwise [dot_S1024x512_S512x512_S1024x512_1_0_0_1_n_n]

/-- the other points'; -/
theorem pay3_apply (a : Vec Ideal S1024x4096 .bf16) (w : Vec Ideal S4096x512 .bf16) (x : Vec Ideal S1024x512 .f32) (r : Fin 1024) (l : Fin 512) :
    k0_pay3 (F := Ideal) a w x (ix2 r l) = (x (ix2 r l) : EReal) + ∑ k : Fin 4096, (a (ix2 r k) : EReal) * w (ix2 k l) := by
  unfold k0_pay3
  pointwise [dot_S1024x4096_S4096x512_S1024x512_1_0_0_1_n_n]

/-- a slab of the weights, rounded. -/
theorem slab_apply (w : Vec Ideal S1x4096x512 .f32) (o : ℕ) (ho : o + 512 ≤ 4096) (inb) (k l : Fin 512) :
    View.ld w (Rect.unit (s := S1x4096x512) ![0, o, 0] S1x512x512.size inb) (ix3 0 k l) = w (ix3 0 ⟨o + k.val, by omega⟩ l) :=
  View.ld_unit_apply_of _ _ _ _ _ _ (fun k => by
    fin_cases k
    · rfl
    · rfl
    · show l.val = 0 + l.val
      omega)

/-- A rounded slab at an element. -/
theorem round_apply (w : Vec Ideal S1x512x512 .f32) (k l : Fin 512) : k0_pay5 (F := Ideal) w (ix2 k l) = w (ix3 0 k l) := by
  unfold k0_pay5 k0_pay4
  pointwise

/-- A slab of the weights as the body reads it. -/
abbrev slabOf (arg3 : Memref sig .tc .vmem S1x4096x512 .f32) (harg3 : arg3.IsWhole) (w : Vec Ideal S1x4096x512 .f32) (o : ℕ)
    (inb : ∀ k, (![0, o, 0] : Fin 3 → ℕ) k + S1x512x512.size k ≤ S1x4096x512.size k) : Vec Ideal S1x512x512 .f32 :=
  View.readAt (Elt Ideal) arg3.view (Rect.unit (s := S1x4096x512) ![0, o, 0] S1x512x512.size inb).toLoadRect (harg3.unread w)

theorem slabOf_apply (arg3 : Memref sig .tc .vmem S1x4096x512 .f32) (harg3 : arg3.IsWhole) (w : Vec Ideal S1x4096x512 .f32) (o : ℕ) (ho : o + 512 ≤ 4096) (inb) (k l : Fin 512) :
    slabOf arg3 harg3 w o inb (ix3 0 k l) = w (ix3 0 ⟨o + k.val, by omega⟩ l) := by
  unfold slabOf
  rw [View.readAt_eq_ld, harg3.read_unread]
  exact slab_apply w o ho inb k l

/-- A rounded slab, kept: the weights at its place. -/
theorem kept_piece (arg3 : Memref sig .tc .vmem S1x4096x512 .f32) (harg3 : arg3.IsWhole) (w : Vec Ideal S1x4096x512 .f32) (o : ℕ) (inb) (inb') (x : S512x512.Idx) :
    k0_pay5 (F := Ideal) (slabOf arg3 harg3 w o inb) x
      = (fun y : S4096x512.Idx => (w (ix3 0 (y 0) (y 1)) : EReal)) ((Rect.unit (s := S4096x512) ![o, 0] S512x512.size inb').emb x) := by
  obtain ⟨k, l, rfl⟩ : ∃ (k l : Fin 512), x = ix2 k l := ⟨x 0, x 1, by funext k; fin_cases k <;> rfl⟩
  rw [round_apply, slabOf_apply arg3 harg3 w o (inb 1)]
  show w _ = w _
  congr 1
  funext a
  apply Fin.ext
  match a with
  | ⟨0, _⟩ => rfl
  | ⟨1, _⟩ => show o + k.val = o + 1 * k.val; omega
  | ⟨2, _⟩ => show l.val = 0 + 1 * l.val; omega

section Point

variable (c : Dev nD) (i : grid0.Coords) (arg2 : Memref sig .tc .vmem S1024x4096 .bf16) (harg2 : arg2.IsWhole)
  (arg3 : Memref sig .tc .vmem S1x4096x512 .f32) (harg3 : arg3.IsWhole) (arg4 : Memref sig .tc .vmem S1024x512 .f32) (harg4 : arg4.IsWhole)
  (arg5 : Memref sig .tc .vmem S1024x512 .f32) (harg5 : arg5.IsWhole) (arg6 : Memref sig .tc .vmem S4096x512 .bf16) (harg6 : arg6.IsWhole)
  (x0 : Vec Ideal S1024x4096 .bf16) (x1 : Vec Ideal S1x4096x512 .f32) (x2 : Vec Ideal S1024x512 .f32)

/-- A point that starts a block of columns adds the residual and the product with the weights; -/
theorem out_A (hc0 : cond0_0 i) (hc1 : ¬cond0_1 i) (r : Fin 1024) (l : Fin 512) :
    out0_A_3 (F := Ideal) c i arg2 harg2 arg3 harg3 arg4 harg4 arg5 harg5 arg6 harg6 hc0 hc1 x0 x1 x2 (ix2 r l)
      = (x2 (ix2 r l) : EReal) + ∑ k : Fin 4096, (x0 (ix2 r k) : EReal) * x1 (ix3 0 k l) := by
  unfold out0_A_3
  rw [View.read_writes_eq_canon _ _ _ (fun y => cover0_A_3 (F := Ideal) c i arg2 harg2 arg3 harg3 arg4 harg4 arg5 harg5 arg6 harg6 hc0 hc1 x0 x1 x2 y)]
  unfold kernelRun0_A
  dsimp only
  rw [View.canon_cons_unit_zero zero2]
  refine (pay2_apply (View.readAt (Elt Ideal) arg2.view (Rect.unit (s := S1024x4096) ![0, 0] S1024x4096.size inb_S1024x4096_S1024x4096_0_0).toLoadRect (harg2.unread x0))
    (slabOf arg3 harg3 x1 0 (by decide)) (slabOf arg3 harg3 x1 512 (by decide)) (slabOf arg3 harg3 x1 1024 (by decide)) (slabOf arg3 harg3 x1 1536 (by decide))
    (slabOf arg3 harg3 x1 2048 (by decide)) (slabOf arg3 harg3 x1 2560 (by decide)) (slabOf arg3 harg3 x1 3072 (by decide)) (slabOf arg3 harg3 x1 3584 (by decide))
    (View.readAt (Elt Ideal) arg4.view (Rect.unit (s := S1024x512) ![0, 0] S1024x512.size inb_S1024x512_S1024x512_0_0).toLoadRect (harg4.unread x2)) r l).trans ?_
  rw [read_whole zero2, read_whole zero2, Cert.Sums.sum_eight]
  have h : ∀ (o : ℕ) (ho : o + 512 ≤ 4096) (inb), ∑ k : Fin 512, (x0 (ix2 r ⟨o + k.val, by omega⟩) : EReal) * slabOf arg3 harg3 x1 o inb (ix3 0 k l)
      = ∑ k : Fin 512, (x0 (ix2 r ⟨o + k.val, by omega⟩) : EReal) * x1 (ix3 0 ⟨o + k.val, by omega⟩ l) := fun o ho inb =>
    Finset.sum_congr rfl fun k _ => congrArg (fun z : EReal => (x0 (ix2 r ⟨o + k.val, by omega⟩) : EReal) * z) (slabOf_apply arg3 harg3 x1 o ho inb k l)
  rw [h 0 (by decide), h 512 (by decide), h 1024 (by decide), h 1536 (by decide), h 2048 (by decide), h 2560 (by decide), h 3072 (by decide), h 3584 (by decide)]
  simp only [Nat.zero_add]

/-- and keeps the weights; -/
theorem kept_A (hc0 : cond0_0 i) (hc1 : ¬cond0_1 i) (k : Fin 4096) (l : Fin 512) :
    sout0_A_0 (F := Ideal) c i arg2 harg2 arg3 harg3 arg4 harg4 arg5 harg5 arg6 harg6 hc0 hc1 x0 x1 x2 (ix2 k l) = x1 (ix3 0 k l) := by
  unfold sout0_A_0
  rw [View.read_writes_eq_canon _ _ _ (fun y => scover0_A_0 (F := Ideal) c i arg2 harg2 arg3 harg3 arg4 harg4 arg5 harg5 arg6 harg6 hc0 hc1 x0 x1 x2 y)]
  refine View.canon_apply_of_pieces (fun y : S4096x512.Idx => (x1 (ix3 0 (y 0) (y 1)) : EReal)) _ ?_ (ix2 k l)
    (scover0_A_0 (F := Ideal) c i arg2 harg2 arg3 harg3 arg4 harg4 arg5 harg5 arg6 harg6 hc0 hc1 x0 x1 x2 (ix2 k l))
  unfold kernelRun0_A
  dsimp only
  have h := kept_piece arg3 harg3 x1
  exact List.forall_mem_cons.2 ⟨h 3584 (by decide) (by decide), List.forall_mem_cons.2 ⟨h 3072 (by decide) (by decide),
    List.forall_mem_cons.2 ⟨h 2560 (by decide) (by decide), List.forall_mem_cons.2 ⟨h 2048 (by decide) (by decide),
    List.forall_mem_cons.2 ⟨h 1536 (by decide) (by decide), List.forall_mem_cons.2 ⟨h 1024 (by decide) (by decide),
    List.forall_mem_cons.2 ⟨h 512 (by decide) (by decide), List.forall_mem_cons.2 ⟨h 0 (by decide) (by decide), List.forall_mem_nil _⟩⟩⟩⟩⟩⟩⟩⟩

/-- another multiplies by what was kept. -/
theorem out_B (hc0 : ¬cond0_0 i) (hc1 : cond0_1 i) (xs : Vec Ideal S4096x512 .bf16) (r : Fin 1024) (l : Fin 512) :
    out0_B_3 (F := Ideal) c i arg2 harg2 arg3 harg3 arg4 harg4 arg5 harg5 arg6 harg6 hc0 hc1 x0 x1 x2 xs (ix2 r l)
      = (x2 (ix2 r l) : EReal) + ∑ k : Fin 4096, (x0 (ix2 r k) : EReal) * xs (ix2 k l) := by
  unfold out0_B_3
  rw [View.read_writes_eq_canon _ _ _ (fun y => cover0_B_3 (F := Ideal) c i arg2 harg2 arg3 harg3 arg4 harg4 arg5 harg5 arg6 harg6 hc0 hc1 x0 x1 x2 xs y)]
  unfold kernelRun0_B
  dsimp only
  rw [View.canon_cons_unit_zero zero2, read_whole zero2, read_whole zero2, read_whole zero2, pay3_apply]

end Point

section
variable (m : (ℓ : Loc nD τ sig) → Buf (Elt Ideal) ℓ) (c : Dev nD)

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)
theorem idx3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)

theorem lt64 (t : Fin cfg0.N) : t.val < 64 := t.isLt.trans_eq (show cfg0.N = 64 from N_0)

/-- The left block of a point, read from its array; -/
theorem blk0 (t : Fin cfg0.N) (r : Fin 1024) (k : Fin 4096) : (iblk m c 0 t : Vec Ideal S1024x4096 .bf16) (ix2 r k)
    = V m c main_arg0 (ix2 ⟨t.val % 8 * 1024 + r.val, by omega⟩ k) := by
  unfold iblk
  rw [View.read_apply]
  show V m c main_arg0 _ = _
  congr 1
  funext a
  apply Fin.ext
  match a with
  | ⟨0, _⟩ => show win0_0.index t 0 * 1024 + 1 * r.val = _; rw [(idx0 t).1, Nat.one_mul]; rfl
  | ⟨1, _⟩ => show win0_0.index t 1 * 4096 + 1 * k.val = _; rw [(idx0 t).2, Nat.one_mul, Nat.zero_mul, Nat.zero_add]; rfl

/-- the block of the weights; -/
theorem blk1 (t : Fin cfg0.N) (k : Fin 4096) (l : Fin 512) : (iblk m c 1 t : Vec Ideal S1x4096x512 .f32) (ix3 0 k l)
    = V m c main_arg1 (ix3 0 k ⟨t.val / 8 * 512 + l.val, by have := lt64 t; omega⟩) := by
  unfold iblk
  rw [View.read_apply]
  show V m c main_arg1 _ = _
  congr 1
  funext a
  apply Fin.ext
  match a with
  | ⟨0, _⟩ => show win0_1.index t 0 * 1 + 1 * 0 = _; rw [(idx1 t).1]; rfl
  | ⟨1, _⟩ => show win0_1.index t 1 * 4096 + 1 * k.val = _; rw [(idx1 t).2.1, Nat.one_mul, Nat.zero_mul, Nat.zero_add]; rfl
  | ⟨2, _⟩ => show win0_1.index t 2 * 512 + 1 * l.val = _; rw [(idx1 t).2.2, Nat.one_mul]; rfl

/-- the block of the residual. -/
theorem blk2 (t : Fin cfg0.N) (r : Fin 1024) (l : Fin 512) : (iblk m c 2 t : Vec Ideal S1024x512 .f32) (ix2 r l)
    = V m c main_arg2 (ix2 ⟨t.val % 8 * 1024 + r.val, by omega⟩ ⟨t.val / 8 * 512 + l.val, by have := lt64 t; omega⟩) := by
  unfold iblk
  rw [View.read_apply]
  show V m c main_arg2 _ = _
  congr 1
  funext a
  apply Fin.ext
  match a with
  | ⟨0, _⟩ => show win0_2.index t 0 * 1024 + 1 * r.val = _; rw [(idx2 t).1, Nat.one_mul]; rfl
  | ⟨1, _⟩ => show win0_2.index t 1 * 512 + 1 * l.val = _; rw [(idx2 t).2, Nat.one_mul]; rfl

/-- What is kept after a point: the weights of its block of columns. -/
theorem kept_eq : ∀ (n : ℕ) (hn : n < cfg0.N) (k : Fin 4096) (l : Fin 512),
    ((outsAt0 m c n hn).2 : Vec Ideal S4096x512 .bf16) (ix2 k l)
      = V m c main_arg1 (ix3 0 k ⟨n / 8 * 512 + l.val, by have := lt64 ⟨n, hn⟩; dsimp only at this; omega⟩) := by
  intro n
  induction n with
  | zero =>
    intro hn k l
    have e : outsAt0 m c 0 hn = _ := outsAt0_A m c ⟨0, hn⟩ rfl (by show ¬ 1 ≤ 0 % 8; decide)
    rw [e]
    dsimp only
    rw [kept_A]
    exact blk1 m c ⟨0, hn⟩ k l
  | succ n ih =>
    intro hn k l
    by_cases h0 : (n + 1) % 8 = 0
    · have e : outsAt0 m c (n + 1) hn = _ := outsAt0_A m c ⟨n + 1, hn⟩ h0 (by show ¬ 1 ≤ (n + 1) % 8; omega)
      rw [e]
      dsimp only
      rw [kept_A]
      exact blk1 m c ⟨n + 1, hn⟩ k l
    · have e : outsAt0 m c (n + 1) hn = _ := outsAt0_B m c ⟨n + 1, hn⟩ h0 (by show 1 ≤ (n + 1) % 8; omega)
      rw [e]
      refine (ih (Nat.lt_of_succ_lt hn) k l).trans (congrArg (fun x => V m c main_arg1 (ix3 0 k x)) (Fin.ext ?_))
      show n / 8 * 512 + l.val = (n + 1) / 8 * 512 + l.val
      omega

/-- The residual plus the product, at a row and column. -/
def projAt (A : Vec Ideal S8192x4096 .bf16) (W : Vec Ideal S4x4096x4096 .f32) (X : Vec Ideal S8192x4096 .f32) (row : Fin 8192) (col : Fin 4096) : EReal :=
  (X (ix2 row col) : EReal) + ∑ k : Fin 4096, (A (ix2 row k) : EReal) * W (ix3 0 k col)

/-- What a point leaves in its block. -/
theorem out_eq (t : Fin cfg0.N) (r : Fin 1024) (l : Fin 512) :
    ((outsAt0 m c t.val t.isLt).1 : Vec Ideal S1024x512 .f32) (ix2 r l)
      = projAt (V m c main_arg0) (V m c main_arg1) (V m c main_arg2) ⟨t.val % 8 * 1024 + r.val, by omega⟩ ⟨t.val / 8 * 512 + l.val, by have := lt64 t; omega⟩ := by
  unfold projAt
  by_cases h0 : t.val % 8 = 0
  · rw [outsAt0_A m c t h0 (by omega)]
    dsimp only
    rw [out_A]
    exact congrArg₂ (fun a b : EReal => a + b) (blk2 m c t r l)
      (Finset.sum_congr rfl fun k _ => congrArg₂ (fun a b : EReal => a * b) (blk0 m c t r k) (blk1 m c t k l))
  · rw [outsAt0_B m c t h0 (by omega)]
    dsimp only
    rw [out_B]
    refine congrArg₂ (fun a b : EReal => a + b) (blk2 m c t r l)
      (Finset.sum_congr rfl fun k _ => congrArg₂ (fun a b : EReal => a * b) (blk0 m c t r k)
        ((kept_eq m c (t.val - 1) _ k l).trans (congrArg (fun x => V m c main_arg1 (ix3 0 k x)) (Fin.ext ?_))))
    show (t.val - 1) / 8 * 512 + l.val = t.val / 8 * 512 + l.val
    omega

/-- A point's block of an array of the result's shape, read at an index. -/
theorem read3 (G : Vec Ideal S8192x4096 .f32) (t : Fin cfg0.N) (r : Fin 1024) (l : Fin 512) :
    (((cfg0.win 3).blk t).view.read (Elt Ideal) G : Vec Ideal S1024x512 .f32) (ix2 r l)
      = G (ix2 ⟨t.val % 8 * 1024 + r.val, by omega⟩ ⟨t.val / 8 * 512 + l.val, by have := lt64 t; omega⟩) := by
  rw [View.read_apply]
  show G _ = _
  congr 1
  funext a
  apply Fin.ext
  match a with
  | ⟨0, _⟩ => show win0_3.index t 0 * 1024 + 1 * r.val = _; rw [(idx3 t).1, Nat.one_mul]; rfl
  | ⟨1, _⟩ => show win0_3.index t 1 * 512 + 1 * l.val = _; rw [(idx3 t).2, Nat.one_mul]; rfl

/-- The residual plus the product, as an array. -/
def projArray (A : Vec Ideal S8192x4096 .bf16) (W : Vec Ideal S4x4096x4096 .f32) (X : Vec Ideal S8192x4096 .f32) : Vec Ideal S8192x4096 .f32 :=
  fun y => projAt A W X (y 0) (y 1)

theorem projArray_apply (A : Vec Ideal S8192x4096 .bf16) (W : Vec Ideal S4x4096x4096 .f32) (X : Vec Ideal S8192x4096 .f32) (row : Fin 8192) (col : Fin 4096) :
    projArray A W X (ix2 row col) = projAt A W X row col := rfl

/-- So what a point writes back is its block of that array. -/
theorem flushed_eq (t : Fin cfg0.N) : (dats m 0 c).flushed 3 t = ((cfg0.win 3).blk t).view.read (Elt Ideal)
    (projArray (V m c main_arg0) (V m c main_arg1) (V m c main_arg2)) := by
  rw [flushed3]
  generalize hG : projArray (V m c main_arg0) (V m c main_arg1) (V m c main_arg2) = G
  have key : ∀ (r : Fin 1024) (l : Fin 512), ((outsAt0 m c t.val t.isLt).1 : Vec Ideal S1024x512 .f32) (ix2 r l)
      = (((cfg0.win 3).blk t).view.read (Elt Ideal) G : Vec Ideal S1024x512 .f32) (ix2 r l) := by
    intro r l
    rw [read3, ← hG, projArray_apply]
    exact out_eq m c t r l
  generalize (outsAt0 m c t.val t.isLt).1 = O at key ⊢
  funext y
  have hy : (y : S1024x512.Idx) = ix2 (y 0) (y 1) := by funext k; fin_cases k <;> rfl
  rw [hy]
  exact key (y 0) (y 1)

/-- The array at the end: the residual plus the product everywhere. -/
theorem array_eq : (dats m 0 c).arrAt 3 cfg0.N = projArray (V m c main_arg0) (V m c main_arg1) (V m c main_arg2) := by
  refine (dats m 0 c).arrAt_eq_of_cover 3 (projArray (V m c main_arg0) (V m c main_arg1) (V m c main_arg2))
    (fun t _ => flushed_eq m c t) (fun (i : S8192x4096.Idx) => ?_)
  have h0 : (i 0 : Nat) < 8192 := (i 0).isLt
  have h1 : (i 1 : Nat) < 4096 := (i 1).isLt
  let t : Fin cfg0.N := ⟨(i 1 : Nat) / 512 * 8 + (i 0 : Nat) / 1024, (by omega : _ < 64).trans_eq (show 64 = cfg0.N from N_0.symm)⟩
  have ht : t.val = (i 1 : Nat) / 512 * 8 + (i 0 : Nat) / 1024 := rfl
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [(idx3 t).1, ht]
    omega
  | ⟨1, _⟩ =>
    show win0_3.index t 1 * 512 ≤ (i 1 : Nat) ∧ (i 1 : Nat) < win0_3.index t 1 * 512 + 512
    rw [(idx3 t).2, ht]
    omega

end

/-- The reference: the residual plus the product with the layer's weights. -/
def refProj (A : FVec Ideal S8192x4096 .bf16) (W : FVec Ideal S4x4096x4096 .f32) (X : FVec Ideal S8192x4096 .f32) : FVec Ideal S8192x4096 .f32 :=
  addf X (Host.dotGeneral Cert.Reference5Ideal.dot_S8192x4096_S4096x4096_S8192x4096_1_0_0_1_n_n none (extf .f32 A bitsLt_bf16_f32 : FVec Ideal S8192x4096 .f32)
    (shapeCast Cert.Reference5Ideal.S4096x4096 (extractStridedSlice Cert.Reference5Ideal.S1x4096x4096 ![0, 0, 0] W Cert.Reference5Ideal.Facts₀.slices_S4x4096x4096_S1x4096x4096_0_0_0 : FVec Ideal Cert.Reference5Ideal.S1x4096x4096 .f32)
      Cert.Reference5Ideal.Facts₀.shapeCasts_S1x4096x4096_S4096x4096 : FVec Ideal Cert.Reference5Ideal.S4096x4096 .f32))

theorem refProj_apply (A : FVec Ideal S8192x4096 .bf16) (W : FVec Ideal S4x4096x4096 .f32) (X : FVec Ideal S8192x4096 .f32) (row : Fin 8192) (col : Fin 4096) :
    refProj A W X (ix2 row col) = (X (ix2 row col) : EReal) + ∑ k : Fin 4096, (A (ix2 row k) : EReal) * W (ix3 0 k col) := by
  unfold refProj
  pointwise [Cert.Reference5Ideal.dot_S8192x4096_S4096x4096_S8192x4096_1_0_0_1_n_n]

/-- What the kernel leaves is the reference of the arguments. -/
theorem result_eq (m : (ℓ : Loc nD τ sig) → Buf (Elt Ideal) ℓ) (c : Dev nD) (A : FVec Ideal S8192x4096 .bf16) (W : FVec Ideal S4x4096x4096 .f32) (X : FVec Ideal S8192x4096 .f32)
    (hA : m ((c.tc : Thread nD τ).loc main_arg0) = A) (hW : m ((c.tc : Thread nD τ).loc main_arg1) = W) (hX : m ((c.tc : Thread nD τ).loc main_arg2) = X) :
    (dats m 0 c).arrAt 3 cfg0.N = refProj A W X := by
  subst hA hW hX
  rw [array_eq m c, V_main_arg0, V_main_arg1, V_main_arg2]
  refine funext fun (y : S8192x4096.Idx) => ?_
  obtain ⟨row, col, rfl⟩ : ∃ (row : Fin 8192) (col : Fin 4096), y = ix2 row col := ⟨y 0, y 1, by funext k; fin_cases k <;> rfl⟩
  exact (projArray_apply _ _ _ row col).trans (refProj_apply _ _ _ row col).symm

end Cert.OutProj

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Pre_finite_gains
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference7Ideal.Run
public import proofs.«01_k».proof.Proof.DownClaim
public import proofs.«01_k».proof.Proof.GateClaim
public import proofs.«01_k».proof.Proof.Equation
public import proofs.«01_k».proof.Proof.Gateup
public import proofs.«01_k».proof.Proof.Down
public import proofs.«01_k».proof.Proof.InProj
public import proofs.«01_k».proof.Proof.OutProj
public import Idealize.ShloMosaic.Lib.ReduceAll

@[expose] public section

noncomputable section

namespace Cert.Proof

open Idealize.ShloMosaic Idealize.ShloMosaic.TcCoe Idealize.SL.Sem

/-- The reference's frame, with any post that its run gives. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩) (Cert.ReferenceIdeal.Value.run (F := Ideal) m g)

/-- An extended real whose absolute value is below infinity is a real number. -/
theorem real_of_abs_lt (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  have ht : Ideal.ofBits .f32 0x7F800000#32 = (⊤ : EReal) := by simp [Ideal.ofBits, Ideal.ieee]
  rw [ht] at h
  have hlt : FloatOps.absf (F := Ideal) (φ := .f32) x < (⊤ : EReal) := by
    have h' : BitVec.ofBool (decide (FloatOps.absf (F := Ideal) (φ := .f32) x < (⊤ : EReal))) = 1#1 := h
    by_contra hn
    rw [decide_eq_false hn] at h'
    exact absurd h' (by decide)
  induction x using EReal.rec with
  | coe r => exact ⟨r, rfl⟩
  | bot => exact absurd hlt (by simp [FloatOps.absf])
  | top => exact absurd hlt (by simp [FloatOps.absf])

/-- The precondition says that the gains are real numbers. -/
theorem gains_real (X : FVec Ideal Cert.Pre_finite_gains.S8192x9216 .f32) (gq gk : FVec Ideal Cert.Pre_finite_gains.S128 .f32)
    (h : Cert.Pre_finite_gains.fn (F := Ideal) X gq gk = fun _ => 1#1) :
    (∀ d, ∃ r : ℝ, gq (ix1 d) = (r : EReal)) ∧ ∀ d, ∃ r : ℝ, gk (ix1 d) = (r : EReal) := by
  have h0 := congrFun h ix0
  dsimp only [Cert.Pre_finite_gains.fn] at h0
  have h1 := IntOp.andi_eq_one.1 h0
  exact ⟨fun d => real_of_abs_lt _ (Host.reduce_andi_all _ _ _ _ _ h1.1 (ix1 d)), fun d => real_of_abs_lt _ (Host.reduce_andi_all _ _ _ _ _ h1.2 (ix1 d))⟩

/-- The kernel's result is the reference's. -/
theorem algebraic : Cert.algebraic_KernelIdeal_ReferenceIdeal_pre_finite_gains := by
  intro m g m' g' hpre hargs
  refine ⟨_, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨a0, a1, a2⟩ := hargs c
  obtain ⟨hq, hk⟩ := gains_real _ _ _ (hpre c)
  rw [Cert.MixerB.result_eq m c _ _ _ a0.symm a1.symm a2.symm (by rw [a1]; exact hq) (by rw [a2]; exact hk)]
  rfl

/-- The gated product: its reference's frame -/
theorem reference2_frame : Cert.quiescent_Reference2Ideal := fun m g _ =>
  (θ_run Cert.Reference2Ideal.defs _ _).mono (fun r h => ⟨fun c => (h c).2, sem_eq_zero_of_no_sems (by decide) r.2⟩) (Cert.Reference2Ideal.Value.run (F := Ideal) m g)

/-- and its equation: the kernel's result is the reference's. -/
theorem algebraic2 : Cert.algebraic_Kernel2Ideal_Reference2Ideal := by
  intro m g m' g' _ hargs
  refine ⟨_, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨a0, a1, a2⟩ := hargs c
  rw [Cert.Gateup.result_eq m c _ _ _ a0.symm a1.symm a2.symm]
  rfl

/-- The down projection: its reference's frame -/
theorem reference3_frame : Cert.quiescent_Reference3Ideal := fun m g _ =>
  (θ_run Cert.Reference3Ideal.defs _ _).mono (fun r h => ⟨fun c => (h c).2, sem_eq_zero_of_no_sems (by decide) r.2⟩) (Cert.Reference3Ideal.Value.run (F := Ideal) m g)

/-- and its equation: the kernel's result is the reference's. -/
theorem algebraic3 : Cert.algebraic_Kernel3Ideal_Reference3Ideal := by
  intro m g m' g' _ hargs
  refine ⟨_, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨a0, a1, a2⟩ := hargs c
  rw [Cert.Down.result_eq m c _ _ _ a0.symm a1.symm a2.symm]
  rfl

/-- The input projection: its reference's frame -/
theorem reference4_frame : Cert.quiescent_Reference4Ideal := fun m g _ =>
  (θ_run Cert.Reference4Ideal.defs _ _).mono (fun r h => ⟨fun c => (h c).2, sem_eq_zero_of_no_sems (by decide) r.2⟩) (Cert.Reference4Ideal.Value.run (F := Ideal) m g)

/-- and its equation: the kernel's result is the reference's. -/
theorem algebraic4 : Cert.algebraic_Kernel4Ideal_Reference4Ideal := by
  intro m g m' g' _ hargs
  refine ⟨_, Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  obtain ⟨a0, a1⟩ := hargs c
  rw [Cert.InProj.result_eq m c _ _ a0.symm a1.symm]
  rfl

/-- The output projection: its reference's frame -/
theorem reference5_frame : Cert.quiescent_Reference5Ideal := fun m g _ =>
  (θ_run Cert.Reference5Ideal.defs _ _).mono (fun r h => ⟨fun c => (h c).2, sem_eq_zero_of_no_sems (by decide) r.2⟩) (Cert.Reference5Ideal.Value.run (F := Ideal) m g)

/-- and its equation: the kernel's result is the reference's. -/
theorem algebraic5 : Cert.algebraic_Kernel5Ideal_Reference5Ideal := by
  intro m g m' g' _ hargs
  refine ⟨_, Cert.Kernel5Ideal.Value.run_blocks m g, ?_⟩
  refine (θ_run Cert.Reference5Ideal.defs _ _).mono (fun r h c => ⟨(h c).1.trans ?_, (h c).2⟩) (Cert.Reference5Ideal.Value.run (F := Ideal) m' g')
  obtain ⟨a0, a1, a2⟩ := hargs c
  rw [Cert.OutProj.result_eq m c _ _ _ a0.symm a1.symm a2.symm]
  rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite_gains.Gen.facts, Cert.Pre_experts6.Gen.facts, Cert.Pre_experts7.Gen.facts,
    fun m g _ => Cert.Kernel.Gen.frame m g, fun m g _ => Cert.KernelIdeal.Gen.frame m g, fun m g _ => Cert.KernelIdeal.Gen.frame m g,
    fun m g _ => reference_frame m g, fun m g _ => reference_frame m g,
    fun m g _ => Cert.Kernel2.Gen.frame m g, fun m g _ => Cert.Kernel2Ideal.Gen.frame m g, reference2_frame,
    fun m g _ => Cert.Kernel3.Gen.frame m g, fun m g _ => Cert.Kernel3Ideal.Gen.frame m g, reference3_frame,
    fun m g _ => Cert.Kernel4.Gen.frame m g, fun m g _ => Cert.Kernel4Ideal.Gen.frame m g, reference4_frame,
    fun m g _ => Cert.Kernel5.Gen.frame m g, fun m g _ => Cert.Kernel5Ideal.Gen.frame m g, reference5_frame,
    Cert.ExpertGate.frame6, Cert.ExpertGate.frame6_ideal, Cert.ExpertGate.reference6_frame,
    Cert.ExpertDown.frame7, Cert.ExpertDown.frame7_ideal, Cert.ExpertDown.reference7_frame,
    IdealRules.named_const.statement Cert.KernelIdeal.κ "scale_log2e" .f32 0x3E0293EE#32 (((11863283 / 134217728) * (Real.log 2)⁻¹ : ℝ) : EReal) rfl,
    algebraic, trivial, algebraic2, trivial, algebraic3, trivial, algebraic4, trivial, algebraic5, trivial, Cert.ExpertGate.algebraic6, trivial, Cert.ExpertDown.algebraic7⟩

end Cert.Proof

end
